-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "exit" .f32 0xC2DC0000#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)) (v3 : (c : Dev Cert.Kernel2Ideal.nD) → Buf (Elt Ideal) ((c.tc : Thread Cert.Kernel2Ideal.nD Cert.Kernel2Ideal.τ).loc Cert.Kernel2Ideal.main_v10_3)) (v4 : (c : Dev Cert.Kernel2Ideal.nD) → Buf (Elt Ideal) ((c.tc : Thread Cert.Kernel2Ideal.nD Cert.Kernel2Ideal.τ).loc Cert.Kernel2Ideal.main_v10_4)) (v5 : (c : Dev Cert.Kernel2Ideal.nD) → Buf (Elt Ideal) ((c.tc : Thread Cert.Kernel2Ideal.nD Cert.Kernel2Ideal.τ).loc Cert.Kernel2Ideal.main_v10_5)) (v6 : (c : Dev Cert.Kernel2Ideal.nD) → Buf (Elt Ideal) ((c.tc : Thread Cert.Kernel2Ideal.nD Cert.Kernel2Ideal.τ).loc Cert.Kernel2Ideal.main_v10_6)) (v7 : (c : Dev Cert.Kernel2Ideal.nD) → Buf (Elt Ideal) ((c.tc : Thread Cert.Kernel2Ideal.nD Cert.Kernel2Ideal.τ).loc Cert.Kernel2Ideal.main_v10_7)) (v8 : (c : Dev Cert.Kernel2Ideal.nD) → Buf (Elt Ideal) ((c.tc : Thread Cert.Kernel2Ideal.nD Cert.Kernel2Ideal.τ).loc Cert.Kernel2Ideal.main_v10_8)) (v9 : (c : Dev Cert.Kernel2Ideal.nD) → Buf (Elt Ideal) ((c.tc : Thread Cert.Kernel2Ideal.nD Cert.Kernel2Ideal.τ).loc Cert.Kernel2Ideal.main_v10_9)) (v10 : (c : Dev Cert.Kernel2Ideal.nD) → Buf (Elt Ideal) ((c.tc : Thread Cert.Kernel2Ideal.nD Cert.Kernel2Ideal.τ).loc Cert.Kernel2Ideal.main_v10_10)) (v11 : (c : Dev Cert.Kernel2Ideal.nD) → Buf (Elt Ideal) ((c.tc : Thread Cert.Kernel2Ideal.nD Cert.Kernel2Ideal.τ).loc Cert.Kernel2Ideal.main_v10_11)) (v12 : (c : Dev Cert.Kernel2Ideal.nD) → Buf (Elt Ideal) ((c.tc : Thread Cert.Kernel2Ideal.nD Cert.Kernel2Ideal.τ).loc Cert.Kernel2Ideal.main_v10_12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_v10_3) = v3 c
          ∧ r.2.mem ((c.tc : Thread Cert.Kernel2Ideal.nD Cert.Kernel2Ideal.τ).loc Cert.Kernel2Ideal.main_v10_4) = v4 c
          ∧ r.2.mem ((c.tc : Thread Cert.Kernel2Ideal.nD Cert.Kernel2Ideal.τ).loc Cert.Kernel2Ideal.main_v10_5) = v5 c
          ∧ r.2.mem ((c.tc : Thread Cert.Kernel2Ideal.nD Cert.Kernel2Ideal.τ).loc Cert.Kernel2Ideal.main_v10_6) = v6 c
          ∧ r.2.mem ((c.tc : Thread Cert.Kernel2Ideal.nD Cert.Kernel2Ideal.τ).loc Cert.Kernel2Ideal.main_v10_7) = v7 c
          ∧ r.2.mem ((c.tc : Thread Cert.Kernel2Ideal.nD Cert.Kernel2Ideal.τ).loc Cert.Kernel2Ideal.main_v10_8) = v8 c
          ∧ r.2.mem ((c.tc : Thread Cert.Kernel2Ideal.nD Cert.Kernel2Ideal.τ).loc Cert.Kernel2Ideal.main_v10_9) = v9 c
          ∧ r.2.mem ((c.tc : Thread Cert.Kernel2Ideal.nD Cert.Kernel2Ideal.τ).loc Cert.Kernel2Ideal.main_v10_10) = v10 c
          ∧ r.2.mem ((c.tc : Thread Cert.Kernel2Ideal.nD Cert.Kernel2Ideal.τ).loc Cert.Kernel2Ideal.main_v10_11) = v11 c
          ∧ r.2.mem ((c.tc : Thread Cert.Kernel2Ideal.nD Cert.Kernel2Ideal.τ).loc Cert.Kernel2Ideal.main_v10_12) = v12 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_v51) = v2 c
          ∧ r.2.mem ((c.tc : Thread Cert.Reference2Ideal.nD Cert.Reference2Ideal.τ).loc Cert.Reference2Ideal.main_v58) = v3 c
          ∧ r.2.mem ((c.tc : Thread Cert.Reference2Ideal.nD Cert.Reference2Ideal.τ).loc Cert.Reference2Ideal.main_v61) = v4 c
          ∧ r.2.mem ((c.tc : Thread Cert.Reference2Ideal.nD Cert.Reference2Ideal.τ).loc Cert.Reference2Ideal.main_v64) = v5 c
          ∧ r.2.mem ((c.tc : Thread Cert.Reference2Ideal.nD Cert.Reference2Ideal.τ).loc Cert.Reference2Ideal.main_v67) = v6 c
          ∧ r.2.mem ((c.tc : Thread Cert.Reference2Ideal.nD Cert.Reference2Ideal.τ).loc Cert.Reference2Ideal.main_v69) = v7 c
          ∧ r.2.mem ((c.tc : Thread Cert.Reference2Ideal.nD Cert.Reference2Ideal.τ).loc Cert.Reference2Ideal.main_v70) = v8 c
          ∧ r.2.mem ((c.tc : Thread Cert.Reference2Ideal.nD Cert.Reference2Ideal.τ).loc Cert.Reference2Ideal.main_v73) = v9 c
          ∧ r.2.mem ((c.tc : Thread Cert.Reference2Ideal.nD Cert.Reference2Ideal.τ).loc Cert.Reference2Ideal.main_v76) = v10 c
          ∧ r.2.mem ((c.tc : Thread Cert.Reference2Ideal.nD Cert.Reference2Ideal.τ).loc Cert.Reference2Ideal.main_v25) = v11 c
          ∧ r.2.mem ((c.tc : Thread Cert.Reference2Ideal.nD Cert.Reference2Ideal.τ).loc Cert.Reference2Ideal.main_v77) = v12 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_v20) = v2 c
          ∧ r.2.mem ((c.tc : Thread Cert.Reference5Ideal.nD Cert.Reference5Ideal.τ).loc Cert.Reference5Ideal.main_v21) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)) (v2 : (c : Dev Cert.Kernel6Ideal.nD) → Buf (Elt Ideal) ((c.tc : Thread Cert.Kernel6Ideal.nD Cert.Kernel6Ideal.τ).loc Cert.Kernel6Ideal.main_v10_2)) (v3 : (c : Dev Cert.Kernel6Ideal.nD) → Buf (Elt Ideal) ((c.tc : Thread Cert.Kernel6Ideal.nD Cert.Kernel6Ideal.τ).loc Cert.Kernel6Ideal.main_v10_3)) (v4 : (c : Dev Cert.Kernel6Ideal.nD) → Buf (Elt Ideal) ((c.tc : Thread Cert.Kernel6Ideal.nD Cert.Kernel6Ideal.τ).loc Cert.Kernel6Ideal.main_v10_4)) (v5 : (c : Dev Cert.Kernel6Ideal.nD) → Buf (Elt Ideal) ((c.tc : Thread Cert.Kernel6Ideal.nD Cert.Kernel6Ideal.τ).loc Cert.Kernel6Ideal.main_v10_5)) (v6 : (c : Dev Cert.Kernel6Ideal.nD) → Buf (Elt Ideal) ((c.tc : Thread Cert.Kernel6Ideal.nD Cert.Kernel6Ideal.τ).loc Cert.Kernel6Ideal.main_v10_6)) (v7 : (c : Dev Cert.Kernel6Ideal.nD) → Buf (Elt Ideal) ((c.tc : Thread Cert.Kernel6Ideal.nD Cert.Kernel6Ideal.τ).loc Cert.Kernel6Ideal.main_v10_7)) (v8 : (c : Dev Cert.Kernel6Ideal.nD) → Buf (Elt Ideal) ((c.tc : Thread Cert.Kernel6Ideal.nD Cert.Kernel6Ideal.τ).loc Cert.Kernel6Ideal.main_v10_8)) (v9 : (c : Dev Cert.Kernel6Ideal.nD) → Buf (Elt Ideal) ((c.tc : Thread Cert.Kernel6Ideal.nD Cert.Kernel6Ideal.τ).loc Cert.Kernel6Ideal.main_v10_9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_v10_2) = v2 c
          ∧ r.2.mem ((c.tc : Thread Cert.Kernel6Ideal.nD Cert.Kernel6Ideal.τ).loc Cert.Kernel6Ideal.main_v10_3) = v3 c
          ∧ r.2.mem ((c.tc : Thread Cert.Kernel6Ideal.nD Cert.Kernel6Ideal.τ).loc Cert.Kernel6Ideal.main_v10_4) = v4 c
          ∧ r.2.mem ((c.tc : Thread Cert.Kernel6Ideal.nD Cert.Kernel6Ideal.τ).loc Cert.Kernel6Ideal.main_v10_5) = v5 c
          ∧ r.2.mem ((c.tc : Thread Cert.Kernel6Ideal.nD Cert.Kernel6Ideal.τ).loc Cert.Kernel6Ideal.main_v10_6) = v6 c
          ∧ r.2.mem ((c.tc : Thread Cert.Kernel6Ideal.nD Cert.Kernel6Ideal.τ).loc Cert.Kernel6Ideal.main_v10_7) = v7 c
          ∧ r.2.mem ((c.tc : Thread Cert.Kernel6Ideal.nD Cert.Kernel6Ideal.τ).loc Cert.Kernel6Ideal.main_v10_8) = v8 c
          ∧ r.2.mem ((c.tc : Thread Cert.Kernel6Ideal.nD Cert.Kernel6Ideal.τ).loc Cert.Kernel6Ideal.main_v10_9) = v9 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v27) = v0 c
          ∧ r.2.mem ((c.tc : Thread Cert.Reference6Ideal.nD Cert.Reference6Ideal.τ).loc Cert.Reference6Ideal.main_v29) = v1 c
          ∧ r.2.mem ((c.tc : Thread Cert.Reference6Ideal.nD Cert.Reference6Ideal.τ).loc Cert.Reference6Ideal.main_v31) = v2 c
          ∧ r.2.mem ((c.tc : Thread Cert.Reference6Ideal.nD Cert.Reference6Ideal.τ).loc Cert.Reference6Ideal.main_v33) = v3 c
          ∧ r.2.mem ((c.tc : Thread Cert.Reference6Ideal.nD Cert.Reference6Ideal.τ).loc Cert.Reference6Ideal.main_v19) = v4 c
          ∧ r.2.mem ((c.tc : Thread Cert.Reference6Ideal.nD Cert.Reference6Ideal.τ).loc Cert.Reference6Ideal.main_v20) = v5 c
          ∧ r.2.mem ((c.tc : Thread Cert.Reference6Ideal.nD Cert.Reference6Ideal.τ).loc Cert.Reference6Ideal.main_v36) = v6 c
          ∧ r.2.mem ((c.tc : Thread Cert.Reference6Ideal.nD Cert.Reference6Ideal.τ).loc Cert.Reference6Ideal.main_v18) = v7 c
          ∧ r.2.mem ((c.tc : Thread Cert.Reference6Ideal.nD Cert.Reference6Ideal.τ).loc Cert.Reference6Ideal.main_v39) = v8 c
          ∧ r.2.mem ((c.tc : Thread Cert.Reference6Ideal.nD Cert.Reference6Ideal.τ).loc Cert.Reference6Ideal.main_v25) = v9 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_scores.lean ====
abbrev S16384x384 : Shape := ⟨2, ![16384, 384]⟩
abbrev S64x384x256 : Shape := ⟨3, ![64, 384, 256]⟩
abbrev S16384x1024 : Shape := ⟨2, ![16384, 1024]⟩
abbrev S_ : Shape := ⟨0, ![]⟩

class Facts : Prop where
  bitsLt_bf16_f32 : FTy.bits .bf16 < FTy.bits .f32
  bcast_S_S16384x384 : S_.BroadcastsInDim S16384x384 (![] : Fin 0 → Fin S16384x384.rank)
  reducesTo_S16384x384_S_d0_1 : S16384x384.ReducesTo [0, 1] S_
  h_S_ : 0 < S_.numel
  bcast_S_S64x384x256 : S_.BroadcastsInDim S64x384x256 (![] : Fin 0 → Fin S64x384x256.rank)
  reducesTo_S64x384x256_S_d0_1_2 : S64x384x256.ReducesTo [0, 1, 2] S_

variable [Facts]

def fn {F : FTy → Type} [FloatOps F] (main_arg0 : FVec F S16384x384 .bf16) (main_arg1 : FVec F S64x384x256 .bf16) (main_arg2 : FVec F S64x384x256 .bf16) (main_arg3 : FVec F S16384x1024 .f32) : IVec S_ 1 :=
  let main_v0 : FVec F S16384x384 .f32 := (extf .f32 · bitsLt_bf16_f32) main_arg0
  let main_v1 : FVec F S16384x384 .f32 := Host.absf main_v0
  let main_cst : FVec F S_ .f32 := constant S_ .f32 0x7F800000#32
  let main_v2 : FVec F S16384x384 .f32 := broadcastInDim S16384x384 ![] bcast_S_S16384x384 main_cst
  let main_v3 : IVec S16384x384 1 := cmpf .olt main_v1 main_v2
  let main_c : IVec S_ 1 := constantI S_ 1 1#1
  let main_v4 : IVec S_ 1 := (fun x v => Host.reduce IntOp.andi x v reducesTo_S16384x384_S_d0_1 h_S_) main_v3 main_c
  let main_v5 : FVec F S64x384x256 .f32 := (extf .f32 · bitsLt_bf16_f32) main_arg1
  let main_v6 : FVec F S64x384x256 .f32 := Host.absf main_v5
  let main_cst_0 : FVec F S_ .f32 := constant S_ .f32 0x7F800000#32
  let main_v7 : FVec F S64x384x256 .f32 := broadcastInDim S64x384x256 ![] bcast_S_S64x384x256 main_cst_0
  let main_v8 : IVec S64x384x256 1 := cmpf .olt main_v6 main_v7
  let main_c_1 : IVec S_ 1 := constantI S_ 1 1#1
  let main_v9 : IVec S_ 1 := (fun x v => Host.reduce IntOp.andi x v reducesTo_S64x384x256_S_d0_1_2 h_S_) main_v8 main_c_1
  let main_v10 : IVec S_ 1 := andi main_v4 main_v9
  main_v10
-- ==== Kernel.lean ====
abbrev S16384x384 : Shape := ⟨2, ![16384, 384]⟩
abbrev S64x384x256 : Shape := ⟨3, ![64, 384, 256]⟩
abbrev S16384x1024 : Shape := ⟨2, ![16384, 1024]⟩
abbrev S256x256 : Shape := ⟨2, ![256, 256]⟩
abbrev S_ : Shape := ⟨0, ![]⟩
abbrev S2x8192x384 : Shape := ⟨3, ![2, 8192, 384]⟩
abbrev S2x32x384x256 : Shape := ⟨4, ![2, 32, 384, 256]⟩
abbrev S2x8192x1024 : Shape := ⟨3, ![2, 8192, 1024]⟩
abbrev S2x256x128 : Shape := ⟨3, ![2, 256, 128]⟩
abbrev S2x32x128x256 : Shape := ⟨4, ![2, 32, 128, 256]⟩
abbrev S256x128 : Shape := ⟨2, ![256, 128]⟩
abbrev S1x256x128 : Shape := ⟨3, ![1, 256, 128]⟩
abbrev S256x1 : Shape := ⟨2, ![256, 1]⟩
abbrev S1x1x128x256 : Shape := ⟨4, ![1, 1, 128, 256]⟩
abbrev S128x256 : Shape := ⟨2, ![128, 256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 18
  | .vmem => 11
  | .smem => 0
  | _ => 0

abbrev bufTy : (tb : Table) → Fin (tcTables nBuf tb) → BufTy
  | .hbm, ⟨0, _⟩ => ⟨S16384x384, .bf16⟩
  | .hbm, ⟨1, _⟩ => ⟨S64x384x256, .bf16⟩
  | .hbm, ⟨2, _⟩ => ⟨S64x384x256, .bf16⟩
  | .hbm, ⟨3, _⟩ => ⟨S16384x1024, .f32⟩
  | .hbm, ⟨4, _⟩ => ⟨S256x256, .i32⟩
  | .hbm, ⟨5, _⟩ => ⟨S256x256, .i32⟩
  | .hbm, ⟨6, _⟩ => ⟨S256x256, .i1⟩
  | .hbm, ⟨7, _⟩ => ⟨S_, .f32⟩
  | .hbm, ⟨8, _⟩ => ⟨S256x256, .f32⟩
  | .hbm, ⟨9, _⟩ => ⟨S_, .f32⟩
  | .hbm, ⟨10, _⟩ => ⟨S256x256, .f32⟩
  | .hbm, ⟨11, _⟩ => ⟨S256x256, .f32⟩
  | .hbm, ⟨12, _⟩ => ⟨S256x256, .bf16⟩
  | .hbm, ⟨13, _⟩ => ⟨S2x8192x384, .bf16⟩
  | .hbm, ⟨14, _⟩ => ⟨S2x32x384x256, .bf16⟩
  | .hbm, ⟨15, _⟩ => ⟨S2x32x384x256, .bf16⟩
  | .hbm, ⟨16, _⟩ => ⟨S2x8192x1024, .f32⟩
  | .hbm, ⟨17, _⟩ => ⟨S2x8192x384, .bf16⟩
  | .local _ .vmem, ⟨0, _⟩ => ⟨S2x256x128, .bf16⟩
  | .local _ .vmem, ⟨1, _⟩ => ⟨S2x256x128, .bf16⟩
  | .local _ .vmem, ⟨2, _⟩ => ⟨S2x32x128x256, .bf16⟩
  | .local _ .vmem, ⟨3, _⟩ => ⟨S2x32x128x256, .bf16⟩
  | .local _ .vmem, ⟨4, _⟩ => ⟨S2x32x128x256, .bf16⟩
  | .local _ .vmem, ⟨5, _⟩ => ⟨S2x32x128x256, .bf16⟩
  | .local _ .vmem, ⟨6, _⟩ => ⟨S256x256, .bf16⟩
  | .local _ .vmem, ⟨7, _⟩ => ⟨S2x256x128, .f32⟩
  | .local _ .vmem, ⟨8, _⟩ => ⟨S2x256x128, .f32⟩
  | .local _ .vmem, ⟨9, _⟩ => ⟨S2x256x128, .bf16⟩
  | .local _ .vmem, ⟨10, _⟩ => ⟨S2x256x128, .bf16⟩
  | _, _ => ⟨S16384x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![3, 32], ![false, false]⟩

def k0_cond1 (i : grid0.Coords) : BitVec 1 :=
  let arg1 : BitVec 32 := BitVec.ofNat 32 (i 1).val
  let c0_i32 : BitVec 32 := 0#32
  let v27 : BitVec 1 := Scalar.cmpi .sgt arg1 c0_i32
  let v28 : BitVec 32 := Scalar.extui v27
  let c0_i32_16 : BitVec 32 := 0#32
  let v29 : BitVec 1 := Scalar.cmpi .ne v28 c0_i32_16
  v29

def k0_off1 (i : grid0.Coords) : Fin 4 → Nat :=
  let c0_30 : Index := 0#32
  let arg1 : BitVec 32 := BitVec.ofNat 32 (i 1).val
  let v57 : Index := Scalar.indexCast arg1
  let c0_31 : Index := 0#32
  let c0_32 : Index := 0#32
  ![0, v57.toNat, 0, 0]
def k0_off2 (i : grid0.Coords) : Fin 4 → Nat :=
  let c1_36 : Index := 1#32
  let arg1 : BitVec 32 := BitVec.ofNat 32 (i 1).val
  let v63 : Index := Scalar.indexCast arg1
  let c0_37 : Index := 0#32
  let c0_38 : Index := 0#32
  ![1, v63.toNat, 0, 0]
def k0_off3 (i : grid0.Coords) : Fin 4 → Nat :=
  let c0_42 : Index := 0#32
  let arg1 : BitVec 32 := BitVec.ofNat 32 (i 1).val
  let c1_i32 : BitVec 32 := 1#32
  let v56 : BitVec 32 := Scalar.subi arg1 c1_i32
  let v69 : Index := Scalar.indexCast v56
  let c0_43 : Index := 0#32
  let c0_44 : Index := 0#32
  ![0, v69.toNat, 0, 0]
def k0_off4 (i : grid0.Coords) : Fin 4 → Nat :=
  let c1_48 : Index := 1#32
  let arg1 : BitVec 32 := BitVec.ofNat 32 (i 1).val
  let c1_i32 : BitVec 32 := 1#32
  let v56 : BitVec 32 := Scalar.subi arg1 c1_i32
  let v75 : Index := Scalar.indexCast v56
  let c0_49 : Index := 0#32
  let c0_50 : Index := 0#32
  ![1, v75.toNat, 0, 0]
def k0_off5 (i : grid0.Coords) : Fin 4 → Nat :=
  let c0_30 : Index := 0#32
  let arg1 : BitVec 32 := BitVec.ofNat 32 (i 1).val
  let v56 : Index := Scalar.indexCast arg1
  let c0_31 : Index := 0#32
  let c0_32 : Index := 0#32
  ![0, v56.toNat, 0, 0]
def k0_off6 (i : grid0.Coords) : Fin 4 → Nat :=
  let c1_36 : Index := 1#32
  let arg1 : BitVec 32 := BitVec.ofNat 32 (i 1).val
  let v62 : Index := Scalar.indexCast arg1
  let c0_37 : Index := 0#32
  let c0_38 : Index := 0#32
  ![1, v62.toNat, 0, 0]
def k0_off7 (arg8 : BitVec 32) : Fin 4 → Nat :=
  let c0_30 : Index := 0#32
  let v56 : Index := Scalar.indexCast arg8
  let c0_31 : Index := 0#32
  let c0_32 : Index := 0#32
  ![0, v56.toNat, 0, 0]

def k0_off8 (arg8 : BitVec 32) : Fin 4 → Nat :=
  let c1_36 : Index := 1#32
  let v62 : Index := Scalar.indexCast arg8
  let c0_37 : Index := 0#32
  let c0_38 : Index := 0#32
  ![1, v62.toNat, 0, 0]

def k0_chk1 (arg8 : BitVec 32) : Prop :=
  (∀ a, (k0_off7 arg8) a + S1x1x128x256.size a ≤ S2x32x128x256.size a) ∧
  (∀ a, (k0_off8 arg8) a + S1x1x128x256.size a ≤ S2x32x128x256.size a)
theorem k0_off7_inb : ∀ (arg8 : BitVec 32) (k0_hw1 : k0_chk1 arg8), ∀ a, (k0_off7 arg8) a + S1x1x128x256.size a ≤ S2x32x128x256.size a := fun arg8 k0_hw1 => k0_hw1.1
theorem k0_off8_inb : ∀ (arg8 : BitVec 32) (k0_hw1 : k0_chk1 arg8), ∀ a, (k0_off8 arg8) a + S1x1x128x256.size a ≤ S2x32x128x256.size a := fun arg8 k0_hw1 => k0_hw1.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S2x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x32x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x32x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "exit" => some ⊥
  | _ => none
-- ==== ReferenceIdeal.lean ====
abbrev S16384x384 : Shape := ⟨2, ![16384, 384]⟩
abbrev S64x384x256 : Shape := ⟨3, ![64, 384, 256]⟩
abbrev S16384x1024 : Shape := ⟨2, ![16384, 1024]⟩
abbrev S2x8192x6x64 : Shape := ⟨4, ![2, 8192, 6, 64]⟩
abbrev S2x32x6x64x256 : Shape := ⟨5, ![2, 32, 6, 64, 256]⟩
abbrev S2x32x256x6x64 : Shape := ⟨5, ![2, 32, 256, 6, 64]⟩
abbrev S2x6x8192x8192 : Shape := ⟨4, ![2, 6, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x6x64x8192 : Shape := ⟨4, ![2, 6, 64, 8192]⟩
abbrev S2x8192x384 : Shape := ⟨3, ![2, 8192, 384]⟩
abbrev S2x8192x1024 : Shape := ⟨3, ![2, 8192, 1024]⟩

abbrev nBuf : Space → Nat
  | .hbm => 77
  | .vmem => 0
  | .smem => 0
  | _ => 0

abbrev bufTy : (tb : Table) → Fin (tcTables nBuf tb) → BufTy
  | .hbm, ⟨0, _⟩ => ⟨S16384x384, .bf16⟩
  | .hbm, ⟨1, _⟩ => ⟨S64x384x256, .bf16⟩
  | .hbm, ⟨2, _⟩ => ⟨S64x384x256, .bf16⟩
  | .hbm, ⟨3, _⟩ => ⟨S16384x1024, .f32⟩
  | .hbm, ⟨4, _⟩ => ⟨S16384x384, .f32⟩
  | .hbm, ⟨5, _⟩ => ⟨S2x8192x6x64, .f32⟩
  | .hbm, ⟨6, _⟩ => ⟨S64x384x256, .f32⟩
  | .hbm, ⟨7, _⟩ => ⟨S2x32x6x64x256, .f32⟩
  | .hbm, ⟨8, _⟩ => ⟨S2x32x256x6x64, .f32⟩
  | .hbm, ⟨9, _⟩ => ⟨S2x8192x6x64, .f32⟩
  | .hbm, ⟨10, _⟩ => ⟨S64x384x256, .f32⟩
  | .hbm, ⟨11, _⟩ => ⟨S2x32x6x64x256, .f32⟩
  | .hbm, ⟨12, _⟩ => ⟨S2x32x256x6x64, .f32⟩
  | .hbm, ⟨13, _⟩ => ⟨S2x8192x6x64, .f32⟩
  | .hbm, ⟨14, _⟩ => ⟨S2x6x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S2x6x8192x8192, .f32⟩
  | .hbm, ⟨22, _⟩ => ⟨S2x6x8192x8192, .f32⟩
  | .hbm, ⟨23, _⟩ => ⟨S_, .f32⟩
  | .hbm, ⟨24, _⟩ => ⟨S2x6x8192x8192, .f32⟩
  | .hbm, ⟨25, _⟩ => ⟨S2x6x8192x8192, .f32⟩
  | .hbm, ⟨26, _⟩ => ⟨S2x6x8192x8192, .f32⟩
  | .hbm, ⟨27, _⟩ => ⟨S2x6x8192x8192, .f32⟩
  | .hbm, ⟨28, _⟩ => ⟨S2x6x8192x8192, .i1⟩
  | .hbm, ⟨29, _⟩ => ⟨S2x6x8192x8192, .f32⟩
  | .hbm, ⟨30, _⟩ => ⟨S2x6x8192x8192, .f32⟩
  | .hbm, ⟨31, _⟩ => ⟨S2x6x8192x8192, .f32⟩
  | .hbm, ⟨32, _⟩ => ⟨S2x6x8192x8192, .f32⟩
  | .hbm, ⟨33, _⟩ => ⟨S2x6x8192x8192, .f32⟩
  | .hbm, ⟨34, _⟩ => ⟨S2x6x8192x8192, .f32⟩
  | .hbm, ⟨35, _⟩ => ⟨S2x6x8192x8192, .f32⟩
  | .hbm, ⟨36, _⟩ => ⟨S2x6x8192x8192, .f32⟩
  | .hbm, ⟨37, _⟩ => ⟨S2x6x8192x8192, .f32⟩
  | .hbm, ⟨38, _⟩ => ⟨S_, .f32⟩
  | .hbm, ⟨39, _⟩ => ⟨S_, .f32⟩
  | .hbm, ⟨40, _⟩ => ⟨S2x6x8192x8192, .i1⟩
  | .hbm, ⟨41, _⟩ => ⟨S2x6x8192x8192, .f32⟩
  | .hbm, ⟨42, _⟩ => ⟨S2x6x8192x8192, .f32⟩
  | .hbm, ⟨43, _⟩ => ⟨S_, .f32⟩
  | .hbm, ⟨44, _⟩ => ⟨S_, .f32⟩
  | .hbm, ⟨45, _⟩ => ⟨S2x6x8192x8192, .f32⟩
  | .hbm, ⟨46, _⟩ => ⟨S2x6x8192x8192, .f32⟩
  | .hbm, ⟨47, _⟩ => ⟨S2x6x8192x8192, .f32⟩
  | .hbm, ⟨48, _⟩ => ⟨S_, .f32⟩
  | .hbm, ⟨49, _⟩ => ⟨S2x6x8192x8192, .f32⟩
  | .hbm, ⟨50, _⟩ => ⟨S2x6x8192x8192, .f32⟩
  | .hbm, ⟨51, _⟩ => ⟨S2x6x8192x8192, .f32⟩
  | .hbm, ⟨52, _⟩ => ⟨S2x6x8192x8192, .f32⟩
  | .hbm, ⟨53, _⟩ => ⟨S2x6x8192x8192, .i1⟩
  | .hbm, ⟨54, _⟩ => ⟨S2x6x8192x8192, .f32⟩
  | .hbm, ⟨55, _⟩ => ⟨S2x6x8192x8192, .f32⟩
  | .hbm, ⟨56, _⟩ => ⟨S2x6x8192x8192, .f32⟩
  | .hbm, ⟨57, _⟩ => ⟨S2x6x8192x8192, .f32⟩
  | .hbm, ⟨58, _⟩ => ⟨S2x6x8192x8192, .f32⟩
  | .hbm, ⟨59, _⟩ => ⟨S2x6x8192x8192, .f32⟩
  | .hbm, ⟨60, _⟩ => ⟨S2x6x8192x8192, .f32⟩
  | .hbm, ⟨61, _⟩ => ⟨S2x6x8192x8192, .f32⟩
  | .hbm, ⟨62, _⟩ => ⟨S2x6x8192x8192, .f32⟩
  | .hbm, ⟨63, _⟩ => ⟨S2x6x8192x8192, .f32⟩
  | .hbm, ⟨64, _⟩ => ⟨S2x6x8192x8192, .f32⟩
  | .hbm, ⟨65, _⟩ => ⟨S_, .f32⟩
  | .hbm, ⟨66, _⟩ => ⟨S_, .f32⟩
  | .hbm, ⟨67, _⟩ => ⟨S2x6x8192x8192, .i1⟩
  | .hbm, ⟨68, _⟩ => ⟨S2x6x8192x8192, .f32⟩
  | .hbm, ⟨69, _⟩ => ⟨S2x6x8192x8192, .f32⟩
  | .hbm, ⟨70, _⟩ => ⟨S2x6x64x8192, .f32⟩
  | .hbm, ⟨71, _⟩ => ⟨S2x8192x6x64, .f32⟩
  | .hbm, ⟨72, _⟩ => ⟨S2x8192x384, .f32⟩
  | .hbm, ⟨73, _⟩ => ⟨S2x8192x1024, .f32⟩
  | .hbm, ⟨74, _⟩ => ⟨S2x8192x384, .f32⟩
  | .hbm, ⟨75, _⟩ => ⟨S2x8192x384, .f32⟩
  | .hbm, ⟨76, _⟩ => ⟨S2x8192x384, .bf16⟩
  | _, _ => ⟨S16384x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v18 : Ref sig .tc := ⟨.hbm, 37, rfl⟩
abbrev main_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v19 : Ref sig .tc := ⟨.hbm, 42, rfl⟩
abbrev main_call2_cst : Ref sig .tc := ⟨.hbm, 43, rfl⟩
abbrev main_call2_v0 : Ref sig .tc := ⟨.hbm, 44, rfl⟩
abbrev main_v20 : Ref sig .tc := ⟨.hbm, 45, rfl⟩
abbrev main_v21 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_cst_0 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x3584 : Shape := ⟨2, ![1024, 3584]⟩
abbrev S2x2x384x8192 : Shape := ⟨4, ![2, 2, 384, 8192]⟩
abbrev S1024x384 : Shape := ⟨2, ![1024, 384]⟩
abbrev S1024x1920 : Shape := ⟨2, ![1024, 1920]⟩
abbrev S1920x1024 : Shape := ⟨2, ![1920, 1024]⟩
abbrev S1x1024 : Shape := ⟨2, ![1, 1024]⟩
abbrev S64x384x256 : Shape := ⟨3, ![64, 384, 256]⟩
abbrev S16384x384 : Shape := ⟨2, ![16384, 384]⟩
abbrev S16384x256 : Shape := ⟨2, ![16384, 256]⟩
abbrev S2x384x128 : Shape := ⟨3, ![2, 384, 128]⟩
abbrev S256x1024 : Shape := ⟨2, ![256, 1024]⟩
abbrev S1x1x384x256 : Shape := ⟨4, ![1, 1, 384, 256]⟩
abbrev S1x384x256 : Shape := ⟨3, ![1, 384, 256]⟩
abbrev S256x384 : Shape := ⟨2, ![256, 384]⟩
abbrev S256x256 : Shape := ⟨2, ![256, 256]⟩
abbrev S1x384x128 : Shape := ⟨3, ![1, 384, 128]⟩
abbrev S256 : Shape := ⟨1, ![256]⟩
abbrev S256x1 : Shape := ⟨2, ![256, 1]⟩
abbrev S384x1024 : Shape := ⟨2, ![384, 1024]⟩
abbrev S384x256 : Shape := ⟨2, ![384, 256]⟩
abbrev S384x128 : Shape := ⟨2, ![384, 128]⟩
abbrev S384 : Shape := ⟨1, ![384]⟩
abbrev S384x1 : Shape := ⟨2, ![384, 1]⟩
abbrev S1024x256 : Shape := ⟨2, ![1024, 256]⟩

abbrev nBuf : Space → Nat
  | .hbm => 30
  | .vmem => 31
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3584, .f32⟩
  | .hbm, ⟨3, _⟩ => ⟨S2x2x384x8192, .f32⟩
  | .hbm, ⟨4, _⟩ => ⟨S2x2x384x8192, .f32⟩
  | .hbm, ⟨5, _⟩ => ⟨S2x2x384x8192, .f32⟩
  | .hbm, ⟨6, _⟩ => ⟨S2x2x384x8192, .f32⟩
  | .hbm, ⟨7, _⟩ => ⟨S1024x3584, .bf16⟩
  | .hbm, ⟨8, _⟩ => ⟨S1024x384, .f32⟩
  | .hbm, ⟨9, _⟩ => ⟨S1024x384, .f32⟩
  | .hbm, ⟨10, _⟩ => ⟨S1024x384, .f32⟩
  | .hbm, ⟨11, _⟩ => ⟨S1024x384, .f32⟩
  | .hbm, ⟨12, _⟩ => ⟨S1024x384, .f32⟩
  | .hbm, ⟨13, _⟩ => ⟨S1024x1920, .f32⟩
  | .hbm, ⟨14, _⟩ => ⟨S1920x1024, .f32⟩
  | .hbm, ⟨15, _⟩ => ⟨S1920x1024, .bf16⟩
  | .hbm, ⟨16, _⟩ => ⟨S1x1024, .f32⟩
  | .hbm, ⟨17, _⟩ => ⟨S2x2x384x8192, .f32⟩
  | .hbm, ⟨18, _⟩ => ⟨S2x2x384x8192, .f32⟩
  | .hbm, ⟨19, _⟩ => ⟨S2x2x384x8192, .f32⟩
  | .hbm, ⟨20, _⟩ => ⟨S2x2x384x8192, .f32⟩
  | .hbm, ⟨21, _⟩ => ⟨S64x384x256, .bf16⟩
  | .hbm, ⟨22, _⟩ => ⟨S64x384x256, .bf16⟩
  | .hbm, ⟨23, _⟩ => ⟨S64x384x256, .bf16⟩
  | .hbm, ⟨24, _⟩ => ⟨S64x384x256, .f32⟩
  | .hbm, ⟨25, _⟩ => ⟨S16384x384, .bf16⟩
  | .hbm, ⟨26, _⟩ => ⟨S16384x384, .bf16⟩
  | .hbm, ⟨27, _⟩ => ⟨S16384x256, .bf16⟩
  | .hbm, ⟨28, _⟩ => ⟨S16384x1024, .f32⟩
  | .hbm, ⟨29, _⟩ => ⟨S2x384x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3584, .bf16⟩
  | .local _ .vmem, ⟨4, _⟩ => ⟨S1920x1024, .bf16⟩
  | .local _ .vmem, ⟨5, _⟩ => ⟨S1x1x384x256, .f32⟩
  | .local _ .vmem, ⟨6, _⟩ => ⟨S1x1x384x256, .f32⟩
  | .local _ .vmem, ⟨7, _⟩ => ⟨S1x1x384x256, .f32⟩
  | .local _ .vmem, ⟨8, _⟩ => ⟨S1x1x384x256, .f32⟩
  | .local _ .vmem, ⟨9, _⟩ => ⟨S1x1x384x256, .f32⟩
  | .local _ .vmem, ⟨10, _⟩ => ⟨S1x1x384x256, .f32⟩
  | .local _ .vmem, ⟨11, _⟩ => ⟨S1x1x384x256, .f32⟩
  | .local _ .vmem, ⟨12, _⟩ => ⟨S1x1x384x256, .f32⟩
  | .local _ .vmem, ⟨13, _⟩ => ⟨S1x384x256, .bf16⟩
  | .local _ .vmem, ⟨14, _⟩ => ⟨S1x384x256, .bf16⟩
  | .local _ .vmem, ⟨15, _⟩ => ⟨S1x384x256, .bf16⟩
  | .local _ .vmem, ⟨16, _⟩ => ⟨S1x384x256, .bf16⟩
  | .local _ .vmem, ⟨17, _⟩ => ⟨S1x384x256, .bf16⟩
  | .local _ .vmem, ⟨18, _⟩ => ⟨S1x384x256, .bf16⟩
  | .local _ .vmem, ⟨19, _⟩ => ⟨S1x384x256, .f32⟩
  | .local _ .vmem, ⟨20, _⟩ => ⟨S1x384x256, .f32⟩
  | .local _ .vmem, ⟨21, _⟩ => ⟨S256x384, .bf16⟩
  | .local _ .vmem, ⟨22, _⟩ => ⟨S256x384, .bf16⟩
  | .local _ .vmem, ⟨23, _⟩ => ⟨S256x384, .bf16⟩
  | .local _ .vmem, ⟨24, _⟩ => ⟨S256x384, .bf16⟩
  | .local _ .vmem, ⟨25, _⟩ => ⟨S256x256, .bf16⟩
  | .local _ .vmem, ⟨26, _⟩ => ⟨S256x256, .bf16⟩
  | .local _ .vmem, ⟨27, _⟩ => ⟨S256x1024, .f32⟩
  | .local _ .vmem, ⟨28, _⟩ => ⟨S256x1024, .f32⟩
  | .local _ .vmem, ⟨29, _⟩ => ⟨S1x384x128, .f32⟩
  | .local _ .vmem, ⟨30, _⟩ => ⟨S1x384x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev main_v10_5 : Ref sig .tc := ⟨.hbm, 22, rfl⟩
abbrev main_v10_6 : Ref sig .tc := ⟨.hbm, 23, rfl⟩
abbrev main_v10_7 : Ref sig .tc := ⟨.hbm, 24, rfl⟩
abbrev main_v10_8 : Ref sig .tc := ⟨.hbm, 25, rfl⟩
abbrev main_v10_9 : Ref sig .tc := ⟨.hbm, 26, rfl⟩
abbrev main_v10_10 : Ref sig .tc := ⟨.hbm, 27, rfl⟩
abbrev main_v10_11 : Ref sig .tc := ⟨.hbm, 28, rfl⟩
abbrev main_v10_12 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc0_transform_9 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc0_transform_10 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc0_transform_11 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![c1_i32_10.toNat, v16.toNat, c0_i32_11.toNat, v26.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1920x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x384x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x384x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x384x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x384x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x384x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x384x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x384x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x384x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x384x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S16384x1024 : Shape := ⟨2, ![16384, 1024]⟩
abbrev S1024 : Shape := ⟨1, ![1024]⟩
abbrev S1024x3584 : Shape := ⟨2, ![1024, 3584]⟩
abbrev S2x2x384x8192 : Shape := ⟨4, ![2, 2, 384, 8192]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3584 : Shape := ⟨2, ![16384, 3584]⟩
abbrev S16384x384 : Shape := ⟨2, ![16384, 384]⟩
abbrev S16384x256 : Shape := ⟨2, ![16384, 256]⟩
abbrev S2x32x256x384 : Shape := ⟨4, ![2, 32, 256, 384]⟩
abbrev S2x32x384 : Shape := ⟨3, ![2, 32, 384]⟩
abbrev S2x384x32 : Shape := ⟨3, ![2, 384, 32]⟩
abbrev S1x2x384x8192 : Shape := ⟨4, ![1, 2, 384, 8192]⟩
abbrev S2x384x8192 : Shape := ⟨3, ![2, 384, 8192]⟩
abbrev S2x8192x384 : Shape := ⟨3, ![2, 8192, 384]⟩
abbrev S64x256x384 : Shape := ⟨3, ![64, 256, 384]⟩
abbrev S64x384x256 : Shape := ⟨3, ![64, 384, 256]⟩
abbrev S2x384x128 : Shape := ⟨3, ![2, 384, 128]⟩

abbrev nBuf : Space → Nat
  | .hbm => 102
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3584, .f32⟩
  | .hbm, ⟨3, _⟩ => ⟨S2x2x384x8192, .f32⟩
  | .hbm, ⟨4, _⟩ => ⟨S2x2x384x8192, .f32⟩
  | .hbm, ⟨5, _⟩ => ⟨S2x2x384x8192, .f32⟩
  | .hbm, ⟨6, _⟩ => ⟨S2x2x384x8192, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x3584, .f32⟩
  | .hbm, ⟨24, _⟩ => ⟨S16384x384, .f32⟩
  | .hbm, ⟨25, _⟩ => ⟨S16384x384, .f32⟩
  | .hbm, ⟨26, _⟩ => ⟨S16384x384, .f32⟩
  | .hbm, ⟨27, _⟩ => ⟨S16384x384, .f32⟩
  | .hbm, ⟨28, _⟩ => ⟨S16384x384, .f32⟩
  | .hbm, ⟨29, _⟩ => ⟨S16384x384, .f32⟩
  | .hbm, ⟨30, _⟩ => ⟨S16384x384, .f32⟩
  | .hbm, ⟨31, _⟩ => ⟨S16384x384, .f32⟩
  | .hbm, ⟨32, _⟩ => ⟨S16384x256, .f32⟩
  | .hbm, ⟨33, _⟩ => ⟨S16384x256, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S2x32x256x384, .f32⟩
  | .hbm, ⟨45, _⟩ => ⟨S_, .f32⟩
  | .hbm, ⟨46, _⟩ => ⟨S2x32x384, .f32⟩
  | .hbm, ⟨47, _⟩ => ⟨S_, .f32⟩
  | .hbm, ⟨48, _⟩ => ⟨S2x32x384, .f32⟩
  | .hbm, ⟨49, _⟩ => ⟨S2x32x384, .f32⟩
  | .hbm, ⟨50, _⟩ => ⟨S2x384x32, .f32⟩
  | .hbm, ⟨51, _⟩ => ⟨S1x2x384x8192, .f32⟩
  | .hbm, ⟨52, _⟩ => ⟨S2x384x8192, .f32⟩
  | .hbm, ⟨53, _⟩ => ⟨S2x8192x384, .f32⟩
  | .hbm, ⟨54, _⟩ => ⟨S2x384x8192, .f32⟩
  | .hbm, ⟨55, _⟩ => ⟨S1x2x384x8192, .f32⟩
  | .hbm, ⟨56, _⟩ => ⟨S1x2x384x8192, .f32⟩
  | .hbm, ⟨57, _⟩ => ⟨S2x2x384x8192, .f32⟩
  | .hbm, ⟨58, _⟩ => ⟨S1x2x384x8192, .f32⟩
  | .hbm, ⟨59, _⟩ => ⟨S2x384x8192, .f32⟩
  | .hbm, ⟨60, _⟩ => ⟨S2x8192x384, .f32⟩
  | .hbm, ⟨61, _⟩ => ⟨S2x384x8192, .f32⟩
  | .hbm, ⟨62, _⟩ => ⟨S1x2x384x8192, .f32⟩
  | .hbm, ⟨63, _⟩ => ⟨S1x2x384x8192, .f32⟩
  | .hbm, ⟨64, _⟩ => ⟨S2x2x384x8192, .f32⟩
  | .hbm, ⟨65, _⟩ => ⟨S1x2x384x8192, .f32⟩
  | .hbm, ⟨66, _⟩ => ⟨S2x384x8192, .f32⟩
  | .hbm, ⟨67, _⟩ => ⟨S2x8192x384, .f32⟩
  | .hbm, ⟨68, _⟩ => ⟨S2x384x8192, .f32⟩
  | .hbm, ⟨69, _⟩ => ⟨S1x2x384x8192, .f32⟩
  | .hbm, ⟨70, _⟩ => ⟨S1x2x384x8192, .f32⟩
  | .hbm, ⟨71, _⟩ => ⟨S2x2x384x8192, .f32⟩
  | .hbm, ⟨72, _⟩ => ⟨S1x2x384x8192, .f32⟩
  | .hbm, ⟨73, _⟩ => ⟨S2x384x8192, .f32⟩
  | .hbm, ⟨74, _⟩ => ⟨S2x8192x384, .f32⟩
  | .hbm, ⟨75, _⟩ => ⟨S2x384x8192, .f32⟩
  | .hbm, ⟨76, _⟩ => ⟨S1x2x384x8192, .f32⟩
  | .hbm, ⟨77, _⟩ => ⟨S1x2x384x8192, .f32⟩
  | .hbm, ⟨78, _⟩ => ⟨S2x2x384x8192, .f32⟩
  | .hbm, ⟨79, _⟩ => ⟨S64x256x384, .f32⟩
  | .hbm, ⟨80, _⟩ => ⟨S64x384x256, .f32⟩
  | .hbm, ⟨81, _⟩ => ⟨S64x384x256, .bf16⟩
  | .hbm, ⟨82, _⟩ => ⟨S64x256x384, .f32⟩
  | .hbm, ⟨83, _⟩ => ⟨S64x384x256, .f32⟩
  | .hbm, ⟨84, _⟩ => ⟨S64x384x256, .bf16⟩
  | .hbm, ⟨85, _⟩ => ⟨S64x256x384, .f32⟩
  | .hbm, ⟨86, _⟩ => ⟨S64x384x256, .f32⟩
  | .hbm, ⟨87, _⟩ => ⟨S64x384x256, .bf16⟩
  | .hbm, ⟨88, _⟩ => ⟨S64x256x384, .f32⟩
  | .hbm, ⟨89, _⟩ => ⟨S64x384x256, .f32⟩
  | .hbm, ⟨90, _⟩ => ⟨S16384x384, .bf16⟩
  | .hbm, ⟨91, _⟩ => ⟨S_, .f32⟩
  | .hbm, ⟨92, _⟩ => ⟨S16384x384, .f32⟩
  | .hbm, ⟨93, _⟩ => ⟨S16384x384, .f32⟩
  | .hbm, ⟨94, _⟩ => ⟨S16384x384, .bf16⟩
  | .hbm, ⟨95, _⟩ => ⟨S_, .f32⟩
  | .hbm, ⟨96, _⟩ => ⟨S16384x256, .f32⟩
  | .hbm, ⟨97, _⟩ => ⟨S16384x256, .f32⟩
  | .hbm, ⟨98, _⟩ => ⟨S16384x256, .bf16⟩
  | .hbm, ⟨99, _⟩ => ⟨S_, .i32⟩
  | .hbm, ⟨100, _⟩ => ⟨S_, .f32⟩
  | .hbm, ⟨101, _⟩ => ⟨S2x384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_4 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_5 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_c : Ref sig .tc := ⟨.hbm, 99, rfl⟩
abbrev main_call1_v0 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Kernel3.lean ====
abbrev S16384x384 : Shape := ⟨2, ![16384, 384]⟩
abbrev S16384x256 : Shape := ⟨2, ![16384, 256]⟩
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x384 : Shape := ⟨2, ![512, 384]⟩
abbrev S512x256 : Shape := ⟨2, ![512, 256]⟩
abbrev S512x1024 : Shape := ⟨2, ![512, 1024]⟩
abbrev S384x1024 : Shape := ⟨2, ![384, 1024]⟩
abbrev S256x1024 : Shape := ⟨2, ![256, 1024]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S16384x384, .bf16⟩
  | .hbm, ⟨1, _⟩ => ⟨S16384x384, .bf16⟩
  | .hbm, ⟨2, _⟩ => ⟨S16384x256, .bf16⟩
  | .hbm, ⟨3, _⟩ => ⟨S16384x1024, .f32⟩
  | .hbm, ⟨4, _⟩ => ⟨S1024x1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S16384x1024, .f32⟩
  | .local _ .vmem, ⟨0, _⟩ => ⟨S512x384, .bf16⟩
  | .local _ .vmem, ⟨1, _⟩ => ⟨S512x384, .bf16⟩
  | .local _ .vmem, ⟨2, _⟩ => ⟨S512x384, .bf16⟩
  | .local _ .vmem, ⟨3, _⟩ => ⟨S512x384, .bf16⟩
  | .local _ .vmem, ⟨4, _⟩ => ⟨S512x256, .bf16⟩
  | .local _ .vmem, ⟨5, _⟩ => ⟨S512x256, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S16384x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16384x384 : Shape := ⟨2, ![16384, 384]⟩
abbrev S16384x256 : Shape := ⟨2, ![16384, 256]⟩
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S16384x384, .bf16⟩
  | .hbm, ⟨1, _⟩ => ⟨S16384x384, .bf16⟩
  | .hbm, ⟨2, _⟩ => ⟨S16384x256, .bf16⟩
  | .hbm, ⟨3, _⟩ => ⟨S16384x1024, .f32⟩
  | .hbm, ⟨4, _⟩ => ⟨S1024x1024, .f32⟩
  | .hbm, ⟨5, _⟩ => ⟨S1024, .f32⟩
  | .hbm, ⟨6, _⟩ => ⟨S16384x384, .f32⟩
  | .hbm, ⟨7, _⟩ => ⟨S16384x384, .f32⟩
  | .hbm, ⟨8, _⟩ => ⟨S16384x256, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | _, _ => ⟨S16384x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel4.lean ====
abbrev S128x384 : Shape := ⟨2, ![128, 384]⟩
abbrev S128x256 : Shape := ⟨2, ![128, 256]⟩
abbrev S128x1024 : Shape := ⟨2, ![128, 1024]⟩
abbrev S1024x1024 : Shape := ⟨2, ![1024, 1024]⟩
abbrev S1024 : Shape := ⟨1, ![1024]⟩
abbrev S1x1024 : Shape := ⟨2, ![1, 1024]⟩
abbrev S384x1024 : Shape := ⟨2, ![384, 1024]⟩
abbrev S256x1024 : Shape := ⟨2, ![256, 1024]⟩
abbrev S128 : Shape := ⟨1, ![128]⟩
abbrev S128x1 : Shape := ⟨2, ![128, 1]⟩

abbrev nBuf : Space → Nat
  | .hbm => 9
  | .vmem => 7
  | .smem => 0
  | _ => 0

abbrev bufTy : (tb : Table) → Fin (tcTables nBuf tb) → BufTy
  | .hbm, ⟨0, _⟩ => ⟨S128x384, .bf16⟩
  | .hbm, ⟨1, _⟩ => ⟨S128x384, .bf16⟩
  | .hbm, ⟨2, _⟩ => ⟨S128x256, .bf16⟩
  | .hbm, ⟨3, _⟩ => ⟨S128x1024, .f32⟩
  | .hbm, ⟨4, _⟩ => ⟨S1024x1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S128x1024, .f32⟩
  | .local _ .vmem, ⟨0, _⟩ => ⟨S128x384, .bf16⟩
  | .local _ .vmem, ⟨1, _⟩ => ⟨S128x384, .bf16⟩
  | .local _ .vmem, ⟨2, _⟩ => ⟨S128x256, .bf16⟩
  | .local _ .vmem, ⟨3, _⟩ => ⟨S128x1024, .f32⟩
  | .local _ .vmem, ⟨4, _⟩ => ⟨S1024x1024, .bf16⟩
  | .local _ .vmem, ⟨5, _⟩ => ⟨S1x1024, .f32⟩
  | .local _ .vmem, ⟨6, _⟩ => ⟨S128x1024, .f32⟩
  | _, _ => ⟨S128x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference4Ideal.lean ====
abbrev S128x384 : Shape := ⟨2, ![128, 384]⟩
abbrev S128x256 : Shape := ⟨2, ![128, 256]⟩
abbrev S128x1024 : Shape := ⟨2, ![128, 1024]⟩
abbrev S1024x1024 : Shape := ⟨2, ![1024, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S128x384, .bf16⟩
  | .hbm, ⟨1, _⟩ => ⟨S128x384, .bf16⟩
  | .hbm, ⟨2, _⟩ => ⟨S128x256, .bf16⟩
  | .hbm, ⟨3, _⟩ => ⟨S128x1024, .f32⟩
  | .hbm, ⟨4, _⟩ => ⟨S1024x1024, .f32⟩
  | .hbm, ⟨5, _⟩ => ⟨S1024, .f32⟩
  | .hbm, ⟨6, _⟩ => ⟨S128x384, .f32⟩
  | .hbm, ⟨7, _⟩ => ⟨S128x384, .f32⟩
  | .hbm, ⟨8, _⟩ => ⟨S128x256, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S_, .f32⟩
  | .hbm, ⟨19, _⟩ => ⟨S128x1, .f32⟩
  | .hbm, ⟨20, _⟩ => ⟨S128x1, .f32⟩
  | .hbm, ⟨21, _⟩ => ⟨S128x1, .f32⟩
  | .hbm, ⟨22, _⟩ => ⟨S128x1024, .f32⟩
  | .hbm, ⟨23, _⟩ => ⟨S128x1024, .f32⟩
  | .hbm, ⟨24, _⟩ => ⟨S1x1024, .f32⟩
  | .hbm, ⟨25, _⟩ => ⟨S128x1024, .f32⟩
  | .hbm, ⟨26, _⟩ => ⟨S128x1024, .f32⟩
  | .hbm, ⟨27, _⟩ => ⟨S128x1024, .f32⟩
  | _, _ => ⟨S128x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel5.lean ====
abbrev S512x1024 : Shape := ⟨2, ![512, 1024]⟩
abbrev S1024 : Shape := ⟨1, ![1024]⟩
abbrev S1024x512 : Shape := ⟨2, ![1024, 512]⟩
abbrev S1x1024 : Shape := ⟨2, ![1, 1024]⟩
abbrev S2x256x256 : Shape := ⟨3, ![2, 256, 256]⟩
abbrev S256x1024 : Shape := ⟨2, ![256, 1024]⟩
abbrev S1x256x256 : Shape := ⟨3, ![1, 256, 256]⟩
abbrev S256 : Shape := ⟨1, ![256]⟩
abbrev S256x1 : Shape := ⟨2, ![256, 1]⟩
abbrev S256x256 : Shape := ⟨2, ![256, 256]⟩

abbrev nBuf : Space → Nat
  | .hbm => 10
  | .vmem => 12
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x512, .f32⟩
  | .hbm, ⟨3, _⟩ => ⟨S512x1024, .f32⟩
  | .hbm, ⟨4, _⟩ => ⟨S512x1024, .bf16⟩
  | .hbm, ⟨5, _⟩ => ⟨S1x1024, .f32⟩
  | .hbm, ⟨6, _⟩ => ⟨S2x256x256, .f32⟩
  | .hbm, ⟨7, _⟩ => ⟨S2x256x256, .f32⟩
  | .hbm, ⟨8, _⟩ => ⟨S2x256x256, .bf16⟩
  | .hbm, ⟨9, _⟩ => ⟨S2x256x256, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S512x1024, .bf16⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S512x1024 : Shape := ⟨2, ![512, 1024]⟩
abbrev S1024 : Shape := ⟨1, ![1024]⟩
abbrev S1024x512 : Shape := ⟨2, ![1024, 512]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x512 : Shape := ⟨2, ![512, 512]⟩
abbrev S512x256 : Shape := ⟨2, ![512, 256]⟩
abbrev S2x256x256 : Shape := ⟨3, ![2, 256, 256]⟩

abbrev nBuf : Space → Nat
  | .hbm => 28
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x512, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S1x1024, .f32⟩
  | .hbm, ⟨17, _⟩ => ⟨S512x1024, .f32⟩
  | .hbm, ⟨18, _⟩ => ⟨S512x1024, .f32⟩
  | .hbm, ⟨19, _⟩ => ⟨S512x512, .f32⟩
  | .hbm, ⟨20, _⟩ => ⟨S512x256, .f32⟩
  | .hbm, ⟨21, _⟩ => ⟨S512x256, .f32⟩
  | .hbm, ⟨22, _⟩ => ⟨S2x256x256, .f32⟩
  | .hbm, ⟨23, _⟩ => ⟨S2x256x256, .f32⟩
  | .hbm, ⟨24, _⟩ => ⟨S2x256x256, .f32⟩
  | .hbm, ⟨25, _⟩ => ⟨S2x256x256, .f32⟩
  | .hbm, ⟨26, _⟩ => ⟨S2x256x256, .bf16⟩
  | .hbm, ⟨27, _⟩ => ⟨S2x256x256, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel6.lean ====
abbrev S128x1024 : Shape := ⟨2, ![128, 1024]⟩
abbrev S1024 : Shape := ⟨1, ![1024]⟩
abbrev S1024x3584 : Shape := ⟨2, ![1024, 3584]⟩
abbrev S1024x384 : Shape := ⟨2, ![1024, 384]⟩
abbrev S1024x1920 : Shape := ⟨2, ![1024, 1920]⟩
abbrev S1920x1024 : Shape := ⟨2, ![1920, 1024]⟩
abbrev S1x1024 : Shape := ⟨2, ![1, 1024]⟩
abbrev S1x384x128 : Shape := ⟨3, ![1, 384, 128]⟩
abbrev S128x384 : Shape := ⟨2, ![128, 384]⟩
abbrev S128x256 : Shape := ⟨2, ![128, 256]⟩
abbrev S128 : Shape := ⟨1, ![128]⟩
abbrev S128x1 : Shape := ⟨2, ![128, 1]⟩
abbrev S384x1024 : Shape := ⟨2, ![384, 1024]⟩
abbrev S384x128 : Shape := ⟨2, ![384, 128]⟩
abbrev S1024x256 : Shape := ⟨2, ![1024, 256]⟩

abbrev nBuf : Space → Nat
  | .hbm => 23
  | .vmem => 14
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x3584, .f32⟩
  | .hbm, ⟨3, _⟩ => ⟨S1024x3584, .bf16⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .hbm, ⟨8, _⟩ => ⟨S1024x384, .f32⟩
  | .hbm, ⟨9, _⟩ => ⟨S1024x1920, .f32⟩
  | .hbm, ⟨10, _⟩ => ⟨S1920x1024, .f32⟩
  | .hbm, ⟨11, _⟩ => ⟨S1920x1024, .bf16⟩
  | .hbm, ⟨12, _⟩ => ⟨S1x1024, .f32⟩
  | .hbm, ⟨13, _⟩ => ⟨S1x384x128, .f32⟩
  | .hbm, ⟨14, _⟩ => ⟨S1x384x128, .f32⟩
  | .hbm, ⟨15, _⟩ => ⟨S1x384x128, .f32⟩
  | .hbm, ⟨16, _⟩ => ⟨S1x384x128, .f32⟩
  | .hbm, ⟨17, _⟩ => ⟨S128x384, .f32⟩
  | .hbm, ⟨18, _⟩ => ⟨S128x384, .f32⟩
  | .hbm, ⟨19, _⟩ => ⟨S128x384, .bf16⟩
  | .hbm, ⟨20, _⟩ => ⟨S128x384, .f32⟩
  | .hbm, ⟨21, _⟩ => ⟨S128x256, .bf16⟩
  | .hbm, ⟨22, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x3584, .bf16⟩
  | .local _ .vmem, ⟨3, _⟩ => ⟨S1920x1024, .bf16⟩
  | .local _ .vmem, ⟨4, _⟩ => ⟨S1x384x128, .f32⟩
  | .local _ .vmem, ⟨5, _⟩ => ⟨S1x384x128, .f32⟩
  | .local _ .vmem, ⟨6, _⟩ => ⟨S1x384x128, .f32⟩
  | .local _ .vmem, ⟨7, _⟩ => ⟨S1x384x128, .f32⟩
  | .local _ .vmem, ⟨8, _⟩ => ⟨S128x384, .f32⟩
  | .local _ .vmem, ⟨9, _⟩ => ⟨S128x384, .f32⟩
  | .local _ .vmem, ⟨10, _⟩ => ⟨S128x384, .bf16⟩
  | .local _ .vmem, ⟨11, _⟩ => ⟨S128x384, .f32⟩
  | .local _ .vmem, ⟨12, _⟩ => ⟨S128x256, .bf16⟩
  | .local _ .vmem, ⟨13, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev main_v10_2 : Ref sig .tc := ⟨.hbm, 15, rfl⟩
abbrev main_v10_3 : Ref sig .tc := ⟨.hbm, 16, rfl⟩
abbrev main_v10_4 : Ref sig .tc := ⟨.hbm, 17, rfl⟩
abbrev main_v10_5 : Ref sig .tc := ⟨.hbm, 18, rfl⟩
abbrev main_v10_6 : Ref sig .tc := ⟨.hbm, 19, rfl⟩
abbrev main_v10_7 : Ref sig .tc := ⟨.hbm, 20, rfl⟩
abbrev main_v10_8 : Ref sig .tc := ⟨.hbm, 21, rfl⟩
abbrev main_v10_9 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1920x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x384x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x384x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x384x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x384 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== Reference6Ideal.lean ====
abbrev S128x1024 : Shape := ⟨2, ![128, 1024]⟩
abbrev S1024 : Shape := ⟨1, ![1024]⟩
abbrev S1024x3584 : Shape := ⟨2, ![1024, 3584]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x3584 : Shape := ⟨2, ![128, 3584]⟩
abbrev S128x384 : Shape := ⟨2, ![128, 384]⟩
abbrev S128x256 : Shape := ⟨2, ![128, 256]⟩
abbrev S1x128x384 : Shape := ⟨3, ![1, 128, 384]⟩
abbrev S1x384x128 : Shape := ⟨3, ![1, 384, 128]⟩

abbrev nBuf : Space → Nat
  | .hbm => 56
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x3584, .f32⟩
  | .hbm, ⟨3, _⟩ => ⟨S128x1024, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x1024, .f32⟩
  | .hbm, ⟨15, _⟩ => ⟨S128x1024, .f32⟩
  | .hbm, ⟨16, _⟩ => ⟨S1x1024, .f32⟩
  | .hbm, ⟨17, _⟩ => ⟨S128x1024, .f32⟩
  | .hbm, ⟨18, _⟩ => ⟨S128x1024, .f32⟩
  | .hbm, ⟨19, _⟩ => ⟨S128x3584, .f32⟩
  | .hbm, ⟨20, _⟩ => ⟨S128x384, .f32⟩
  | .hbm, ⟨21, _⟩ => ⟨S128x384, .f32⟩
  | .hbm, ⟨22, _⟩ => ⟨S128x384, .f32⟩
  | .hbm, ⟨23, _⟩ => ⟨S128x384, .f32⟩
  | .hbm, ⟨24, _⟩ => ⟨S128x384, .f32⟩
  | .hbm, ⟨25, _⟩ => ⟨S128x384, .f32⟩
  | .hbm, ⟨26, _⟩ => ⟨S128x384, .f32⟩
  | .hbm, ⟨27, _⟩ => ⟨S128x384, .f32⟩
  | .hbm, ⟨28, _⟩ => ⟨S128x256, .f32⟩
  | .hbm, ⟨29, _⟩ => ⟨S128x256, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S1x128x384, .f32⟩
  | .hbm, ⟨41, _⟩ => ⟨S1x384x128, .f32⟩
  | .hbm, ⟨42, _⟩ => ⟨S1x128x384, .f32⟩
  | .hbm, ⟨43, _⟩ => ⟨S1x384x128, .f32⟩
  | .hbm, ⟨44, _⟩ => ⟨S1x128x384, .f32⟩
  | .hbm, ⟨45, _⟩ => ⟨S1x384x128, .f32⟩
  | .hbm, ⟨46, _⟩ => ⟨S1x128x384, .f32⟩
  | .hbm, ⟨47, _⟩ => ⟨S1x384x128, .f32⟩
  | .hbm, ⟨48, _⟩ => ⟨S_, .f32⟩
  | .hbm, ⟨49, _⟩ => ⟨S128x384, .f32⟩
  | .hbm, ⟨50, _⟩ => ⟨S128x384, .f32⟩
  | .hbm, ⟨51, _⟩ => ⟨S128x384, .bf16⟩
  | .hbm, ⟨52, _⟩ => ⟨S_, .f32⟩
  | .hbm, ⟨53, _⟩ => ⟨S128x256, .f32⟩
  | .hbm, ⟨54, _⟩ => ⟨S128x256, .f32⟩
  | .hbm, ⟨55, _⟩ => ⟨S128x256, .bf16⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Proof.SB.Step.lean ====
/- One block of the attention, and the walk over the blocks, as plain functions of the vectors the kernel holds.

   A chain is one head of one batch row for one tile of 256 queries. It carries a column (for each query, the sum of
   the log-keeps of the keys already passed) and an accumulator (for each query, the weighted sum of their values).
   The kernel walks the key blocks from the query's own block down to block 0, four chains at a time. -/
module

public import proofs.«01_k».proof.Proof.Gen.KernelIdeal.Skeleton
public import Idealize.ShloMosaic.Lib.ValueIdxCore

@[expose] public section

set_option maxRecDepth 16384

noncomputable section

namespace Cert.Proof.SB

open Cert.KernelIdeal Cert.KernelIdeal.Gen
open Idealize.ShloMosaic Idealize.ShloMosaic.ValueIdx

variable {F : FTy → Type} [FloatOps F]

/-- What a chain carries: the column and the accumulator. -/
abbrev Chain (F : FTy → Type) [FloatOps F] := FVec F S256x1 .f32 × FVec F S256x128 .f32

/-- A vector for each batch row and head of a point. -/
abbrev Four (α : Type) := Fin 2 → Fin 2 → α

/-- Where a key comes before its query, inside the query's own block: column below row. -/
def earlier : IVec S256x256 1 := k0_pay100

/-- Every entry `0`. -/
def zeros : FVec F S256x256 .f32 := broadcast S256x256 (Scalar.ofBits .f32 0x00000000#32)

/-- The logits of a block of keys. -/
def logits (q : FVec F S256x128 .bf16) (k : Vec F S1x1x128x256 .bf16) : FVec F S256x256 .f32 :=
  matmul dot_S256x128_S128x256_S256x256_1_0_0_1_n_n none q (shapeCast S128x256 k shapeCasts_S1x1x128x256_S128x256)
    (constant S256x256 .f32 0x00000000#32)

/-- The log of the probability to keep walking past a key, from its logit: `min (-z) 0 - log (1 + exp (-|z|))`. -/
def keepLog (z : FVec F S256x256 .f32) : FVec F S256x256 .f32 :=
  subf (minimumf (subf zeros z) zeros)
    (log (addf (broadcast S256x256 (Scalar.ofBits .f32 0x3F800000#32)) (exp (subf zeros (absf z)))))

/-- For each key, the sum of `l` over the keys of the block from it on: the product with the 0/1 triangle `u`, of the
    part of `l` that fits the short format and of the rest. -/
def total (u : FVec F S256x256 .bf16) (l : FVec F S256x256 .f32) : FVec F S256x256 .f32 :=
  addf
    (matmul dot_S256x256_S256x256_S256x256_1_0_0_1_n_n none (truncf .bf16 l bitsLt_bf16_f32) u (constant S256x256 .f32 0x00000000#32))
    (matmul dot_S256x256_S256x256_S256x256_1_0_0_1_n_n none
      (truncf .bf16 (subf l (extf .f32 (truncf .bf16 l bitsLt_bf16_f32) bitsLt_bf16_f32)) bitsLt_bf16_f32) u (constant S256x256 .f32 0x00000000#32))

/-- The weights of a block: `exp (z + total + carry)`. -/
def weights (z t : FVec F S256x256 .f32) (s : Chain F) : FVec F S256x256 .f32 :=
  exp (addf (addf z t) (broadcastTo S256x256 s.1 broadcasts_S256x1_S256x256))

/-- The chain after a block with totals `t` and weights `a`. -/
def advance (t a : FVec F S256x256 .f32) (v : Vec F S1x1x128x256 .bf16) (s : Chain F) : Chain F :=
  (addf s.1 (extractStridedSlice S256x1 ![0, 0] t slices_S256x256_o0_0_S256x1),
   addf s.2 (matmul dot_S256x256_S128x256_S256x128_1_1_0_0_n_n none (truncf .bf16 a bitsLt_bf16_f32)
    (shapeCast S128x256 v shapeCasts_S1x1x128x256_S128x256) (constant S256x128 .f32 0x00000000#32)))

/-- A chain past one block of keys, all of which come before the queries. -/
def blockStep (q : FVec F S256x128 .bf16) (k v : Vec F S1x1x128x256 .bf16) (u : FVec F S256x256 .bf16) (s : Chain F) : Chain F :=
  advance (total u (keepLog (logits q k))) (weights (logits q k) (total u (keepLog (logits q k))) s) v s

/-- A chain past the queries' own block: only the keys before the query count. -/
def ownStep (q : FVec F S256x128 .bf16) (k v : Vec F S1x1x128x256 .bf16) (u : FVec F S256x256 .bf16) (s : Chain F) : Chain F :=
  advance (total u (select earlier (keepLog (logits q k)) zeros))
    (select earlier (weights (logits q k) (total u (select earlier (keepLog (logits q k)) zeros)) s) zeros) v s

/-- What a chain starts with. -/
def start : Chain F := (k0_pay101, k0_pay102)

/-- The queries of each head: the tile with the other head's columns cleared. -/
def heads (x : Fin 2 → Vec F S1x256x128 .bf16) : Four (FVec F S256x128 .bf16) := fun b h =>
  match b, h with
  | 0, 0 => k0_pay96 (x 0)
  | 0, 1 => k0_pay97 (x 0)
  | 1, 0 => k0_pay98 (x 1)
  | 1, 1 => k0_pay99 (x 1)

/-- Every chain past key block `j`. -/
def stepAll (q : Four (FVec F S256x128 .bf16)) (k v : Fin 2 → ℕ → Vec F S1x1x128x256 .bf16) (u : FVec F S256x256 .bf16) (j : ℕ)
    (S : Four (Chain F)) : Four (Chain F) :=
  fun b h => blockStep (q b h) (k b j) (v b j) u (S b h)

/-- Every chain past the queries' own block `j`, from the start. -/
def ownAll (q : Four (FVec F S256x128 .bf16)) (k v : Fin 2 → ℕ → Vec F S1x1x128x256 .bf16) (u : FVec F S256x256 .bf16) (j : ℕ) : Four (Chain F) :=
  fun b h => ownStep (q b h) (k b j) (v b j) u start

/-- The largest entry of the four columns. -/
def top (S : Four (Chain F)) : F .f32 :=
  k0_pay1 (maximumf (maximumf (maximumf (S 0 0).1 (S 0 1).1) (S 1 0).1) (S 1 1).1)

/-- The walk over blocks `n - 1, …, 0`: it ends early once the largest column entry `m` is not above `e`. -/
def walk (e : F .f32) (q : Four (FVec F S256x128 .bf16)) (k v : Fin 2 → ℕ → Vec F S1x1x128x256 .bf16) (u : FVec F S256x256 .bf16) :
    ℕ → F .f32 → Four (Chain F) → Four (Chain F)
  | 0, _, S => S
  | n + 1, m, S =>
    if Scalar.cmpf .ogt m e = 1#1 then walk e q k v u n (top (stepAll q k v u n S)) (stepAll q k v u n S) else S

/-- The chains after the blocks a point passes before the walk: its own block `j`, and the one before it if there is one. -/
def opening (q : Four (FVec F S256x128 .bf16)) (k v : Fin 2 → ℕ → Vec F S1x1x128x256 .bf16) (u : FVec F S256x256 .bf16) : ℕ → Four (Chain F)
  | 0 => ownAll q k v u 0
  | j + 1 => stepAll q k v u j (ownAll q k v u (j + 1))

/-- The chains of the point of query tile `j`. -/
def chains (e : F .f32) (q : Four (FVec F S256x128 .bf16)) (k v : Fin 2 → ℕ → Vec F S1x1x128x256 .bf16) (u : FVec F S256x256 .bf16) (j : ℕ) :
    Four (Chain F) :=
  walk e q k v u (j - 1) (top (opening q k v u j)) (opening q k v u j)

/-- Batch row `b`'s block `j` of the staged keys or values. -/
def slab (x : Vec F S2x32x128x256 .bf16) (b : Fin 2) (j : ℕ) : Vec F S1x1x128x256 .bf16 :=
  fun y => x (ix4 b (Fin.ofNat 32 j) (y 2) (y 3))

/-- Batch row `b`'s tile of the staged queries, gates or results. -/
def tile {e : EltTy} (x : Vec F S2x256x128 e) (b : Fin 2) : Vec F S1x256x128 e := fun y => x (ix3 b (y 1) (y 2))

end Cert.Proof.SB
-- ==== Proof.SB.Loop.lean ====
/- The loop over the earlier key blocks, as the kernel runs it: entered at the word of block `n - 1` it ends with the
   chains of `walk` after `n` blocks, whatever the numbers are, and leaves the staged blocks as they were. -/
module

public import proofs.«01_k».proof.Proof.SB.Step
public import Idealize.ShloMosaic.Lib.WholeRead
public import Idealize.ShloMosaic.Lib.Tactic
public import Idealize.ShloMosaic.Lib.Pipeline.FrameBody

@[expose] public section

set_option maxRecDepth 16384

noncomputable section

namespace Cert.Proof.SB

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## Words and reads -/

/-- The word `w` has `n` blocks still to pass: it is `n - 1`, or negative when `n = 0`. -/
def Left (n : ℕ) (w : BitVec 32) : Prop :=
  match n with
  | 0 => ¬Scalar.cmpi .sge w 0#32 = 1#1
  | n + 1 => n < 32 ∧ w = BitVec.ofNat 32 n

theorem left_succ : ∀ n : Fin 32, Scalar.cmpi .sge (BitVec.ofNat 32 n.val) 0#32 = 1#1
    ∧ k0_chk1 (BitVec.ofNat 32 n.val)
    ∧ k0_off7 (BitVec.ofNat 32 n.val) = ![0, n.val, 0, 0] ∧ k0_off8 (BitVec.ofNat 32 n.val) = ![1, n.val, 0, 0] := by
  decide +kernel

theorem left_pred : ∀ n : Fin 32, Left n.val (Scalar.subi (BitVec.ofNat 32 n.val) 1#32) := by
  intro n
  obtain ⟨n, hn⟩ := n
  cases n with
  | zero =>
    have h : ¬Scalar.cmpi .sge (Scalar.subi (BitVec.ofNat 32 0) 1#32) 0#32 = 1#1 := by decide
    exact h
  | succ n =>
    have h : ∀ n : Fin 31, Scalar.subi (BitVec.ofNat 32 (n.val + 1)) 1#32 = BitVec.ofNat 32 n.val := by decide +kernel
    exact ⟨by omega, h ⟨n, by omega⟩⟩

/-- A block read from a staged array of keys or values is the slab at its offsets. -/
theorem read_slab {arg : Memref sig .tc .vmem S2x32x128x256 .bf16} (harg : arg.IsWhole) (x : Vec F S2x32x128x256 .bf16)
    {off : Fin 4 → ℕ} (h) (b : Fin 2) (j : ℕ) (hj : j < 32) (eo : off = ![b.val, j, 0, 0]) :
    arg.view.readAt (Elt F) (Rect.unit (s := S2x32x128x256) off S1x1x128x256.size h).toLoadRect (harg.unread x) = slab x b j := by
  subst eo
  funext y
  rw [harg.readAt_unread]
  unfold slab
  congr 1
  funext a
  have h0 : (y 0).val = 0 := by have := (y 0).isLt; simpa using this
  have h1 : (y 1).val = 0 := by have := (y 1).isLt; simpa using this
  apply Fin.ext
  fin_cases a
  · show b.val + 1 * (y 0).val = b.val; omega
  · show j + 1 * (y 1).val = j % 32; rw [Nat.mod_eq_of_lt hj]; omega
  · show 0 + 1 * (y 2).val = (y 2).val; omega
  · show 0 + 1 * (y 3).val = (y 3).val; omega

/-- A tile read from a staged array of queries, gates or results. -/
theorem read_tile {e : EltTy} {arg : Memref sig .tc .vmem S2x256x128 e} (harg : arg.IsWhole) (x : Vec F S2x256x128 e)
    {off : Fin 3 → ℕ} (h) (b : Fin 2) (eo : off = ![b.val, 0, 0]) :
    arg.view.readAt (Elt F) (Rect.unit (s := S2x256x128) off S1x256x128.size h).toLoadRect (harg.unread x) = tile x b := by
  subst eo
  funext y
  rw [harg.readAt_unread]
  unfold tile
  congr 1
  funext a
  have h0 : (y 0).val = 0 := by have := (y 0).isLt; simpa using this
  apply Fin.ext
  fin_cases a
  · show b.val + 1 * (y 0).val = b.val; omega
  · show 0 + 1 * (y 1).val = (y 1).val; omega
  · show 0 + 1 * (y 2).val = (y 2).val; omega

/-- The whole staged triangle read. -/
theorem read_whole {arg : Memref sig .tc .vmem S256x256 .bf16} (harg : arg.IsWhole) (x : Vec F S256x256 .bf16) (h) :
    arg.view.readAt (Elt F) (Rect.unit (s := S256x256) ![0, 0] S256x256.size h).toLoadRect (harg.unread x) = x := by
  funext y
  rw [harg.readAt_unread]
  congr 1
  funext a
  apply Fin.ext
  fin_cases a
  · show 0 + 1 * (y 0).val = (y 0).val; omega
  · show 0 + 1 * (y 1).val = (y 1).val; omega

theorem pay26_eq (x : Vec F S256x256 .bf16) : k0_pay26 x = x := shapeCast_self x _
theorem pay79_eq (x : Vec F S256x256 .bf16) : k0_pay79 x = x := shapeCast_self x _
theorem pay118_eq (x : Vec F S256x256 .bf16) : k0_pay118 x = x := shapeCast_self x _

/-! ## The label -/

section Label

variable (c : Dev nD)
  {arg3 : Memref sig .tc .vmem S2x32x128x256 .bf16} (harg3 : arg3.IsWhole)
  {arg4 : Memref sig .tc .vmem S2x32x128x256 .bf16} (harg4 : arg4.IsWhole)
  {arg5 : Memref sig .tc .vmem S256x256 .bf16} (harg5 : arg5.IsWhole)
  (x1 x2 : Vec F S2x32x128x256 .bf16) (x3 : Vec F S256x256 .bf16)

/-- Variants: a count of the blocks still to pass. -/
abbrev 𝒱₀ : Variants := Variants.nat

/-- The staged keys, values and triangle, held at their contents. -/
def held : sProp 𝕄 :=
  iprop((arg3.view.loc (c : Thread nD τ) ↦[arg3.view.set]{fullShare} harg3.unread x1)
    ∗ (arg4.view.loc (c : Thread nD τ) ↦[arg4.view.set]{fullShare} harg4.unread x2)
    ∗ (arg5.view.loc (c : Thread nD τ) ↦[arg5.view.set]{fullShare} harg5.unread x3))

/-- What the loop gives back. -/
abbrev Res (F : FTy → Type) [FloatOps F] := BitVec 32 × F .f32 × FVec F S256x1 .f32 × FVec F S256x128 .f32 × FVec F S256x1 .f32
  × FVec F S256x128 .f32 × FVec F S256x1 .f32 × FVec F S256x128 .f32 × FVec F S256x1 .f32 × FVec F S256x128 .f32

/-- The chains in what the loop gives back. -/
def Gives (r : Res F) (S : Four (Chain F)) : Prop :=
  r.2.2 = ((S 0 0).1, (S 0 0).2, (S 0 1).1, (S 0 1).2, (S 1 0).1, (S 1 0).2, (S 1 1).1, (S 1 1).2)

/-- The number below which the largest column entry ends the walk. -/
abbrev exitAt : F .f32 := Named.named κ "exit" 0xC2DC0000#32

/-- The label's specification, for chains that end at `S`. -/
def spec (S : Four (Chain F)) : sWPT 𝕄 (Res F) := do
  sWPT.consume (held c harg3 harg4 harg5 x1 x2 x3)
  let r ← sWPT.arbitrary
  sWPT.assume (Gives r S)
  sWPT.produce (held c harg3 harg4 harg5 x1 x2 x3)
  pure r

theorem spec_apply (S : Four (Chain F)) (K : Res F → sProp 𝕄) :
    spec c harg3 harg4 harg5 x1 x2 x3 S K
      = iprop(held c harg3 harg4 harg5 x1 x2 x3 ∗ ∀ r : Res F, ⌜Gives r S⌝ -∗ (held c harg3 harg4 harg5 x1 x2 x3 -∗ K r)) := rfl

set_option maxHeartbeats 4000000 in
theorem spec_le (E : Set ℕ) (i : grid0.Coords) (q : Four (FVec F S256x128 .bf16)) :
    ∀ n w, Left n w → ∀ mx S K, spec c harg3 harg4 harg5 x1 x2 x3 (walk exitAt q (slab x1) (slab x2) x3 n mx S) K
      ⊢ wp frame (wpE (defs₀ (F := F)) 𝒱₀ (c : Thread nD τ) (some n)) E
          (defs₀ (F := F) .tc 1 ⟨i, arg3, harg3, arg4, harg4, arg5, harg5, q 0 0, q 0 1, q 1 0, q 1 1, w, mx,
            (S 0 0).1, (S 0 0).2, (S 0 1).1, (S 0 1).2, (S 1 0).1, (S 1 0).2, (S 1 1).1, (S 1 1).2⟩) K := by
  intro n
  induction n with
  | zero =>
    intro w hw mx S K
    rw [spec_apply]
    show _ ⊢ wp frame (wpE (defs₀ (F := F)) 𝒱₀ (c : Thread nD τ) (some 0)) E
      (cc0_while1 i arg3 harg3 arg4 harg4 arg5 harg5 (q 0 0) (q 0 1) (q 1 0) (q 1 1) w mx
            (S 0 0).1 (S 0 0).2 (S 0 1).1 (S 0 1).2 (S 1 0).1 (S 1 0).2 (S 1 1).1 (S 1 1).2) K
    simp only [cc0_while1_eq_skeleton]; unfold cc0_while1_skel
    have htest : ¬Scalar.andi (Scalar.cmpi .sge w 0#32) (Scalar.cmpf .ogt mx (Named.named κ "exit" 0xC2DC0000#32)) = 1#1 := by
      have h0 : Scalar.cmpi .sge w 0#32 = 0#1 := by
        have h : ∀ b : BitVec 1, ¬b = 1#1 → b = 0#1 := by decide
        exact h _ hw
      have h : ∀ b : BitVec 1, ¬Scalar.andi 0#1 b = 1#1 := by decide
      rw [h0]; exact h _
    simp only [htest, ↓reduceIte, Prog.pure_eq_ret]
    iintro ⟨H, Hk⟩
    rw [wp_ret]; imodintro
    iapply Hk
    · ipureintro; rfl
    · iexact H
  | succ n ih =>
    intro w hw mx S K
    obtain ⟨hn, rfl⟩ := hw
    obtain ⟨hge, hchk, ho7, ho8⟩ := left_succ ⟨n, hn⟩
    have hpred := left_pred ⟨n, hn⟩
    simp only at hge hchk ho7 ho8 hpred
    rw [spec_apply]
    show _ ⊢ wp frame (wpE (defs₀ (F := F)) 𝒱₀ (c : Thread nD τ) (some (n + 1))) E
      (cc0_while1 i arg3 harg3 arg4 harg4 arg5 harg5 (q 0 0) (q 0 1) (q 1 0) (q 1 1) (BitVec.ofNat 32 n) mx
            (S 0 0).1 (S 0 0).2 (S 0 1).1 (S 0 1).2 (S 1 0).1 (S 1 0).2 (S 1 1).1 (S 1 1).2) K
    simp only [cc0_while1_eq_skeleton]; unfold cc0_while1_skel
    have hand : ∀ b : BitVec 1, Scalar.andi 1#1 b = b := by decide
    by_cases ht : Scalar.cmpf .ogt mx (exitAt (F := F)) = 1#1
    · have htest : Scalar.andi (Scalar.cmpi .sge (BitVec.ofNat 32 n) 0#32) (Scalar.cmpf .ogt mx (Named.named κ "exit" 0xC2DC0000#32)) = 1#1 := by
        rw [hge, hand]; exact ht
      rw [show walk exitAt q (slab x1) (slab x2) x3 (n + 1) mx S = _ from if_pos ht]
      simp only [htest, ↓reduceIte]
      simp only [k0_part12_eq_skeleton, k0_part13_eq_skeleton, k0_part14_eq_skeleton]
      unfold k0_part12_skel k0_part13_skel k0_part14_skel
      simp only [Prog.lift, Prog.bind_op, Prog.bind_ret, Prog.pure_eq_ret]
      unfold held
      iintro ⟨⟨H3, H4, H5⟩, Hk⟩
      iapply (wp_assume 𝒱₀ (c : Thread nD τ) (some (n + 1)) E hchk)
      iterate 4 (iapply (wp_load 𝒱₀ (c : Thread nD τ) (some (n + 1)) E (m := arg3) (View.setOn_subset_set _ _)) $$ H3; iintro H3)
      iterate 4 (iapply (wp_load 𝒱₀ (c : Thread nD τ) (some (n + 1)) E (m := arg4) (View.setOn_subset_set _ _)) $$ H4; iintro H4)
      iapply (wp_load 𝒱₀ (c : Thread nD τ) (some (n + 1)) E (m := arg5) (View.setOn_subset_set _ _)) $$ H5; iintro H5
      rw [read_slab harg3 x1 _ 0 n hn ho7, read_slab harg3 x1 _ 1 n hn ho8, read_slab harg4 x2 _ 0 n hn ho7, read_slab harg4 x2 _ 1 n hn ho8,
        read_whole harg5 x3, pay118_eq x3]
      iapply (wp_call_spec 𝒱₀ (c : Thread nD τ) (some (n + 1)) E
        (spec c harg3 harg4 harg5 x1 x2 x3 (walk exitAt q (slab x1) (slab x2) x3 n (top (stepAll q (slab x1) (slab x2) x3 n S)) (stepAll q (slab x1) (slab x2) x3 n S))) n
        (fun u hu => by cases hu; exact Nat.lt_succ_self n)
        (ih _ hpred (top (stepAll q (slab x1) (slab x2) x3 n S)) (stepAll q (slab x1) (slab x2) x3 n S)))
      rw [spec_apply]; unfold held
      isplitl [H3 H4 H5]
      · isplitl [H3]; · iexact H3
        isplitl [H4]; · iexact H4
        iexact H5
      iintro %r %hr ⟨H3, H4, H5⟩
      rw [wp_ret]; imodintro
      iapply Hk
      · ipureintro; exact hr
      · isplitl [H3]; · iexact H3
        isplitl [H4]; · iexact H4
        iexact H5
    · have htest : ¬Scalar.andi (Scalar.cmpi .sge (BitVec.ofNat 32 n) 0#32) (Scalar.cmpf .ogt mx (Named.named κ "exit" 0xC2DC0000#32)) = 1#1 := by
        rw [hge, hand]; exact ht
      rw [show walk exitAt q (slab x1) (slab x2) x3 (n + 1) mx S = _ from if_neg ht]
      simp only [htest, ↓reduceIte, Prog.pure_eq_ret]
      iintro ⟨H, Hk⟩
      rw [wp_ret]; imodintro
      iapply Hk
      · ipureintro; rfl
      · iexact H

end Label

end Cert.Proof.SB
-- ==== Proof.SB.Body.lean ====
/- The kernel's body at one point: from the staged queries, keys, values, triangle and gates it leaves the tile `outOf` in
   the staged result, and everything else as it was. -/
module

public import proofs.«01_k».proof.Proof.SB.Loop
public import Idealize.ShloMosaic.Lib.Writes

@[expose] public section

set_option maxRecDepth 16384

noncomputable section

namespace Cert.Proof.SB

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The tile a point leaves -/

/-- The chains of query tile `j` from the staged blocks. -/
def ends (x0 : Vec F S2x256x128 .bf16) (x1 x2 : Vec F S2x32x128x256 .bf16) (x3 : Vec F S256x256 .bf16) (j : ℕ) : Four (Chain F) :=
  chains exitAt (heads (tile x0)) (slab x1) (slab x2) x3 j

theorem opening_pos (q : Four (FVec F S256x128 .bf16)) (k v : Fin 2 → ℕ → Vec F S1x1x128x256 .bf16) (u : FVec F S256x256 .bf16) :
    ∀ j, 0 < j → opening q k v u j = stepAll q k v u (j - 1) (ownAll q k v u j)
  | _ + 1, _ => rfl

/-- Batch row `b`'s result of a point: the two heads' accumulators side by side, times the gates. -/
def rowOf (S : Four (Chain F)) (x4 : Vec F S2x256x128 .f32) (b : Fin 2) : FVec F S1x256x128 .bf16 :=
  k0_pay2 k0_pay94 (S b 0).2 (S b 1).2 (tile x4 b)

/-- The result tile of a point. -/
def outOf (x0 : Vec F S2x256x128 .bf16) (x1 x2 : Vec F S2x32x128x256 .bf16) (x3 : Vec F S256x256 .bf16)
    (x4 : Vec F S2x256x128 .f32) (j : ℕ) : Vec F S2x256x128 .bf16 :=
  fun y => rowOf (ends x0 x1 x2 x3 j) x4 (y 0) (ix3 0 (y 1) (y 2))

/-- The two stores of a point, read back, are its result tile. -/
theorem read_stores {arg7 : Memref sig .tc .vmem S2x256x128 .bf16} (f) (h0 h1) (R : Fin 2 → FVec F S1x256x128 .bf16) :
    arg7.view.read (Elt F) (arg7.view.writes (Elt F) f
      [⟨Rect.unit (s := S2x256x128) ![1, 0, 0] S1x256x128.size h1, R 1⟩, ⟨Rect.unit (s := S2x256x128) ![0, 0, 0] S1x256x128.size h0, R 0⟩])
      = fun y => R (y 0) (ix3 0 (y 1) (y 2)) := by
  funext y
  obtain ⟨b, r, l, rfl⟩ : ∃ (b : Fin 2) (r : Fin 256) (l : Fin 128), y = ix3 b r l := ⟨y 0, y 1, y 2, eq_ix3 y⟩
  show _ = R b (ix3 0 r l)
  have at_row : ∀ b : Fin 2, ∀ a, ((ix3 b r l : S2x256x128.Idx) a).val = (![b.val, 0, 0] : Fin 3 → ℕ) a + 1 * ((ix3 0 r l : S1x256x128.Idx) a).val := by
    intro b a
    fin_cases a
    · show b.val = b.val + 1 * 0; omega
    · show r.val = 0 + 1 * r.val; omega
    · show l.val = 0 + 1 * l.val; omega
  have hb : b = 0 ∨ b = 1 := by omega
  rcases hb with rfl | rfl
  · rw [View.read_writes_cons_miss_of_axis _ _ _ _ _ (0 : Fin 3) 1 1 rfl rfl rfl (Or.inl (by show (0 : ℕ) < 1; decide))]
    exact View.read_writes_cons_hit_of_coords arg7.view f (Rect.unit (s := S2x256x128) ![0, 0, 0] S1x256x128.size h0) (R 0) [] (ix3 0 r l)
      (ix3 0 r l) (at_row 0)
  · exact View.read_writes_cons_hit_of_coords arg7.view f (Rect.unit (s := S2x256x128) ![1, 0, 0] S1x256x128.size h1) (R 1) _ (ix3 0 r l)
      (ix3 1 r l) (at_row 1)

/-! ## The point's words -/

theorem word_pos : ∀ n : Fin 32, n.val ≠ 0 → ∃ m, n.val = m + 1 := fun n h => ⟨n.val - 1, by omega⟩

theorem offs (i : grid0.Coords) : k0_off1 i = ![0, (i 1).val, 0, 0] ∧ k0_off2 i = ![1, (i 1).val, 0, 0]
    ∧ k0_off5 i = ![0, (i 1).val, 0, 0] ∧ k0_off6 i = ![1, (i 1).val, 0, 0] := by
  revert i; decide +kernel

theorem offs_prev (i : grid0.Coords) (h : k0_cond1 i = 1#1) : 0 < (i 1).val ∧ k0_off3 i = ![0, (i 1).val - 1, 0, 0]
    ∧ k0_off4 i = ![1, (i 1).val - 1, 0, 0] := by
  revert i; decide +kernel

theorem first_point (i : grid0.Coords) (h : ¬k0_cond1 i = 1#1) : (i 1).val = 0 := by
  revert i; decide +kernel

theorem left_enter : ∀ n : Fin 32, Left (n.val - 1) (Scalar.subi (BitVec.ofNat 32 n.val) 2#32) := by
  intro n
  obtain ⟨n, hn⟩ := n
  match n, hn with
  | 0, _ =>
    have h : ¬Scalar.cmpi .sge (Scalar.subi (BitVec.ofNat 32 0) 2#32) 0#32 = 1#1 := by decide
    exact h
  | 1, _ =>
    have h : ¬Scalar.cmpi .sge (Scalar.subi (BitVec.ofNat 32 1) 2#32) 0#32 = 1#1 := by decide
    exact h
  | n + 2, hn =>
    have h : ∀ n : Fin 30, Scalar.subi (BitVec.ofNat 32 (n.val + 2)) 2#32 = BitVec.ofNat 32 n.val := by decide +kernel
    exact ⟨by omega, h ⟨n, by omega⟩⟩

/-! ## The body -/

set_option maxHeartbeats 8000000 in
theorem body_run (c : Dev nD) (i : grid0.Coords)
    (arg2 : Memref sig .tc .vmem S2x256x128 .bf16) (harg2 : arg2.IsWhole) (arg3 : Memref sig .tc .vmem S2x32x128x256 .bf16) (harg3 : arg3.IsWhole)
    (arg4 : Memref sig .tc .vmem S2x32x128x256 .bf16) (harg4 : arg4.IsWhole) (arg5 : Memref sig .tc .vmem S256x256 .bf16) (harg5 : arg5.IsWhole)
    (arg6 : Memref sig .tc .vmem S2x256x128 .f32) (harg6 : arg6.IsWhole) (arg7 : Memref sig .tc .vmem S2x256x128 .bf16) (harg7 : arg7.IsWhole)
    (x0 : Vec F S2x256x128 .bf16) (x1 x2 : Vec F S2x32x128x256 .bf16) (x3 : Vec F S256x256 .bf16) (x4 : Vec F S2x256x128 .f32)
    (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ (∃ d, owns (c : Thread nD τ) arg7 fullShare d)
      ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare (outOf x0 x1 x2 x3 x4 (i 1).val)) -∗ K ⟨⟩))
      ⊢ wp frame (wpE (defs₀ (F := F)) 𝒱₀ (c : Thread nD τ) none) Set.univ
          (cc0_sb_prompt i arg2 harg2 arg3 harg3 arg4 harg4 arg5 harg5 arg6 harg6 arg7 harg7) K := by
  simp only [cc0_sb_prompt_eq_skeleton]; unfold cc0_sb_prompt_skel
  simp only [k0_part11_eq_skeleton]; unfold k0_part11_skel
  obtain ⟨ho1, ho2, ho5, ho6⟩ := offs i
  have hj : (i 1).val < 32 := (i 1).isLt
  have hleft := left_enter ⟨(i 1).val, hj⟩
  simp only at hleft
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0; obtain rfl := harg3.eq_unread hf1; obtain rfl := harg4.eq_unread hf2; obtain rfl := harg5.eq_unread hf3; obtain rfl := harg6.eq_unread hf4
  by_cases h1 : k0_cond1 i = 1#1
  · obtain ⟨hpos, ho3, ho4⟩ := offs_prev i h1
    simp only [h1, ↓reduceDIte]
    simp only [k0_part1_eq_skeleton, k0_part2_eq_skeleton, k0_part3_eq_skeleton, k0_part4_eq_skeleton, k0_part5_eq_skeleton, k0_part6_eq_skeleton, k0_part7_eq_skeleton]
    unfold k0_part1_skel k0_part2_skel k0_part3_skel k0_part4_skel k0_part5_skel k0_part6_skel k0_part7_skel
    simp only [Prog.lift, Prog.bind_op, Prog.bind_ret, Prog.pure_eq_ret]
    iterate 4 (iapply (wp_load 𝒱₀ (c : Thread nD τ) none Set.univ (m := arg2) (View.setOn_subset_set _ _)) $$ H0; iintro H0)
    iterate 8 (iapply (wp_load 𝒱₀ (c : Thread nD τ) none Set.univ (m := arg3) (View.setOn_subset_set _ _)) $$ H1; iintro H1)
    iterate 8 (iapply (wp_load 𝒱₀ (c : Thread nD τ) none Set.univ (m := arg4) (View.setOn_subset_set _ _)) $$ H2; iintro H2)
    iapply (wp_load 𝒱₀ (c : Thread nD τ) none Set.univ (m := arg5) (View.setOn_subset_set _ _)) $$ H3; iintro H3
    rw [read_tile harg2 x0 (off := ![0, 0, 0]) _ 0 rfl, read_tile harg2 x0 (off := ![1, 0, 0]) _ 1 rfl, read_slab harg3 x1 _ 0 _ hj ho1, read_slab harg3 x1 _ 1 _ hj ho2, read_slab harg4 x2 _ 0 _ hj ho1, read_slab harg4 x2 _ 1 _ hj ho2,
      read_slab harg3 x1 _ 0 ((i 1).val - 1) (by omega) ho3, read_slab harg3 x1 _ 1 ((i 1).val - 1) (by omega) ho4, read_slab harg4 x2 _ 0 ((i 1).val - 1) (by omega) ho3,
      read_slab harg4 x2 _ 1 ((i 1).val - 1) (by omega) ho4, read_whole harg5 x3, pay26_eq x3]
    have hE : ends x0 x1 x2 x3 (i 1).val = walk exitAt (heads (tile x0)) (slab x1) (slab x2) x3 ((i 1).val - 1)
        (top (stepAll (heads (tile x0)) (slab x1) (slab x2) x3 ((i 1).val - 1) (ownAll (heads (tile x0)) (slab x1) (slab x2) x3 (i 1).val)))
        (stepAll (heads (tile x0)) (slab x1) (slab x2) x3 ((i 1).val - 1) (ownAll (heads (tile x0)) (slab x1) (slab x2) x3 (i 1).val)) := by
      unfold ends chains
      rw [opening_pos _ _ _ _ _ hpos]
    iapply (wp_call_spec 𝒱₀ (c : Thread nD τ) none Set.univ (spec c harg3 harg4 harg5 x1 x2 x3 _) ((i 1).val - 1) (fun u hu => nomatch hu)
      (spec_le c harg3 harg4 harg5 x1 x2 x3 Set.univ i (heads (tile x0)) ((i 1).val - 1) _ hleft
        (top (stepAll (heads (tile x0)) (slab x1) (slab x2) x3 ((i 1).val - 1) (ownAll (heads (tile x0)) (slab x1) (slab x2) x3 (i 1).val)))
        (stepAll (heads (tile x0)) (slab x1) (slab x2) x3 ((i 1).val - 1) (ownAll (heads (tile x0)) (slab x1) (slab x2) x3 (i 1).val))))
    rw [← hE]
    rw [spec_apply]; unfold held
    isplitl [H1 H2 H3]
    · isplitl [H1]; · iexact H1
      isplitl [H2]; · iexact H2
      iexact H3
    iintro %r %hr ⟨H1, H2, H3⟩
    obtain ⟨w, mx, r00c, r00, r01c, r01, r10c, r10, r11c, r11⟩ := r
    simp only [Gives, Prod.mk.injEq] at hr
    obtain ⟨-, rfl, -, rfl, -, rfl, -, rfl⟩ := hr
    dsimp only
    iapply (wp_load 𝒱₀ (c : Thread nD τ) none Set.univ (m := arg6) (View.setOn_subset_set _ _)) $$ H4; iintro H4
    iapply (wp_load 𝒱₀ (c : Thread nD τ) none Set.univ (m := arg7) (View.setOn_subset_set _ _)) $$ H5; iintro H5
    iapply (wp_store 𝒱₀ (c : Thread nD τ) none Set.univ (m := arg7) (r := Rect.unit (s := S2x256x128) ![0, 0, 0] S1x256x128.size inb_S2x256x128_S1x256x128_0_0_0)
      (Mk := Finset.univ) (S := arg7.view.set) (View.set_slice_subset arg7.view _)) $$ H5; iintro H5
    iapply (wp_load 𝒱₀ (c : Thread nD τ) none Set.univ (m := arg6) (View.setOn_subset_set _ _)) $$ H4; iintro H4
    iapply (wp_load 𝒱₀ (c : Thread nD τ) none Set.univ (m := arg7) (View.setOn_subset_set _ _)) $$ H5; iintro H5
    iapply (wp_store 𝒱₀ (c : Thread nD τ) none Set.univ (m := arg7) (r := Rect.unit (s := S2x256x128) ![1, 0, 0] S1x256x128.size inb_S2x256x128_S1x256x128_1_0_0)
      (Mk := Finset.univ) (S := arg7.view.set) (View.set_slice_subset arg7.view _)) $$ H5; iintro H5
    rw [read_tile harg6 x4 (off := ![0, 0, 0]) _ 0 rfl, read_tile harg6 x4 (off := ![1, 0, 0]) _ 1 rfl]
    rw [wp_ret]; imodintro
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr
    swap; · iexact H5
    ipureintro
    exact read_stores f5 inb_S2x256x128_S1x256x128_0_0_0 inb_S2x256x128_S1x256x128_1_0_0 (rowOf (ends x0 x1 x2 x3 (i 1).val) x4)
  · have h0 := first_point i h1
    simp only [h1, ↓reduceDIte]
    simp only [k0_part8_eq_skeleton, k0_part9_eq_skeleton, k0_part10_eq_skeleton]
    unfold k0_part8_skel k0_part9_skel k0_part10_skel
    simp only [Prog.lift, Prog.bind_op, Prog.bind_ret, Prog.pure_eq_ret]
    iterate 4 (iapply (wp_load 𝒱₀ (c : Thread nD τ) none Set.univ (m := arg2) (View.setOn_subset_set _ _)) $$ H0; iintro H0)
    iterate 4 (iapply (wp_load 𝒱₀ (c : Thread nD τ) none Set.univ (m := arg3) (View.setOn_subset_set _ _)) $$ H1; iintro H1)
    iterate 4 (iapply (wp_load 𝒱₀ (c : Thread nD τ) none Set.univ (m := arg4) (View.setOn_subset_set _ _)) $$ H2; iintro H2)
    iapply (wp_load 𝒱₀ (c : Thread nD τ) none Set.univ (m := arg5) (View.setOn_subset_set _ _)) $$ H3; iintro H3
    rw [read_tile harg2 x0 (off := ![0, 0, 0]) _ 0 rfl, read_tile harg2 x0 (off := ![1, 0, 0]) _ 1 rfl, read_slab harg3 x1 _ 0 _ hj ho5, read_slab harg3 x1 _ 1 _ hj ho6, read_slab harg4 x2 _ 0 _ hj ho5, read_slab harg4 x2 _ 1 _ hj ho6,
      read_whole harg5 x3, pay79_eq x3]
    have hE : ends x0 x1 x2 x3 (i 1).val = walk exitAt (heads (tile x0)) (slab x1) (slab x2) x3 ((i 1).val - 1)
        (top (ownAll (heads (tile x0)) (slab x1) (slab x2) x3 (i 1).val)) (ownAll (heads (tile x0)) (slab x1) (slab x2) x3 (i 1).val) := by
      unfold ends chains
      rw [h0]; rfl
    iapply (wp_call_spec 𝒱₀ (c : Thread nD τ) none Set.univ (spec c harg3 harg4 harg5 x1 x2 x3 _) ((i 1).val - 1) (fun u hu => nomatch hu)
      (spec_le c harg3 harg4 harg5 x1 x2 x3 Set.univ i (heads (tile x0)) ((i 1).val - 1) _ hleft
        (top (ownAll (heads (tile x0)) (slab x1) (slab x2) x3 (i 1).val))
        (ownAll (heads (tile x0)) (slab x1) (slab x2) x3 (i 1).val)))
    rw [← hE]
    rw [spec_apply]; unfold held
    isplitl [H1 H2 H3]
    · isplitl [H1]; · iexact H1
      isplitl [H2]; · iexact H2
      iexact H3
    iintro %r %hr ⟨H1, H2, H3⟩
    obtain ⟨w, mx, r00c, r00, r01c, r01, r10c, r10, r11c, r11⟩ := r
    simp only [Gives, Prod.mk.injEq] at hr
    obtain ⟨-, rfl, -, rfl, -, rfl, -, rfl⟩ := hr
    dsimp only
    iapply (wp_load 𝒱₀ (c : Thread nD τ) none Set.univ (m := arg6) (View.setOn_subset_set _ _)) $$ H4; iintro H4
    iapply (wp_load 𝒱₀ (c : Thread nD τ) none Set.univ (m := arg7) (View.setOn_subset_set _ _)) $$ H5; iintro H5
    iapply (wp_store 𝒱₀ (c : Thread nD τ) none Set.univ (m := arg7) (r := Rect.unit (s := S2x256x128) ![0, 0, 0] S1x256x128.size inb_S2x256x128_S1x256x128_0_0_0)
      (Mk := Finset.univ) (S := arg7.view.set) (View.set_slice_subset arg7.view _)) $$ H5; iintro H5
    iapply (wp_load 𝒱₀ (c : Thread nD τ) none Set.univ (m := arg6) (View.setOn_subset_set _ _)) $$ H4; iintro H4
    iapply (wp_load 𝒱₀ (c : Thread nD τ) none Set.univ (m := arg7) (View.setOn_subset_set _ _)) $$ H5; iintro H5
    iapply (wp_store 𝒱₀ (c : Thread nD τ) none Set.univ (m := arg7) (r := Rect.unit (s := S2x256x128) ![1, 0, 0] S1x256x128.size inb_S2x256x128_S1x256x128_1_0_0)
      (Mk := Finset.univ) (S := arg7.view.set) (View.set_slice_subset arg7.view _)) $$ H5; iintro H5
    rw [read_tile harg6 x4 (off := ![0, 0, 0]) _ 0 rfl, read_tile harg6 x4 (off := ![1, 0, 0]) _ 1 rfl]
    rw [wp_ret]; imodintro
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr
    swap; · iexact H5
    ipureintro
    exact read_stores f5 inb_S2x256x128_S1x256x128_0_0_0 inb_S2x256x128_S1x256x128_1_0_0 (rowOf (ends x0 x1 x2 x3 (i 1).val) x4)

end Cert.Proof.SB
-- ==== Proof.SB.Run.lean ====
/- The kernel's run: its host operations, its pipeline over the 96 points with `body_run` at each, and what it leaves. -/
module

public import proofs.«01_k».proof.Proof.Gen.KernelIdeal.Launch
public import proofs.«01_k».proof.Proof.Gen.KernelIdeal.Points
public import proofs.«01_k».proof.Proof.SB.Body
public import Idealize.ShloMosaic.Lib.Ring
public import Idealize.ShloMosaic.Lib.WordCmp
public import Idealize.ShloMosaic.Lib.Claim

@[expose] public section

set_option maxRecDepth 16384

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host operations before the pipeline. -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

/-- The host operations leave `main_arg0` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg1` as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg2` as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations leave `main_arg3` as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's staging buffer holds its block at every point. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (show ∀ w : Fin 6, (spec0 w).arr.view.ref ≠ main_arg0 by decide))).trans (V_main_arg0 m c),
      ((h c).2 main_arg1 (Pipeline.mem_restRefs_of main_arg1 (by decide) (show ∀ w : Fin 6, (spec0 w).arr.view.ref ≠ main_arg1 by decide))).trans (V_main_arg1 m c),
      ((h c).2 main_arg2 (Pipeline.mem_restRefs_of main_arg2 (by decide) (show ∀ w : Fin 6, (spec0 w).arr.view.ref ≠ main_arg2 by decide))).trans (V_main_arg2 m c),
      ((h c).2 main_arg3 (Pipeline.mem_restRefs_of main_arg3 (by decide) (show ∀ w : Fin 6, (spec0 w).arr.view.ref ≠ main_arg3 by decide))).trans (V_main_arg3 m c)⟩) h

abbrev ms0_0 (t : Fin (cfg0 (F := F)).N) : Memref sig .tc .vmem S2x256x128 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S2x32x128x256 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S2x32x128x256 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S256x256 .bf16 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S2x256x128 .f32 := win0_4.stage ((cfg0 (F := F)).slots t 4)
abbrev hs0_4 (t : Fin (cfg0 (F := F)).N) : (ms0_4 t).IsWhole := hstage0_4 (((cfg0 (F := F)).slots t 4).cast nbuf0_4)
abbrev ms0_5 (t : Fin (cfg0 (F := F)).N) : Memref sig .tc .vmem S2x256x128 .bf16 := win0_5.stage ((cfg0 (F := F)).slots t 5)
abbrev hs0_5 (t : Fin (cfg0 (F := F)).N) : (ms0_5 t).IsWhole := hstage0_5 (((cfg0 (F := F)).slots t 5).cast nbuf0_5)

/-- What the result's staging buffer holds after the body at point `t`: the point's tile. -/
def outsAt0 (c : Dev nD) (t : Fin (cfg0 (F := F)).N) : Vec F S2x256x128 .bf16 :=
  outOf (iblk m c 0 t) (iblk m c 1 t) (iblk m c 2 t) (iblk m c 3 t) (iblk m c 4 t) (grid0.coords t 1).val

/-! ## The pipeline's proof data -/

/-- The pipeline's data on core `c`: the arrays as the host operations leave them; after the body at point `t`, each input's
buffer at its block and the result's at its tile; full shares. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q _ := fullShare
  owed _ := 0

/-- The data's arrays are what the host operations leave. -/
theorem A_eq (c : Dev nD) (w : Fin (cfg0 (F := F)).W) : (dats m 0 c).A w = V m c (Pipeline.arrRef spec0 w) := by
  dsimp only [dats]

/-- What the body leaves, window by window (the proof data's `match` reduced by `dsimp`). -/
theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = iblk m c 4 t := rfl
theorem after0_5 (c : Dev nD) (t : Fin (cfg0 (F := F)).N) : (dats m 0 c).after 5 t = (outsAt0 m c t) := rfl

/-- Each input's current staging buffer holds its block at every point, fetched there or not (`beforeK_W_of`). -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point, by `body_run`. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

set_option backward.isDefEq.respectTransparency.types false in
/-- The launch: every run ends, with the pipeline's arrays at what its data say and every counter at zero. -/
theorem run_main_quiescent : θ_run defs (onTc (τ := τ) (main (F := F))) (s₀ m ρ) (fun r => (Pipeline.FramePost (cfgs (F := F)) (dats m) 0 (V m)) r ∧ r.2.sem = fun _ => 0) :=
  Pipeline.θ_run_frame (Q' := _) (cfgs (F := F)) (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- `run_main_quiescent` without the counters. -/
theorem run_main : θ_run defs (onTc (τ := τ) (main (F := F))) (s₀ m ρ) (Pipeline.FramePost (cfgs (F := F)) (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Proof.SB
-- ==== Proof.SV.Read.lean ====
/- The steps of a chain read at an index, over the extended reals. -/
module

public import proofs.«01_k».proof.Proof.SB.Body
public import Idealize.ShloMosaic.Lib.Pointwise
public import Idealize.ShloMosaic.Lib.WordCmp
public import Idealize.ShloMosaic.PureOps.Ideal.Laws

@[expose] public section

set_option maxRecDepth 16384

noncomputable section

namespace Cert.Proof.SV

open Cert.KernelIdeal Cert.KernelIdeal.Gen
open Idealize.ShloMosaic
open Cert.Proof.SB

theorem select_lt {α : Type} (a b : ℕ) (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat (by simpa using ha) (by simpa using hb)]
  by_cases h : a < b <;> simp [h, Scalar.select]

theorem select_ge {α : Type} (a b : ℕ) (ha : a < 2 ^ 31) (hb : b < 2 ^ 31) (x y : α) :
    Scalar.select (IntOp.cmpi .sge (BitVec.ofNat 32 a) (BitVec.ofNat 32 b)) x y = if b ≤ a then x else y := by
  rw [WordCmp.cmpi_sge_ofNat (by simpa using ha) (by simpa using hb)]
  by_cases h : b ≤ a <;> simp [h, Scalar.select]

theorem logits_apply (q : FVec Ideal S256x128 .bf16) (k : Vec Ideal S1x1x128x256 .bf16) (r s : Fin 256) :
    logits q k (ix2 r s) = ∑ d : Fin 128, q (ix2 r d) * k (ix4 0 0 d s) := by
  unfold logits
  pointwise

theorem total_apply (u : FVec Ideal S256x256 .bf16) (l : FVec Ideal S256x256 .f32) (r s : Fin 256) :
    total u l (ix2 r s) = (∑ i : Fin 256, l (ix2 r i) * u (ix2 i s)) + ∑ i : Fin 256, (l (ix2 r i) - l (ix2 r i)) * u (ix2 i s) := by
  unfold total
  pointwise

theorem keepLog_apply (z : FVec Ideal S256x256 .f32) (i : S256x256.Idx) :
    keepLog z i = min (0 - z i) 0 - Ideal.log (1 + Ideal.exp (0 - max (z i) (-z i))) := by
  unfold keepLog zeros
  pointwise
  rfl

theorem weights_apply (z t : FVec Ideal S256x256 .f32) (S : Chain Ideal) (r s : Fin 256) :
    weights z t S (ix2 r s) = Ideal.exp (z (ix2 r s) + t (ix2 r s) + S.1 (ix2 r 0)) := by
  unfold weights
  pointwise

theorem advance_col (t a : FVec Ideal S256x256 .f32) (v : Vec Ideal S1x1x128x256 .bf16) (S : Chain Ideal) (r : Fin 256) :
    (advance t a v S).1 (ix2 r 0) = S.1 (ix2 r 0) + t (ix2 r 0) := by
  unfold advance
  pointwise

theorem advance_acc (t a : FVec Ideal S256x256 .f32) (v : Vec Ideal S1x1x128x256 .bf16) (S : Chain Ideal) (r : Fin 256) (l : Fin 128) :
    (advance t a v S).2 (ix2 r l) = S.2 (ix2 r l) + ∑ s : Fin 256, a (ix2 r s) * v (ix4 0 0 l s) := by
  unfold advance
  pointwise

theorem earlier_apply {α : Type} (x y : S256x256.Idx → α) (r s : Fin 256) :
    select earlier x y (ix2 r s) = if s < r then x (ix2 r s) else y (ix2 r s) := by
  unfold earlier
  unfold_payloads
  pointwise
  rw [select_lt _ _ (by omega) (by omega)]
  rfl

theorem heads_apply (x : Fin 2 → Vec Ideal S1x256x128 .bf16) (b h : Fin 2) (r : Fin 256) (d : Fin 128) :
    heads x b h (ix2 r d) = if d.val / 64 = h.val then x b (ix3 0 r d) else 0 := by
  fin_cases b <;> fin_cases h <;> unfold heads <;> unfold_payloads <;> pointwise
  all_goals
    have hd := d.isLt
    rw [show (64#32 : BitVec 32) = BitVec.ofNat 32 64 from rfl]
    first
      | rw [select_lt _ _ (by omega) (by omega)]; exact if_congr (by omega) rfl rfl
      | rw [select_ge _ _ (by omega) (by omega)]; exact if_congr (by omega) rfl rfl

theorem start_col (r : Fin 256) : (start (F := Ideal)).1 (ix2 r 0) = 0 := by
  unfold start
  unfold_payloads
  pointwise

theorem start_acc (r : Fin 256) (l : Fin 128) : (start (F := Ideal)).2 (ix2 r l) = 0 := by
  unfold start
  unfold_payloads
  pointwise

theorem rowOf_apply (S : Four (Chain Ideal)) (x4 : Vec Ideal S2x256x128 .f32) (b : Fin 2) (r : Fin 256) (l : Fin 128) :
    rowOf S x4 b (ix3 0 r l) = (if l.val < 64 then (S b 0).2 (ix2 r l) else (S b 1).2 (ix2 r l)) * x4 (ix3 b r l) := by
  unfold rowOf
  unfold_payloads
  pointwise
  rw [show (64#32 : BitVec 32) = BitVec.ofNat 32 64 from rfl, select_lt _ _ (by omega) (by omega)]
  rfl

theorem zeros_apply (i : S256x256.Idx) : zeros (F := Ideal) i = 0 := by
  unfold zeros
  pointwise

end Cert.Proof.SV
-- ==== Proof.SV.Math.lean ====
/- The mathematics of one query: its logits are real numbers `z k`, one for each key `k`, and only the keys before the
   query, at position `Q`, count. The weight of key `k` is `exp (z k + ∑ i from k to Q - 1, keep (z i))`. -/
module

public import Idealize.ShloMosaic.PureOps.Ideal.Laws
public import Mathlib.Algebra.BigOperators.Intervals

@[expose] public section

noncomputable section

namespace Cert.Proof.SV

open Idealize.ShloMosaic
open Finset

/-- The log of the probability to keep walking past a key of logit `z`. -/
def keep (z : ℝ) : ℝ := min (-z) 0 - Real.log (1 + Real.exp (-|z|))

/-- The sum of the log-keeps from key `k` up to the query. -/
def later (Q : ℕ) (z : ℕ → ℝ) (k : ℕ) : ℝ := ∑ i ∈ Ico k Q, keep (z i)

/-- The weight of key `k` for the query. -/
def share (Q : ℕ) (z : ℕ → ℝ) (k : ℕ) : ℝ := Real.exp (z k + later Q z k)

/-! ## Real numbers among the extended ones -/

theorem coe_max (a b : ℝ) : max (a : EReal) b = ((max a b : ℝ) : EReal) :=
  (EReal.coe_strictMono.monotone.map_max).symm

theorem coe_min (a b : ℝ) : min (a : EReal) b = ((min a b : ℝ) : EReal) :=
  (EReal.coe_strictMono.monotone.map_min).symm

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

theorem max_neg (z : ℝ) : max (z : EReal) (-z) = ((|z| : ℝ) : EReal) := by
  rw [← EReal.coe_neg, coe_max]
  rfl

theorem log_part (z : ℝ) :
    Ideal.log (1 + Ideal.exp (-((|z| : ℝ) : EReal))) = ((Real.log (1 + Real.exp (-|z|)) : ℝ) : EReal) := by
  rw [← EReal.coe_neg, Ideal.exp_coe, ← EReal.coe_one, ← EReal.coe_add, Ideal.log_coe, if_neg (not_le.mpr (by positivity))]

/-- The kernel's log-keep of a real logit. -/
theorem keep_kernel (z : ℝ) :
    min (0 - (z : EReal)) 0 - Ideal.log (1 + Ideal.exp (0 - max (z : EReal) (-z))) = (keep z : EReal) := by
  rw [max_neg, zero_sub, zero_sub, log_part, ← EReal.coe_neg, ← EReal.coe_zero, coe_min, ← EReal.coe_sub]
  rfl

/-! ## Sums over a block of keys -/

/-- A sum over the places `a ≤ i < b` of a block that starts at `c`. -/
theorem sum_block {M : Type*} [AddCommMonoid M] {n : ℕ} (c a b : ℕ) (hb : b ≤ n) (f : ℕ → M) :
    (∑ i : Fin n, if a ≤ i.val ∧ i.val < b then f (c + i) else 0) = ∑ k ∈ Ico (c + a) (c + b), f k := by
  rw [Fin.sum_univ_eq_sum_range (fun i => if a ≤ i ∧ i < b then f (c + i) else 0) n, ← sum_filter, Nat.add_comm c a,
    Nat.add_comm c b, ← Finset.sum_Ico_add]
  refine sum_congr ?_ fun _ _ => rfl
  ext i
  simp only [mem_filter, mem_range, mem_Ico]
  omega

theorem later_step (Q : ℕ) (z : ℕ → ℝ) {k n : ℕ} (h : k ≤ n) (hn : n ≤ Q) :
    (∑ i ∈ Ico k n, keep (z i)) + later Q z n = later Q z k := sum_Ico_consecutive _ h hn

end Cert.Proof.SV
-- ==== Proof.SV.Chain.lean ====
/- What a chain holds, in terms of the logits of its queries: after the blocks from block `n` on, the column holds the sum
   of the log-keeps from key `256 n` on, and the accumulator the weighted sum of the values from there on. -/
module

public import proofs.«01_k».proof.Proof.SV.Read
public import proofs.«01_k».proof.Proof.SV.Math

@[expose] public section

set_option maxRecDepth 16384

noncomputable section

namespace Cert.Proof.SV

open Cert.KernelIdeal Cert.KernelIdeal.Gen
open Idealize.ShloMosaic
open Cert.Proof.SB
open Finset

/-- The triangle: `1` from the key on. -/
def Triangle (u : FVec Ideal S256x256 .bf16) : Prop := ∀ i s : Fin 256, u (ix2 i s) = if s ≤ i then 1 else 0

/-- The logits of the 256 queries of a chain against every key block. -/
def Logits (q : FVec Ideal S256x128 .bf16) (k : ℕ → Vec Ideal S1x1x128x256 .bf16) (z : Fin 256 → ℕ → ℝ) : Prop :=
  ∀ n, n < 32 → ∀ r s : Fin 256, logits q (k n) (ix2 r s) = (z r (256 * n + s.val) : EReal)

/-- The values of every key block, by feature and key. -/
def Values (v : ℕ → Vec Ideal S1x1x128x256 .bf16) (y : Fin 128 → ℕ → EReal) : Prop :=
  ∀ n, n < 32 → ∀ (l : Fin 128) (s : Fin 256), v n (ix4 0 0 l s) = y l (256 * n + s.val)

/-- The chain of query tile `j` after the blocks from block `n` on. -/
def Past (j : ℕ) (z : Fin 256 → ℕ → ℝ) (y : Fin 128 → ℕ → EReal) (n : ℕ) (S : Chain Ideal) : Prop :=
  (∀ r : Fin 256, S.1 (ix2 r 0) = (later (256 * j + r.val) (z r) (256 * n) : EReal))
  ∧ ∀ (r : Fin 256) (l : Fin 128), S.2 (ix2 r l)
      = ∑ k ∈ Ico (256 * n) (256 * j + r.val), (share (256 * j + r.val) (z r) k : EReal) * y l k

/-- The totals of a row of real log-keeps. -/
theorem total_real {u : FVec Ideal S256x256 .bf16} (hu : Triangle u) (l : FVec Ideal S256x256 .f32) (r : Fin 256) (c b : ℕ) (hb : b ≤ 256)
    (f : ℕ → ℝ) (hl : ∀ i : Fin 256, l (ix2 r i) = ((if i.val < b then f (c + i.val) else 0 : ℝ) : EReal)) (s : Fin 256) :
    total u l (ix2 r s) = ((∑ k ∈ Ico (c + s.val) (c + b), f k : ℝ) : EReal) := by
  rw [total_apply, ← sum_block (n := 256) c s.val b hb f, coe_sum]
  have h2 : ∀ i : Fin 256, (l (ix2 r i) - l (ix2 r i)) * u (ix2 i s) = 0 := by
    intro i
    rw [hl, ← EReal.coe_sub, sub_self, EReal.coe_zero, zero_mul]
  rw [sum_congr rfl fun i _ => h2 i, sum_const_zero, add_zero]
  refine sum_congr rfl fun i _ => ?_
  rw [hl, hu]
  by_cases h1 : s ≤ i
  · by_cases h3 : i.val < b
    · simp [h1, h3]
    · simp [h3]
  · have h1' : ¬ s.val ≤ i.val := h1
    simp [h1, h1']

theorem keep_logits {q : FVec Ideal S256x128 .bf16} {k : ℕ → Vec Ideal S1x1x128x256 .bf16} {z : Fin 256 → ℕ → ℝ} (hz : Logits q k z)
    {n : ℕ} (hn : n < 32) (r s : Fin 256) : keepLog (logits q (k n)) (ix2 r s) = (keep (z r (256 * n + s.val)) : EReal) := by
  rw [keepLog_apply, hz n hn, keep_kernel]

/-- The queries' own block. -/
theorem ownStep_past {q : FVec Ideal S256x128 .bf16} {k v : ℕ → Vec Ideal S1x1x128x256 .bf16} {u : FVec Ideal S256x256 .bf16}
    {z : Fin 256 → ℕ → ℝ} {y : Fin 128 → ℕ → EReal} (hu : Triangle u) (hz : Logits q k z) (hv : Values v y) {j : ℕ} (hj : j < 32) :
    Past j z y j (ownStep q (k j) (v j) u start) := by
  have ht : ∀ r s : Fin 256, total u (select earlier (keepLog (logits q (k j))) zeros) (ix2 r s)
      = (later (256 * j + r.val) (z r) (256 * j + s.val) : EReal) := fun r s => by
    refine total_real hu _ r (256 * j) r.val r.isLt.le (fun i => keep (z r i)) (fun i => ?_) s
    rw [earlier_apply, keep_logits hz hj, zeros_apply]
    by_cases h : i < r
    · have h' : i.val < r.val := h
      rw [if_pos h, if_pos h']
    · have h' : ¬ i.val < r.val := h
      rw [if_neg h, if_neg h', EReal.coe_zero]
  unfold ownStep
  constructor
  · intro r
    rw [advance_col, ht, start_col, zero_add]
    rfl
  · intro r l
    rw [advance_acc, start_acc, zero_add]
    have h := sum_block (n := 256) (256 * j) 0 r.val r.isLt.le (fun k => (share (256 * j + r.val) (z r) k : EReal) * y l k)
    rw [Nat.add_zero] at h
    rw [← h]
    refine sum_congr rfl fun s _ => ?_
    rw [earlier_apply, zeros_apply, weights_apply, ht, start_col, hz j hj, hv j hj, add_zero, ← EReal.coe_add, Ideal.exp_coe]
    by_cases h : s < r
    · have h' : s.val < r.val := h
      rw [if_pos h, if_pos ⟨Nat.zero_le _, h'⟩]
      rfl
    · have h' : ¬ s.val < r.val := h
      rw [if_neg h, if_neg fun w => h' w.2, zero_mul]

/-- A block before the queries' own. -/
theorem blockStep_past {q : FVec Ideal S256x128 .bf16} {k v : ℕ → Vec Ideal S1x1x128x256 .bf16} {u : FVec Ideal S256x256 .bf16}
    {z : Fin 256 → ℕ → ℝ} {y : Fin 128 → ℕ → EReal} (hu : Triangle u) (hz : Logits q k z) (hv : Values v y) {j n : ℕ} (hj : j < 32)
    (hn : n < j) {S : Chain Ideal} (hS : Past j z y (n + 1) S) : Past j z y n (blockStep q (k n) (v n) u S) := by
  have hn' : n < 32 := by omega
  have ht : ∀ r s : Fin 256, total u (keepLog (logits q (k n))) (ix2 r s)
      = ((∑ i ∈ Ico (256 * n + s.val) (256 * (n + 1)), keep (z r i) : ℝ) : EReal) := fun r s => by
    refine total_real hu _ r (256 * n) 256 le_rfl (fun i => keep (z r i)) (fun i => ?_) s
    rw [keep_logits hz hn', if_pos i.isLt]
  have hsum : ∀ r s : Fin 256, (∑ i ∈ Ico (256 * n + s.val) (256 * (n + 1)), keep (z r i)) + later (256 * j + r.val) (z r) (256 * (n + 1))
      = later (256 * j + r.val) (z r) (256 * n + s.val) := fun r s => later_step _ _ (by omega) (by omega)
  unfold blockStep
  constructor
  · intro r
    rw [advance_col, ht, hS.1, add_comm, ← EReal.coe_add, hsum]
    rfl
  · intro r l
    rw [advance_acc, hS.2, add_comm, ← sum_Ico_consecutive _ (show 256 * n ≤ 256 * (n + 1) by omega) (show 256 * (n + 1) ≤ 256 * j + r.val by omega)]
    congr 1
    have h := sum_block (n := 256) (256 * n) 0 256 le_rfl (fun k => (share (256 * j + r.val) (z r) k : EReal) * y l k)
    rw [Nat.add_zero] at h
    rw [show 256 * (n + 1) = 256 * n + 256 by omega, ← h]
    refine sum_congr rfl fun s _ => ?_
    rw [if_pos ⟨Nat.zero_le _, s.isLt⟩, weights_apply, ht, hS.1, hz n hn', hv n hn', add_assoc, ← EReal.coe_add, hsum, ← EReal.coe_add, Ideal.exp_coe]
    rfl

/-- The largest entry of the columns is above `⊥`, for real columns. -/
theorem top_real (S : Four (Chain Ideal)) (x : ℝ) (h : (S 0 0).1 (ix2 0 0) = (x : EReal)) :
    Scalar.cmpf .ogt (top S) (⊥ : EReal) = 1#1 := by
  unfold top
  unfold_payloads
  pointwise
  have h' : (⊥ : EReal) < (S 0 0).1 (ix2 0 0) := by rw [h]; exact EReal.bot_lt_coe x
  rw [decide_eq_true]
  · rfl
  · exact (Finset.lt_fold_max _).mpr (Or.inr ⟨(0, 0), mem_univ _,
      lt_max_of_lt_left (lt_max_of_lt_left (lt_max_of_lt_left h'))⟩)

/-- The walk never ends early: it passes every block. -/
theorem walk_past {q : Four (FVec Ideal S256x128 .bf16)} {k v : Fin 2 → ℕ → Vec Ideal S1x1x128x256 .bf16} {u : FVec Ideal S256x256 .bf16}
    {z : Fin 2 → Fin 2 → Fin 256 → ℕ → ℝ} {y : Fin 2 → Fin 128 → ℕ → EReal} (hu : Triangle u) (hz : ∀ b h, Logits (q b h) (k b) (z b h))
    (hv : ∀ b, Values (v b) (y b)) {j : ℕ} (hj : j < 32) :
    ∀ n, n ≤ j → ∀ S : Four (Chain Ideal), (∀ b h, Past j (z b h) (y b) n (S b h)) →
      ∀ b h, Past j (z b h) (y b) 0 (walk (⊥ : EReal) q k v u n (top S) S b h) := by
  intro n
  induction n with
  | zero => intro _ S hS b h; exact hS b h
  | succ n ih =>
    intro hn S hS b h
    rw [walk, if_pos (top_real S _ ((hS 0 0).1 0))]
    exact ih (by omega) _ (fun b h => blockStep_past hu (hz b h) (hv b) hj (by omega) (hS b h)) b h

theorem opening_past {q : Four (FVec Ideal S256x128 .bf16)} {k v : Fin 2 → ℕ → Vec Ideal S1x1x128x256 .bf16} {u : FVec Ideal S256x256 .bf16}
    {z : Fin 2 → Fin 2 → Fin 256 → ℕ → ℝ} {y : Fin 2 → Fin 128 → ℕ → EReal} (hu : Triangle u) (hz : ∀ b h, Logits (q b h) (k b) (z b h))
    (hv : ∀ b, Values (v b) (y b)) : ∀ j, j < 32 → ∀ b h, Past j (z b h) (y b) (j - 1) (opening q k v u j b h)
  | 0, hj, b, h => ownStep_past hu (hz b h) (hv b) hj
  | j + 1, hj, b, h => blockStep_past hu (hz b h) (hv b) hj (by omega) (ownStep_past hu (hz b h) (hv b) hj)

/-- The chains of a point: the weighted sum of the values of every key before the query. -/
theorem chains_past {q : Four (FVec Ideal S256x128 .bf16)} {k v : Fin 2 → ℕ → Vec Ideal S1x1x128x256 .bf16} {u : FVec Ideal S256x256 .bf16}
    {z : Fin 2 → Fin 2 → Fin 256 → ℕ → ℝ} {y : Fin 2 → Fin 128 → ℕ → EReal} (hu : Triangle u) (hz : ∀ b h, Logits (q b h) (k b) (z b h))
    (hv : ∀ b, Values (v b) (y b)) {j : ℕ} (hj : j < 32) (b h : Fin 2) : Past j (z b h) (y b) 0 (chains (⊥ : EReal) q k v u j b h) :=
  walk_past hu hz hv hj (j - 1) (by omega) _ (opening_past hu hz hv j hj) b h

end Cert.Proof.SV
-- ==== Proof.SV.Spec.lean ====
/- The result in closed form, as a function of the four arguments: `x0` the queries, `x1` the keys, `x2` the values
   (both in tiles of 256 rows, feature by row), `x3` the gates. Batch rows, positions and features are natural numbers,
   meant below 2, 8192 and 384. -/
module

public import proofs.«01_k».proof.Proof.SV.Math
public import Idealize.ShloMosaic.Lib.Pointwise

@[expose] public section

noncomputable section

namespace Cert.Proof.SV

open Idealize.ShloMosaic
open Finset

/-- The shapes of the arguments. -/
abbrev Rows : Shape := ⟨2, ![16384, 384]⟩
abbrev Tiles : Shape := ⟨3, ![64, 384, 256]⟩
abbrev Wide : Shape := ⟨2, ![16384, 1024]⟩

/-- Feature `f` of the query at position `t` of batch row `b`. -/
def qry (x : Rows.Idx → EReal) (b t f : ℕ) : EReal := x (ix2 (Fin.ofNat 16384 (b * 8192 + t)) (Fin.ofNat 384 f))

/-- Feature `f` of the key (or value) at position `k` of batch row `b`. -/
def key (x : Tiles.Idx → EReal) (b k f : ℕ) : EReal := x (ix3 (Fin.ofNat 64 (b * 32 + k / 256)) (Fin.ofNat 384 f) (Fin.ofNat 256 k))

/-- The gate of feature `f` at position `t` of batch row `b`. -/
def gate (x : Wide.Idx → EReal) (b t f : ℕ) : EReal := x (ix2 (Fin.ofNat 16384 (b * 8192 + t)) (Fin.ofNat 1024 f))

/-- The logit of the query at `t` and the key at `k`, of head `h`. -/
def logit (x0 : Rows.Idx → EReal) (x1 : Tiles.Idx → EReal) (b h t k : ℕ) : EReal :=
  ∑ d : Fin 64, qry x0 b t (64 * h + d.val) * key x1 b k (64 * h + d.val)

/-- The logit as a real number. -/
def score (x0 : Rows.Idx → EReal) (x1 : Tiles.Idx → EReal) (b h t k : ℕ) : ℝ := (logit x0 x1 b h t k).toReal

/-- The result at position `t` and feature `f` of batch row `b`. -/
def answer (x0 : Rows.Idx → EReal) (x1 x2 : Tiles.Idx → EReal) (x3 : Wide.Idx → EReal) (b t f : ℕ) : EReal :=
  (∑ k ∈ Ico 0 t, (share t (score x0 x1 b (f / 64) t) k : EReal) * key x2 b k f) * gate x3 b t f

/-- Every entry is a finite number. -/
def Finite {s : Shape} (x : s.Idx → EReal) : Prop := ∀ i, ∃ r : ℝ, x i = (r : EReal)

/-- The logits of finite queries and keys are real. -/
theorem logit_eq {x0 : Rows.Idx → EReal} {x1 : Tiles.Idx → EReal} (h0 : Finite x0) (h1 : Finite x1) (b h t k : ℕ) :
    logit x0 x1 b h t k = (score x0 x1 b h t k : EReal) := by
  have : ∃ r : ℝ, logit x0 x1 b h t k = (r : EReal) := by
    choose f0 e0 using h0
    choose f1 e1 using h1
    refine ⟨∑ d : Fin 64, f0 (ix2 (Fin.ofNat 16384 (b * 8192 + t)) (Fin.ofNat 384 (64 * h + d.val)))
      * f1 (ix3 (Fin.ofNat 64 (b * 32 + k / 256)) (Fin.ofNat 384 (64 * h + d.val)) (Fin.ofNat 256 k)), ?_⟩
    rw [coe_sum]
    refine sum_congr rfl fun d _ => ?_
    rw [EReal.coe_mul, ← e0, ← e1]
    rfl
  obtain ⟨r, hr⟩ := this
  unfold score
  rw [hr, EReal.toReal_coe]

/-- A sum over the 128 features of a head pair, of one head's. -/
theorem sum_head (h : Fin 2) (f : ℕ → EReal) :
    (∑ d : Fin 128, if d.val / 64 = h.val then f d.val else 0) = ∑ d : Fin 64, f (64 * h.val + d.val) := by
  have h1 := sum_block (n := 128) 0 (64 * h.val) (64 * h.val + 64) (by omega) f
  have h2 := sum_block (n := 64) (64 * h.val) 0 64 le_rfl f
  have e2 : ∑ d : Fin 64, f (64 * h.val + d.val) = ∑ i : Fin 64, if 0 ≤ i.val ∧ i.val < 64 then f (64 * h.val + i.val) else 0 :=
    sum_congr rfl fun i _ => (if_pos ⟨Nat.zero_le _, i.isLt⟩).symm
  rw [e2, h2, Nat.add_zero]
  rw [Nat.zero_add, Nat.zero_add] at h1
  rw [← h1]
  refine sum_congr rfl fun d _ => ?_
  rw [Nat.zero_add]
  exact if_congr (by omega) rfl rfl

end Cert.Proof.SV
-- ==== Proof.SV.Blocks.lean ====
/- What the region's windows hold at a point, read off the arguments. -/
module

public import proofs.«01_k».proof.Proof.SB.Run
public import proofs.«01_k».proof.Proof.SV.Chain
public import proofs.«01_k».proof.Proof.SV.Spec
public import Idealize.ShloMosaic.Lib.Pipeline.ValueKit
public import Idealize.ShloMosaic.Lib.Claim

@[expose] public section

set_option maxRecDepth 16384

noncomputable section

namespace Cert.Proof.SV

open Cert.KernelIdeal Cert.KernelIdeal.Gen
open Idealize.ShloMosaic Idealize.ShloMosaic.TcCoe Idealize.SL.Sem
open Cert.Proof.SB

variable (m : (ℓ : Loc nD τ sig) → Buf (Elt Ideal) ℓ) (c : Dev nD)

/-- The block each window names at a point: head pair `p`, query tile `j`. -/
theorem blocks : ∀ t : Fin (cfg0 (F := Ideal)).N,
    win0_0.index t = ![0, (grid0.coords t 1).val, (grid0.coords t 0).val]
    ∧ win0_1.index t = ![0, 0, (grid0.coords t 0).val, 0]
    ∧ win0_2.index t = ![0, 0, (grid0.coords t 0).val, 0]
    ∧ win0_3.index t = ![0, 0]
    ∧ win0_4.index t = ![0, (grid0.coords t 1).val, (grid0.coords t 0).val]
    ∧ win0_5.index t = ![0, (grid0.coords t 1).val, (grid0.coords t 0).val] := by
  decide +kernel

theorem entry_v7 : V m c main_v7 = shapeCast S2x8192x384 (m ((c : Thread nD τ).loc main_arg0)) shapeCasts_S16384x384_S2x8192x384 := by
  entry_read
  rfl

theorem entry_v8 : V m c main_v8 = shapeCast S2x32x384x256 (m ((c : Thread nD τ).loc main_arg1)) shapeCasts_S64x384x256_S2x32x384x256 := by
  entry_read
  rfl

theorem entry_v9 : V m c main_v9 = shapeCast S2x32x384x256 (m ((c : Thread nD τ).loc main_arg2)) shapeCasts_S64x384x256_S2x32x384x256 := by
  entry_read
  rfl

theorem entry_v10 : V m c main_v10 = shapeCast S2x8192x1024 (m ((c : Thread nD τ).loc main_arg3)) shapeCasts_S16384x1024_S2x8192x1024 := by
  entry_read
  rfl

/-- The triangle, written by a comparison of positions. -/
theorem entry_v6 (i s : Fin 256) : V m c main_v6 (ix2 i s) = if s ≤ i then (1 : EReal) else 0 := by
  entry_read
  pointwise
  rw [select_ge _ _ (by omega) (by omega)]
  rfl

theorem rows_apply {α : Type} (x : S16384x384.Idx → α) (b : Fin 2) (t : Fin 8192) (d : Fin 384) :
    shapeCast S2x8192x384 x shapeCasts_S16384x384_S2x8192x384 (ix3 b t d) = x (ix2 ⟨b.val * 8192 + t.val, by omega⟩ d) := by
  pointwise

theorem tiles_apply {α : Type} (x : S64x384x256.Idx → α) (b : Fin 2) (n : Fin 32) (d : Fin 384) (s : Fin 256) :
    shapeCast S2x32x384x256 x shapeCasts_S64x384x256_S2x32x384x256 (ix4 b n d s) = x (ix3 ⟨b.val * 32 + n.val, by omega⟩ d s) := by
  pointwise

theorem wide_apply {α : Type} (x : S16384x1024.Idx → α) (b : Fin 2) (t : Fin 8192) (d : Fin 1024) :
    shapeCast S2x8192x1024 x shapeCasts_S16384x1024_S2x8192x1024 (ix3 b t d) = x (ix2 ⟨b.val * 8192 + t.val, by omega⟩ d) := by
  pointwise

theorem pair_lt (t : Fin (cfg0 (F := Ideal)).N) : (grid0.coords t 0).val < 3 := (grid0.coords t 0).isLt
theorem tile_lt (t : Fin (cfg0 (F := Ideal)).N) : (grid0.coords t 1).val < 32 := (grid0.coords t 1).isLt

/-- The queries at a point. -/
theorem queries_at (t : Fin (cfg0 (F := Ideal)).N) (b : Fin 2) (r : Fin 256) (d : Fin 128) :
    iblk m c 0 t (ix3 b r d) = qry (m ((c : Thread nD τ).loc main_arg0)) b.val (256 * (grid0.coords t 1).val + r.val)
      (128 * (grid0.coords t 0).val + d.val) := by
  have e := (blocks t).1
  have hp := pair_lt t
  have hj := tile_lt t
  unfold iblk
  rw [entry_v7]
  show shapeCast S2x8192x384 _ _ (((cfg0 (F := Ideal)).win 0).blk t |>.view.emb (ix3 b r d)) = _
  rw [show (((cfg0 (F := Ideal)).win 0).blk t |>.view.emb (ix3 b r d)) = ix3 b ⟨256 * (grid0.coords t 1).val + r.val, by omega⟩
        ⟨128 * (grid0.coords t 0).val + d.val, by omega⟩ by blk_ext [e]]
  rw [rows_apply]
  unfold qry
  congr 2 <;> exact Fin.ext (Nat.mod_eq_of_lt (by omega)).symm

/-- The gates at a point. -/
theorem gates_at (t : Fin (cfg0 (F := Ideal)).N) (b : Fin 2) (r : Fin 256) (d : Fin 128) :
    iblk m c 4 t (ix3 b r d) = gate (m ((c : Thread nD τ).loc main_arg3)) b.val (256 * (grid0.coords t 1).val + r.val)
      (128 * (grid0.coords t 0).val + d.val) := by
  have e := (blocks t).2.2.2.2.1
  have hp := pair_lt t
  have hj := tile_lt t
  unfold iblk
  rw [entry_v10]
  show shapeCast S2x8192x1024 _ _ (((cfg0 (F := Ideal)).win 4).blk t |>.view.emb (ix3 b r d)) = _
  rw [show (((cfg0 (F := Ideal)).win 4).blk t |>.view.emb (ix3 b r d)) = ix3 b ⟨256 * (grid0.coords t 1).val + r.val, by omega⟩
        ⟨128 * (grid0.coords t 0).val + d.val, by omega⟩ by blk_ext [e]]
  rw [wide_apply]
  unfold gate
  congr 2 <;> exact Fin.ext (Nat.mod_eq_of_lt (by omega)).symm

/-- The keys at a point. -/
theorem keys_at (t : Fin (cfg0 (F := Ideal)).N) (b : Fin 2) (n : ℕ) (hn : n < 32) (d : Fin 128) (s : Fin 256) :
    slab (iblk m c 1 t) b n (ix4 0 0 d s) = key (m ((c : Thread nD τ).loc main_arg1)) b.val (256 * n + s.val)
      (128 * (grid0.coords t 0).val + d.val) := by
  have e := (blocks t).2.1
  have hp := pair_lt t
  unfold slab iblk
  rw [entry_v8]
  show shapeCast S2x32x384x256 _ _ (((cfg0 (F := Ideal)).win 1).blk t |>.view.emb (ix4 b (Fin.ofNat 32 n) d s)) = _
  rw [show (((cfg0 (F := Ideal)).win 1).blk t |>.view.emb (ix4 b (Fin.ofNat 32 n) d s)) = ix4 b (Fin.ofNat 32 n)
        ⟨128 * (grid0.coords t 0).val + d.val, by omega⟩ s by blk_ext [e]]
  rw [tiles_apply]
  unfold key
  congr 2
  · exact Fin.ext (by show b.val * 32 + n % 32 = (b.val * 32 + (256 * n + s.val) / 256) % 64; omega)
  · exact Fin.ext (Nat.mod_eq_of_lt (by omega)).symm
  · exact Fin.ext (by show s.val = (256 * n + s.val) % 256; omega)

/-- The values at a point. -/
theorem values_at (t : Fin (cfg0 (F := Ideal)).N) (b : Fin 2) (n : ℕ) (hn : n < 32) (d : Fin 128) (s : Fin 256) :
    slab (iblk m c 2 t) b n (ix4 0 0 d s) = key (m ((c : Thread nD τ).loc main_arg2)) b.val (256 * n + s.val)
      (128 * (grid0.coords t 0).val + d.val) := by
  have e := (blocks t).2.2.1
  have hp := pair_lt t
  unfold slab iblk
  rw [entry_v9]
  show shapeCast S2x32x384x256 _ _ (((cfg0 (F := Ideal)).win 2).blk t |>.view.emb (ix4 b (Fin.ofNat 32 n) d s)) = _
  rw [show (((cfg0 (F := Ideal)).win 2).blk t |>.view.emb (ix4 b (Fin.ofNat 32 n) d s)) = ix4 b (Fin.ofNat 32 n)
        ⟨128 * (grid0.coords t 0).val + d.val, by omega⟩ s by blk_ext [e]]
  rw [tiles_apply]
  unfold key
  congr 2
  · exact Fin.ext (by show b.val * 32 + n % 32 = (b.val * 32 + (256 * n + s.val) / 256) % 64; omega)
  · exact Fin.ext (Nat.mod_eq_of_lt (by omega)).symm
  · exact Fin.ext (by show s.val = (256 * n + s.val) % 256; omega)

/-- The triangle at a point. -/
theorem triangle_at (t : Fin (cfg0 (F := Ideal)).N) : Triangle (iblk m c 3 t) := by
  intro i s
  have e := (blocks t).2.2.2.1
  unfold iblk
  show V m c main_v6 (((cfg0 (F := Ideal)).win 3).blk t |>.view.emb (ix2 i s)) = _
  rw [show (((cfg0 (F := Ideal)).win 3).blk t |>.view.emb (ix2 i s)) = ix2 i s by blk_ext [e]]
  exact entry_v6 m c i s

end Cert.Proof.SV
-- ==== Proof.SV.Out.lean ====
/- The kernel's result array, in closed form, for finite queries and keys. -/
module

public import proofs.«01_k».proof.Proof.SV.Blocks

@[expose] public section

set_option maxRecDepth 16384

noncomputable section

namespace Cert.Proof.SV

open Cert.KernelIdeal Cert.KernelIdeal.Gen
open Idealize.ShloMosaic Idealize.ShloMosaic.TcCoe Idealize.SL.Sem
open Cert.Proof.SB
open Finset

variable (m : (ℓ : Loc nD τ sig) → Buf (Elt Ideal) ℓ) (c : Dev nD)

/-- The exit value at the extended reals. -/
theorem exit_bot : (exitAt (F := Ideal)) = (⊥ : EReal) := rfl

/-- The logits of a point's chains are the scores. -/
theorem logits_at (h0 : Finite (m ((c : Thread nD τ).loc main_arg0))) (h1 : Finite (m ((c : Thread nD τ).loc main_arg1)))
    (t : Fin (cfg0 (F := Ideal)).N) (b h : Fin 2) :
    Logits (heads (tile (iblk m c 0 t)) b h) (slab (iblk m c 1 t) b) (fun r k =>
      score (m ((c : Thread nD τ).loc main_arg0)) (m ((c : Thread nD τ).loc main_arg1)) b.val
        (2 * (grid0.coords t 0).val + h.val) (256 * (grid0.coords t 1).val + r.val) k) := by
  intro n hn r s
  rw [logits_apply, ← logit_eq h0 h1]
  unfold logit
  have := sum_head h (fun d => qry (m ((c : Thread nD τ).loc main_arg0)) b.val (256 * (grid0.coords t 1).val + r.val) (128 * (grid0.coords t 0).val + d)
    * key (m ((c : Thread nD τ).loc main_arg1)) b.val (256 * n + s.val) (128 * (grid0.coords t 0).val + d))
  have e : ∀ d : Fin 64, 64 * (2 * (grid0.coords t 0).val + h.val) + d.val = 128 * (grid0.coords t 0).val + (64 * h.val + d.val) := fun d => by ring
  simp only [e]
  rw [← this]
  refine sum_congr rfl fun d _ => ?_
  rw [heads_apply, keys_at m c t b n hn]
  have hq := queries_at m c t b r d
  by_cases hd : d.val / 64 = h.val
  · rw [if_pos hd, if_pos hd, ← hq]; rfl
  · rw [if_neg hd, if_neg hd, zero_mul]

/-- What a point leaves, at an index. -/
theorem out_at (h0 : Finite (m ((c : Thread nD τ).loc main_arg0))) (h1 : Finite (m ((c : Thread nD τ).loc main_arg1)))
    (t : Fin (cfg0 (F := Ideal)).N) (b : Fin 2) (r : Fin 256) (l : Fin 128) :
    outsAt0 m c t (ix3 b r l) = answer (m ((c : Thread nD τ).loc main_arg0)) (m ((c : Thread nD τ).loc main_arg1))
      (m ((c : Thread nD τ).loc main_arg2)) (m ((c : Thread nD τ).loc main_arg3)) b.val (256 * (grid0.coords t 1).val + r.val)
      (128 * (grid0.coords t 0).val + l.val) := by
  have hpast := chains_past (triangle_at m c t) (logits_at m c h0 h1 t)
    (y := fun b l k => key (m ((c : Thread nD τ).loc main_arg2)) b.val k (128 * (grid0.coords t 0).val + l.val))
    (v := slab (iblk m c 2 t)) (fun b n hn l s => values_at m c t b n hn l s) (tile_lt t)
  unfold outsAt0 outOf
  show rowOf _ _ b (ix3 0 r l) = _
  rw [rowOf_apply, gates_at]
  unfold answer ends
  rw [exit_bot]
  congr 1
  have hl := l.isLt
  by_cases hh : l.val < 64
  · rw [if_pos hh, (hpast b 0).2 r l, show (128 * (grid0.coords t 0).val + l.val) / 64 = 2 * (grid0.coords t 0).val + (0 : Fin 2).val by
      show _ = 2 * (grid0.coords t 0).val + 0; omega]
  · rw [if_neg hh, (hpast b 1).2 r l, show (128 * (grid0.coords t 0).val + l.val) / 64 = 2 * (grid0.coords t 0).val + (1 : Fin 2).val by
      show _ = 2 * (grid0.coords t 0).val + 1; omega]

/-- The result array. -/
def result (c : Dev nD) : Buf (Elt Ideal) ((c.tc : Thread nD τ).loc main_v11) := fun i =>
  answer (m ((c : Thread nD τ).loc main_arg0)) (m ((c : Thread nD τ).loc main_arg1))
      (m ((c : Thread nD τ).loc main_arg2)) (m ((c : Thread nD τ).loc main_arg3)) (i 0).val (i 1).val (i 2).val

theorem array_eq (h0 : Finite (m ((c : Thread nD τ).loc main_arg0))) (h1 : Finite (m ((c : Thread nD τ).loc main_arg1))) :
    (dats m 0 c).arrAt 5 (cfg0 (F := Ideal)).N = result m c := by
  refine (dats m 0 c).arrAt_eq_of_covers 5 _ (by decide +kernel) fun t hf y => ?_
  have e := (blocks t).2.2.2.2.2
  blk_simp [e]
  rw [after0_5]
  revert y
  intro (y : S2x256x128.Idx)
  have hy : y = ix3 (y 0) (y 1) (y 2) := by
    funext a
    fin_cases a <;> rfl
  refine (congrArg (outsAt0 m c t) hy).trans ((out_at m c h0 h1 t (y 0) (y 1) (y 2)).trans ?_)
  unfold result
  have e0 : ((win0_5.blk t).view.emb y 0).val = (y 0).val := by blk_simp [e]
  have e1 : ((win0_5.blk t).view.emb y 1).val = 256 * (grid0.coords t 1).val + (y 1).val := by blk_simp [e]; ring
  have e2 : ((win0_5.blk t).view.emb y 2).val = 128 * (grid0.coords t 0).val + (y 2).val := by blk_simp [e]; ring
  rw [e0, e1, e2]

variable (ρ : Dev nD → PrngReg)

/-- The run: the result array holds the closed form, and the arguments end unchanged. -/
theorem run_result (hfin : ∀ c : Dev nD, Finite (m ((c : Thread nD τ).loc main_arg0)) ∧ Finite (m ((c : Thread nD τ).loc main_arg1))) :
    θ_run defs (onTc (τ := τ) (main (F := Ideal))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 5).trans (array_eq m c (hfin c).1 (hfin c).2), h.2 c⟩)
    (θ_run_and (run_main m ρ) (unchanged m ρ))

end Cert.Proof.SV
-- ==== Proof.SV.Cumsum.lean ====
/- The reference's reversed running sum, read at an index: the sum of the row from the index on. -/
module

public import proofs.«01_k».proof.Proof.SV.Spec

@[expose] public section

noncomputable section

namespace Cert.Proof.SV

open Idealize.ShloMosaic
open Finset

theorem foldl_sum {ι : Type*} (l : List ι) (g : ι → EReal) (v : EReal) : l.foldl (fun r n => r + g n) v = v + (l.map g).sum := by
  induction l generalizing v with
  | nil => rw [List.foldl_nil, List.map_nil, List.sum_nil, add_zero]
  | cons a l ih => rw [List.foldl_cons, ih, List.map_cons, List.sum_cons, add_assoc]

/-- The window: one row of `N`. -/
abbrev Win (N : ℕ) : Shape := ⟨4, ![1, 1, 1, N]⟩

/-- An array of `B` by `H` by `T` rows of `N`. -/
abbrev Rows4 (B H T N : ℕ) : Shape := ⟨4, ![B, H, T, N]⟩

def winEquiv (N : ℕ) : Fin N ≃ (Win N).Idx where
  toFun i := ix4 (0 : Fin 1) (0 : Fin 1) (0 : Fin 1) i
  invFun w := w 3
  left_inv _ := rfl
  right_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- A running sum from the right, as a window of the whole row padded high by one less: entry `k` of a row is the sum of the row's entries from `k` on. -/
theorem suffix_sum {B H T N M : ℕ} (x : (Rows4 B H T N).Idx → EReal) (v : EReal) (hv : v = 0)
    (hw : (Rows4 B H T N).ReduceWindows (![1, 1, 1, N] : Fin 4 → ℕ) ![1, 1, 1, 1] ![0, 0, 0, 0] ![0, 0, 0, M] (Rows4 B H T N))
    (b : Fin B) (h : Fin H) (t : Fin T) (k : Fin N) (f : ℕ → EReal) (hf : ∀ k' : Fin N, x (ix4 b h t k') = f k'.val) :
    Ideal.hostReduceWindowAdd (s := Rows4 B H T N) (t := Rows4 B H T N) ![1, 1, 1, N] ![1, 1, 1, 1] ![0, 0, 0, 0] ![0, 0, 0, M] hw x v (ix4 b h t k)
      = ∑ k' ∈ Ico k.val N, f k' := by
  have hsum := sum_block (n := N) k.val 0 (N - k.val) (Nat.sub_le _ _) f
  rw [Nat.add_zero, Nat.add_sub_cancel' k.isLt.le] at hsum
  rw [← hsum]
  unfold Ideal.hostReduceWindowAdd Host.reduceWindow
  simp only []
  rw [foldl_sum, hv, zero_add, ← Fin.sum_univ_def, ← ((winEquiv N).trans (Win N).rowMajor).sum_comp]
  refine sum_congr rfl fun i _ => ?_
  simp only [Equiv.trans_apply, Equiv.symm_apply_apply]
  have hk := k.isLt
  have hb := b.isLt
  have hh := h.isLt
  have ht := t.isLt
  split
  · next hin =>
    have h3 : 0 ≤ k.val * 1 + i.val ∧ k.val * 1 + i.val - 0 < N := hin 3
    rw [if_pos (by omega)]
    refine (congrArg x (funext fun a => Fin.ext ?_)).trans (hf ⟨k.val + i.val, by omega⟩)
    match a with
    | ⟨0, _⟩ => show b.val * 1 + 0 - 0 = b.val; omega
    | ⟨1, _⟩ => show h.val * 1 + 0 - 0 = h.val; omega
    | ⟨2, _⟩ => show t.val * 1 + 0 - 0 = t.val; omega
    | ⟨3, _⟩ => show k.val * 1 + i.val - 0 = k.val + i.val; omega
  · next hin =>
    rw [if_neg fun hle => hin fun a => by
      match a with
      | ⟨0, _⟩ => show 0 ≤ b.val * 1 + 0 ∧ b.val * 1 + 0 - 0 < B; omega
      | ⟨1, _⟩ => show 0 ≤ h.val * 1 + 0 ∧ h.val * 1 + 0 - 0 < H; omega
      | ⟨2, _⟩ => show 0 ≤ t.val * 1 + 0 ∧ t.val * 1 + 0 - 0 < T; omega
      | ⟨3, _⟩ => show 0 ≤ k.val * 1 + i.val ∧ k.val * 1 + i.val - 0 < N; omega]

end Cert.Proof.SV
-- ==== Proof.SV.Ref.lean ====
/- The reference in closed form: at every index its result is `answer`. -/
module

public import proofs.«01_k».proof.Proof.SV.Read
public import proofs.«01_k».proof.Proof.SV.Spec
public import proofs.«01_k».proof.Proof.SV.Cumsum
public import proofs.«01_k».proof.Proof.Gen.ReferenceIdeal.Read

@[expose] public section

set_option maxRecDepth 16384

noncomputable section

namespace Cert.Proof.SV

open Cert.ReferenceIdeal Cert.ReferenceIdeal.Gen Cert.ReferenceIdeal.Read
open Idealize.ShloMosaic
open Finset

/-- The logarithm of a sigmoid as the reference writes it, of a real number, is `keep` of its negation. -/
theorem log_sigmoid (x : EReal) (z : ℝ) (hx : x = ((-z : ℝ) : EReal)) :
    -(Scalar.select (Ideal.cmp .une (-x - 0) (-x - 0)) (-x + 0)
      (max (-x) 0 + Ideal.log1p (Ideal.exp (-(max (-x - 0) (-(-x - 0))))))) = ((keep z : ℝ) : EReal) := by
  subst hx
  rw [← EReal.coe_neg, neg_neg, sub_zero, max_neg, Ideal.log1p, log_part, ← EReal.coe_zero, coe_max, ← EReal.coe_add]
  have : Ideal.cmp .une (z : EReal) z = 0#1 := by simp [Ideal.cmp]
  rw [this]
  show -(((max z 0 + Real.log (1 + Real.exp (-|z|)) : ℝ) : EReal)) = _
  rw [← EReal.coe_neg]
  congr 1
  unfold keep
  have : min (-z) 0 = -(max z 0) := by rw [← neg_zero, min_neg_neg, neg_zero]
  rw [this]
  ring

section

variable (x0 : Rows.Idx → EReal) (x1 x2 : Tiles.Idx → EReal) (x3 : Wide.Idx → EReal)

theorem query_row (i : S2x8192x6x64.Idx) :
    val_main_v1 (F := Ideal) x0 i = qry x0 (i 0).val (i 1).val (64 * (i 2).val + (i 3).val) := by
  have h0 : (i 0).val < 2 := (i 0).isLt
  have h1 : (i 1).val < 8192 := (i 1).isLt
  have h2 : (i 2).val < 6 := (i 2).isLt
  have h3 : (i 3).val < 64 := (i 3).isLt
  rw [val_main_v1_apply, val_main_v0_apply]
  show x0 _ = x0 _
  refine congrArg x0 (funext fun a => Fin.ext ?_)
  match a with
  | ⟨0, _⟩ => show ((((i 0).val * 8192 + (i 1).val) * 6 + (i 2).val) * 64 + (i 3).val) / 384 = ((i 0).val * 8192 + (i 1).val) % 16384; omega
  | ⟨1, _⟩ => show ((((i 0).val * 8192 + (i 1).val) * 6 + (i 2).val) * 64 + (i 3).val) % 384 = (64 * (i 2).val + (i 3).val) % 384; omega

/-- Where the reshapes and the transpose of the keys take an entry from. -/
theorem key_position {b t h d : ℕ} (h0 : b < 2) (h1 : t < 8192) (h2 : h < 6) (h3 : d < 64) :
    ((((((((b * 8192 + t) * 6 + h) * 64 + d) / 3145728 * 32 + (((b * 8192 + t) * 6 + h) * 64 + d) / 98304 % 32) * 6 + (((b * 8192 + t) * 6 + h) * 64 + d) / 64 % 6) * 64
        + (((b * 8192 + t) * 6 + h) * 64 + d) % 64) * 256 + (((b * 8192 + t) * 6 + h) * 64 + d) / 384 % 256) / 98304 = (b * 32 + t / 256) % 64)
    ∧ ((((((((b * 8192 + t) * 6 + h) * 64 + d) / 3145728 * 32 + (((b * 8192 + t) * 6 + h) * 64 + d) / 98304 % 32) * 6 + (((b * 8192 + t) * 6 + h) * 64 + d) / 64 % 6) * 64
        + (((b * 8192 + t) * 6 + h) * 64 + d) % 64) * 256 + (((b * 8192 + t) * 6 + h) * 64 + d) / 384 % 256) / 256 % 384 = (64 * h + d) % 384)
    ∧ ((((((((b * 8192 + t) * 6 + h) * 64 + d) / 3145728 * 32 + (((b * 8192 + t) * 6 + h) * 64 + d) / 98304 % 32) * 6 + (((b * 8192 + t) * 6 + h) * 64 + d) / 64 % 6) * 64
        + (((b * 8192 + t) * 6 + h) * 64 + d) % 64) * 256 + (((b * 8192 + t) * 6 + h) * 64 + d) / 384 % 256) % 256 = t % 256) := by
  obtain ⟨n, hn⟩ : ∃ n, n = (((b * 8192 + t) * 6 + h) * 64 + d) := ⟨_, rfl⟩
  rw [← hn]
  have e0 : n / 3145728 = b := by omega
  have e1 : n / 98304 % 32 = t / 256 := by omega
  have e2 : n / 384 % 256 = t % 256 := by omega
  have e3 : n / 64 % 6 = h := by omega
  have e4 : n % 64 = d := by omega
  rw [e0, e1, e2, e3, e4]
  clear hn e0 e1 e2 e3 e4
  have hq : t / 256 < 32 := by omega
  have hr : t % 256 < 256 := by omega
  generalize t / 256 = q at hq ⊢
  generalize t % 256 = r at hr ⊢
  refine ⟨?_, ?_, ?_⟩ <;> omega

theorem key_row (i : S2x8192x6x64.Idx) :
    val_main_v5 (F := Ideal) x1 i = key x1 (i 0).val (i 1).val (64 * (i 2).val + (i 3).val) := by
  have h0 : (i 0).val < 2 := (i 0).isLt
  have h1 : (i 1).val < 8192 := (i 1).isLt
  have h2 : (i 2).val < 6 := (i 2).isLt
  have h3 : (i 3).val < 64 := (i 3).isLt
  rw [val_main_v5_apply, val_main_v4_apply, val_main_v3_apply, val_main_v2_apply]
  show x1 _ = x1 _
  have e := key_position h0 h1 h2 h3
  refine congrArg x1 (funext fun a => Fin.ext ?_)
  match a with
  | ⟨0, _⟩ => exact e.1
  | ⟨1, _⟩ => exact e.2.1
  | ⟨2, _⟩ => exact e.2.2

theorem value_row (i : S2x8192x6x64.Idx) : val_main_v9 (F := Ideal) x2 i = key x2 (i 0).val (i 1).val (64 * (i 2).val + (i 3).val) :=
  key_row x2 i

theorem gate_row (i : S2x8192x384.Idx) : val_main_v30 (F := Ideal) x3 i = gate x3 (i 0).val (i 1).val (i 2).val := by
  have h0 : (i 0).val < 2 := (i 0).isLt
  have h1 : (i 1).val < 8192 := (i 1).isLt
  have h2 : (i 2).val < 384 := (i 2).isLt
  rw [val_main_v30_apply, val_main_v29_apply]
  refine congrArg x3 (funext fun a => Fin.ext ?_)
  match a with
  | ⟨0, _⟩ => show (((i 0).val * 8192 + (i 1).val) * 1024 + (i 2).val) / 1024 = ((i 0).val * 8192 + (i 1).val) % 16384; omega
  | ⟨1, _⟩ => show (((i 0).val * 8192 + (i 1).val) * 1024 + (i 2).val) % 1024 = (i 2).val % 1024; omega

theorem logit_row (i : S2x6x8192x8192.Idx) :
    val_main_v10 (F := Ideal) x0 x1 i = logit x0 x1 (i 0).val (i 1).val (i 2).val (i 3).val := by
  rw [val_main_v10_apply]
  refine sum_congr rfl fun d _ => ?_
  rw [query_row, key_row]

/-- The mask at a row and a column. -/
theorem masked (i : S2x6x8192x8192.Idx) (x y : EReal) :
    Scalar.select (val_main_call1_v1 (F := Ideal) i) x y = if (i 3).val < (i 2).val then x else y := by
  have h2 : (i 2).val < 8192 := (i 2).isLt
  have h3 : (i 3).val < 8192 := (i 3).isLt
  rw [val_main_call1_v1_apply, val_main_v16_apply, val_main_v14_apply, val_main_v12_apply, val_main_v11_apply, val_main_v15_apply, val_main_v13_apply, val_main_v11_apply]
  exact select_lt (i 3).val (i 2).val (by omega) (by omega) x y

theorem zero_word : FloatOps.ofBits (F := Ideal) .f32 0x00000000#32 = (0 : EReal) := by
  show Ideal.ofBits .f32 0x00000000#32 = 0
  simp [Ideal.ofBits, Ideal.ieee]

variable {x0 x1} (f0 : Finite x0) (f1 : Finite x1)

include f0 f1

theorem keep_row (i : S2x6x8192x8192.Idx) :
    val_main_v18 (F := Ideal) x0 x1 i = (keep (score x0 x1 (i 0).val (i 1).val (i 2).val (i 3).val) : EReal) := by
  have hl := (logit_row x0 x1 i).trans (logit_eq f0 f1 _ _ _ _)
  refine Eq.trans ?_ (log_sigmoid (-(val_main_v10 (F := Ideal) x0 x1 i)) _ ?_)
  · have hz : ∀ j, val_main_call0_call0_cst (F := Ideal) j = (0 : EReal) := fun j => zero_word
    rw [val_main_v18_apply, val_main_call0_v1_apply, val_main_call0_call0_v11_apply, val_main_call0_call0_v10_apply, val_main_call0_call0_v9_apply,
      val_main_call0_call0_v8_apply, val_main_call0_call0_v7_apply, val_main_call0_call0_v6_apply, val_main_call0_call0_v5_apply, val_main_call0_call0_v4_apply,
      val_main_call0_call0_v3_apply, val_main_call0_call0_v2_apply, val_main_call0_call0_v1_apply, val_main_call0_call0_v0_apply, val_main_call0_v0_apply,
      val_main_v17_apply, hz]
    rfl
  · rw [hl, EReal.coe_neg]

theorem sigmoid_row (i : S2x6x8192x8192.Idx) :
    val_main_v22 (F := Ideal) x0 x1 i = (keep (-(score x0 x1 (i 0).val (i 1).val (i 2).val (i 3).val)) : EReal) := by
  have hl := (logit_row x0 x1 i).trans (logit_eq f0 f1 _ _ _ _)
  refine Eq.trans ?_ (log_sigmoid (val_main_v10 (F := Ideal) x0 x1 i) _ ?_)
  · have hz : ∀ j, val_main_call3_call0_cst (F := Ideal) j = (0 : EReal) := fun j => zero_word
    rw [val_main_v22_apply, val_main_call3_v1_apply, val_main_call3_call0_v11_apply, val_main_call3_call0_v10_apply, val_main_call3_call0_v9_apply,
      val_main_call3_call0_v8_apply, val_main_call3_call0_v7_apply, val_main_call3_call0_v6_apply, val_main_call3_call0_v5_apply, val_main_call3_call0_v4_apply,
      val_main_call3_call0_v3_apply, val_main_call3_call0_v2_apply, val_main_call3_call0_v1_apply, val_main_call3_call0_v0_apply, val_main_call3_v0_apply,
      hz]
    rfl
  · rw [hl, neg_neg]

/-- What a key keeps of the stick, at every earlier position, and zero elsewhere. -/
theorem keep_masked (i : S2x6x8192x8192.Idx) :
    val_main_v19 (F := Ideal) x0 x1 i
      = if (i 3).val < (i 2).val then (keep (score x0 x1 (i 0).val (i 1).val (i 2).val (i 3).val) : EReal) else 0 := by
  rw [val_main_v19_apply, masked, keep_row f0 f1]
  rw [val_main_call1_v2_apply, val_main_call1_v0_apply, val_main_cst_apply, zero_word]

theorem suffix_row (b : Fin 2) (h : Fin 6) (t k : Fin 8192) (hk : k.val < t.val) :
    val_main_v20 (F := Ideal) x0 x1 (ix4 b h t k) = (later t.val (score x0 x1 b.val h.val t.val) k.val : EReal) := by
  have hv : val_main_call2_v0 (F := Ideal) (Shape.Idx.first h_S_) = 0 := by
    rw [val_main_call2_v0_apply]
    exact zero_word
  have hx : ∀ k' : Fin 8192, val_main_v19 (F := Ideal) x0 x1 (ix4 b h t k')
      = (fun k' : ℕ => if k' < t.val then (keep (score x0 x1 b.val h.val t.val k') : EReal) else 0) k'.val :=
    fun k' => keep_masked f0 f1 _
  unfold val_main_v20
  generalize val_main_v19 (F := Ideal) x0 x1 = y at hx ⊢
  generalize val_main_call2_v0 (F := Ideal) = v at hv ⊢
  unfold Host.reduceWindowAdd
  rw [Ideal.hostReduceWindowAdd_def]
  refine (suffix_sum (B := 2) (H := 6) (T := 8192) (N := 8192) (M := 8191) y _ hv _ b h t k
    (fun k' : ℕ => if k' < t.val then (keep (score x0 x1 b.val h.val t.val k') : EReal) else 0) hx).trans ?_
  · rw [later, coe_sum, ← sum_filter]
    refine sum_congr ?_ fun _ _ => rfl
    have := t.isLt
    ext j
    simp only [mem_filter, mem_Ico]
    omega

theorem keep_neg (z : ℝ) : keep (-z) = z + keep z := by
  unfold keep
  rw [abs_neg, neg_neg]
  rcases le_total z 0 with h | h
  · rw [min_eq_left h, min_eq_right (by linarith)]; ring
  · rw [min_eq_right h, min_eq_left (by linarith)]; ring

theorem share_row (b : Fin 2) (h : Fin 6) (t k : Fin 8192) :
    val_main_v25 (F := Ideal) x0 x1 (ix4 b h t k)
      = if k.val < t.val then (share t.val (score x0 x1 b.val h.val t.val) k.val : EReal) else 0 := by
  rw [val_main_v25_apply]
  refine (masked _ _ _).trans ?_
  refine ite_congr rfl (fun hk => ?_) (fun _ => ?_)
  · have hk : k.val < t.val := hk
    rw [val_main_v24_apply, val_main_v23_apply, val_main_v21_apply, sigmoid_row f0 f1, suffix_row f0 f1 b h t k hk, keep_masked f0 f1]
    show Ideal.exp (((keep (-(score x0 x1 b.val h.val t.val k.val)) : ℝ) : EReal)
      + ((later t.val (score x0 x1 b.val h.val t.val) k.val : EReal) - (if k.val < t.val then (keep (score x0 x1 b.val h.val t.val k.val) : EReal) else 0))) = _
    rw [if_pos hk, ← EReal.coe_sub, ← EReal.coe_add, Ideal.exp_coe, keep_neg f0 f1, share]
    congr 2
    ring
  · rw [val_main_call4_v2_apply, val_main_call4_v0_apply, val_main_cst_0_apply, zero_word]

theorem out_row (i : S2x6x64x8192.Idx) :
    val_main_v26 (F := Ideal) x0 x1 x2 i
      = ∑ k ∈ Ico 0 (i 3).val, (share (i 3).val (score x0 x1 (i 0).val (i 1).val (i 3).val) k : EReal) * key x2 (i 0).val k (64 * (i 1).val + (i 2).val) := by
  have hs := sum_block (n := 8192) 0 0 (i 3).val (i 3).isLt.le
    (fun k => (share (i 3).val (score x0 x1 (i 0).val (i 1).val (i 3).val) k : EReal) * key x2 (i 0).val k (64 * (i 1).val + (i 2).val))
  rw [Nat.zero_add, Nat.zero_add] at hs
  rw [val_main_v26_apply, ← hs]
  refine sum_congr rfl fun k _ => ?_
  rw [value_row]
  have e : ridx_main_v26 i k = ix4 (n0 := 2) (n1 := 6) (n2 := 8192) (n3 := 8192) (i 0) (i 1) (i 3) k := by
    funext a
    match a with
    | ⟨0, _⟩ => rfl
    | ⟨1, _⟩ => rfl
    | ⟨2, _⟩ => rfl
    | ⟨3, _⟩ => rfl
  rw [e]
  refine (congrArg _ (share_row f0 f1 (i 0) (i 1) (i 3) k)).trans ?_
  rw [Nat.zero_add]
  by_cases hk : k.val < (i 3).val
  · rw [if_pos hk, if_pos ⟨Nat.zero_le _, hk⟩, mul_comm]
  · rw [if_neg hk, if_neg fun h => hk h.2, mul_zero]

/-- The reference's result at an index. -/
theorem reference_at (i : S2x8192x384.Idx) :
    val_main_v32 (F := Ideal) x0 x1 x2 x3 i = answer x0 x1 x2 x3 (i 0).val (i 1).val (i 2).val := by
  have h0 : (i 0).val < 2 := (i 0).isLt
  have h1 : (i 1).val < 8192 := (i 1).isLt
  have h2 : (i 2).val < 384 := (i 2).isLt
  rw [val_main_v32_apply, val_main_v31_apply, val_main_v28_apply, val_main_v27_apply, out_row x2 f0 f1, gate_row]
  unfold answer
  obtain ⟨n, hn⟩ : ∃ n, n = (((i 0).val * 8192 + (i 1).val) * 384 + (i 2).val) := ⟨_, rfl⟩
  have e0 : n / 3145728 = (i 0).val := by omega
  have e1 : n / 384 % 8192 = (i 1).val := by omega
  have e2 : n / 64 % 6 = (i 2).val / 64 := by omega
  have e3 : 64 * ((i 2).val / 64) + n % 64 = (i 2).val := by omega
  subst hn
  show (∑ k ∈ Ico 0 ((((i 0).val * 8192 + (i 1).val) * 384 + (i 2).val) / 384 % 8192),
      (share ((((i 0).val * 8192 + (i 1).val) * 384 + (i 2).val) / 384 % 8192)
        (score x0 x1 ((((i 0).val * 8192 + (i 1).val) * 384 + (i 2).val) / 3145728) ((((i 0).val * 8192 + (i 1).val) * 384 + (i 2).val) / 64 % 6)
          ((((i 0).val * 8192 + (i 1).val) * 384 + (i 2).val) / 384 % 8192)) k : EReal)
      * key x2 ((((i 0).val * 8192 + (i 1).val) * 384 + (i 2).val) / 3145728) k
          (64 * ((((i 0).val * 8192 + (i 1).val) * 384 + (i 2).val) / 64 % 6) + (((i 0).val * 8192 + (i 1).val) * 384 + (i 2).val) % 64)) * _ = _
  rw [e0, e1, e2, e3]

end

end Cert.Proof.SV
-- ==== Proof.SV.Pre.lean ====
/- What the precondition says: every query and every key entry is a real number. -/
module

public import proofs.«01_k».proof.Defs
public import proofs.«01_k».proof.Proof.SV.Spec
public import Idealize.ShloMosaic.Lib.ReduceAll

@[expose] public section

set_option maxRecDepth 16384

noncomputable section

namespace Cert.Proof.SV

open Idealize.ShloMosaic
open Cert.Pre_finite_scores Cert.Pre_finite_scores.Facts

variable [Cert.Pre_finite_scores.Facts]

/-- A number whose magnitude is below the infinity's word is real. -/
theorem real_of_below (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  have hlt : max x (-x) < ⊤ := by
    by_contra hn
    simp [Ideal.cmp, hn] at h
  rw [max_lt_iff] at hlt
  induction x using EReal.rec with
  | bot => exact absurd hlt.2 (by simp)
  | top => exact absurd hlt.1 (by simp)
  | coe r => exact ⟨r, rfl⟩

theorem finite_of_pre (x0 : FVec Ideal S16384x384 .bf16) (x1 x2 : FVec Ideal S64x384x256 .bf16) (x3 : FVec Ideal S16384x1024 .f32)
    (h : Cert.Pre_finite_scores.fn (F := Ideal) x0 x1 x2 x3 = fun _ => 1#1) : Finite (s := Rows) x0 ∧ Finite (s := Tiles) x1 := by
  have e := congrFun h (Shape.Idx.first h_S_)
  have hs : Subsingleton S_.Idx := ⟨fun a b => funext fun i => i.elim0⟩
  unfold Cert.Pre_finite_scores.fn at e
  obtain ⟨e0, e1⟩ := IntOp.andi_eq_one.1 e
  refine ⟨fun i => real_of_below (x0 i) ?_, fun i => real_of_below (x1 i) ?_⟩
  · exact Host.reduce_andi_all _ _ _ _ _ e0 i
  · exact Host.reduce_andi_all _ _ _ _ _ e1 i

end Cert.Proof.SV
-- ==== Proof.PJ.Stores.lean ====
/- What a point of the projection leaves in each output's block. -/
module

public import proofs.«01_k».proof.Proof.Gen.Kernel2Ideal.Frame
public import Idealize.ShloMosaic.Lib.Pipeline.ValueKit

@[expose] public section

set_option maxRecDepth 16384

noncomputable section

namespace Cert.Proof.PJ

open Cert.Kernel2Ideal Cert.Kernel2Ideal.Gen
open Idealize.ShloMosaic Idealize.ShloMosaic.TcCoe Idealize.SL.Sem

variable (m : (ℓ : Loc nD τ sig) → Buf (Elt Ideal) ℓ) (c : Dev nD) (t : Fin cfg0.N)

theorem hz2 : (![0, 0] : Fin 2 → ℕ) = fun _ => 0 := by decide
theorem hz3 : (![0, 0, 0] : Fin 3 → ℕ) = fun _ => 0 := by decide
theorem hz4 : (![0, 0, 0, 0] : Fin 4 → ℕ) = fun _ => 0 := by decide

theorem left_4 : (dats m 0 c).after 4 t = k0_pay4 (iblk m c 0 t) (iblk m c 1 t) (View.ld (iblk m c 3 t) (Rect.unit (s := S1920x1024) ![0, 0] S384x1024.size inb_S1920x1024_S384x1024_0_0)) := by
  rw [after0_4]
  by_cases h0 : t.val % 32 = 0
  · rw [outsAt0_A m c t h0]
    dsimp only
    unfold out0_A_4
    rw [View.read_writes_eq_canon _ _ _ (cover0_A_4 _ _ _ _ _ _ _ _ _ _ _ _ _ _ _ _ _ _ _ _ _ _ _ _ _ _ _ _ _ _ _ _ _ _ _ _ _ _ _ _ _)]
    unfold kernelRun0_A
    dsimp only
    sl_unfold_words
    rw [View.canon_cons_unit_zero (S := S1x1x384x256) hz4]
    simp only [View.readAt_eq_ld, (hs0_0 t).read_unread, (hs0_1 t).read_unread, (hs0_2 t).read_unread, (hs0_3 t).read_unread,
      View.ld_unit_zero (S := S256x1024) hz2, View.ld_unit_zero (S := S1x1024) hz2]
    rfl
  · rw [outsAt0_B m c t h0]
    dsimp only
    unfold out0_B_4
    rw [View.read_writes_eq_canon _ _ _ (cover0_B_4 _ _ _ _ _ _ _ _ _ _ _ _ _ _ _ _ _ _ _ _ _ _ _ _ _ _ _ _ _ _ _ _ _ _ _ _ _ _ _ _ _ _)]
    unfold kernelRun0_B
    dsimp only
    sl_unfold_words
    rw [View.canon_cons_unit_zero (S := S1x1x384x256) hz4]
    simp only [View.readAt_eq_ld, (hs0_0 t).read_unread, (hs0_1 t).read_unread, (hs0_2 t).read_unread, (hs0_3 t).read_unread,
      View.ld_unit_zero (S := S256x1024) hz2, View.ld_unit_zero (S := S1x1024) hz2]
    rfl

theorem left_5 : (dats m 0 c).after 5 t = k0_pay7 (iblk m c 0 t) (iblk m c 1 t) (View.ld (iblk m c 3 t) (Rect.unit (s := S1920x1024) ![384, 0] S384x1024.size inb_S1920x1024_S384x1024_384_0)) := by
  rw [after0_5]
  by_cases h0 : t.val % 32 = 0
  · rw [outsAt0_A m c t h0]
    dsimp only
    unfold out0_A_5
    rw [View.read_writes_eq_canon _ _ _ (cover0_A_5 _ _ _ _ _ _ _ _ _ _ _ _ _ _ _ _ _ _ _ _ _ _ _ _ _ _ _ _ _ _ _ _ _ _ _ _ _ _ _ _ _)]
    unfold kernelRun0_A
    dsimp only
    sl_unfold_words
    rw [View.canon_cons_unit_zero (S := S1x1x384x256) hz4]
    simp only [View.readAt_eq_ld, (hs0_0 t).read_unread, (hs0_1 t).read_unread, (hs0_2 t).read_unread, (hs0_3 t).read_unread,
      View.ld_unit_zero (S := S256x1024) hz2, View.ld_unit_zero (S := S1x1024) hz2]
    rfl
  · rw [outsAt0_B m c t h0]
    dsimp only
    unfold out0_B_5
    rw [View.read_writes_eq_canon _ _ _ (cover0_B_5 _ _ _ _ _ _ _ _ _ _ _ _ _ _ _ _ _ _ _ _ _ _ _ _ _ _ _ _ _ _ _ _ _ _ _ _ _ _ _ _ _ _)]
    unfold kernelRun0_B
    dsimp only
    sl_unfold_words
    rw [View.canon_cons_unit_zero (S := S1x1x384x256) hz4]
    simp only [View.readAt_eq_ld, (hs0_0 t).read_unread, (hs0_1 t).read_unread, (hs0_2 t).read_unread, (hs0_3 t).read_unread,
      View.ld_unit_zero (S := S256x1024) hz2, View.ld_unit_zero (S := S1x1024) hz2]
    rfl

theorem left_6 : (dats m 0 c).after 6 t = k0_pay10 (k0_pay2 (iblk m c 0 t) (iblk m c 1 t)) (View.ld (iblk m c 3 t) (Rect.unit (s := S1920x1024) ![768, 0] S384x1024.size inb_S1920x1024_S384x1024_768_0)) := by
  rw [after0_6]
  by_cases h0 : t.val % 32 = 0
  · rw [outsAt0_A m c t h0]
    dsimp only
    unfold out0_A_6
    rw [View.read_writes_eq_canon _ _ _ (cover0_A_6 _ _ _ _ _ _ _ _ _ _ _ _ _ _ _ _ _ _ _ _ _ _ _ _ _ _ _ _ _ _ _ _ _ _ _ _ _ _ _ _ _)]
    unfold kernelRun0_A
    dsimp only
    sl_unfold_words
    rw [View.canon_cons_unit_zero (S := S1x1x384x256) hz4]
    simp only [View.readAt_eq_ld, (hs0_0 t).read_unread, (hs0_1 t).read_unread, (hs0_2 t).read_unread, (hs0_3 t).read_unread,
      View.ld_unit_zero (S := S256x1024) hz2, View.ld_unit_zero (S := S1x1024) hz2]
    rfl
  · rw [outsAt0_B m c t h0]
    dsimp only
    unfold out0_B_6
    rw [View.read_writes_eq_canon _ _ _ (cover0_B_6 _ _ _ _ _ _ _ _ _ _ _ _ _ _ _ _ _ _ _ _ _ _ _ _ _ _ _ _ _ _ _ _ _ _ _ _ _ _ _ _ _ _)]
    unfold kernelRun0_B
    dsimp only
    sl_unfold_words
    rw [View.canon_cons_unit_zero (S := S1x1x384x256) hz4]
    simp only [View.readAt_eq_ld, (hs0_0 t).read_unread, (hs0_1 t).read_unread, (hs0_2 t).read_unread, (hs0_3 t).read_unread,
      View.ld_unit_zero (S := S256x1024) hz2, View.ld_unit_zero (S := S1x1024) hz2]
    rfl

theorem left_7 : (dats m 0 c).after 7 t = k0_pay17 (k0_pay2 (iblk m c 0 t) (iblk m c 1 t)) (View.ld (iblk m c 3 t) (Rect.unit (s := S1920x1024) ![1152, 0] S384x1024.size inb_S1920x1024_S384x1024_1152_0)) := by
  rw [after0_7]
  by_cases h0 : t.val % 32 = 0
  · rw [outsAt0_A m c t h0]
    dsimp only
    unfold out0_A_7
    rw [View.read_writes_eq_canon _ _ _ (cover0_A_7 _ _ _ _ _ _ _ _ _ _ _ _ _ _ _ _ _ _ _ _ _ _ _ _ _ _ _ _ _ _ _ _ _ _ _ _ _ _ _ _ _)]
    unfold kernelRun0_A
    dsimp only
    sl_unfold_words
    rw [View.canon_cons_unit_zero (S := S1x1x384x256) hz4]
    simp only [View.readAt_eq_ld, (hs0_0 t).read_unread, (hs0_1 t).read_unread, (hs0_2 t).read_unread, (hs0_3 t).read_unread,
      View.ld_unit_zero (S := S256x1024) hz2, View.ld_unit_zero (S := S1x1024) hz2]
    rfl
  · rw [outsAt0_B m c t h0]
    dsimp only
    unfold out0_B_7
    rw [View.read_writes_eq_canon _ _ _ (cover0_B_7 _ _ _ _ _ _ _ _ _ _ _ _ _ _ _ _ _ _ _ _ _ _ _ _ _ _ _ _ _ _ _ _ _ _ _ _ _ _ _ _ _ _)]
    unfold kernelRun0_B
    dsimp only
    sl_unfold_words
    rw [View.canon_cons_unit_zero (S := S1x1x384x256) hz4]
    simp only [View.readAt_eq_ld, (hs0_0 t).read_unread, (hs0_1 t).read_unread, (hs0_2 t).read_unread, (hs0_3 t).read_unread,
      View.ld_unit_zero (S := S256x1024) hz2, View.ld_unit_zero (S := S1x1024) hz2]
    rfl

theorem left_8 : (dats m 0 c).after 8 t = k0_pay5 (iblk m c 0 t) (iblk m c 1 t) (View.ld (iblk m c 3 t) (Rect.unit (s := S1920x1024) ![0, 0] S384x1024.size inb_S1920x1024_S384x1024_0_0)) := by
  rw [after0_8]
  by_cases h0 : t.val % 32 = 0
  · rw [outsAt0_A m c t h0]
    dsimp only
    unfold out0_A_8
    rw [View.read_writes_eq_canon _ _ _ (cover0_A_8 _ _ _ _ _ _ _ _ _ _ _ _ _ _ _ _ _ _ _ _ _ _ _ _ _ _ _ _ _ _ _ _ _ _ _ _ _ _ _ _ _)]
    unfold kernelRun0_A
    dsimp only
    sl_unfold_words
    rw [View.canon_cons_unit_zero (S := S1x384x256) hz3]
    simp only [View.readAt_eq_ld, (hs0_0 t).read_unread, (hs0_1 t).read_unread, (hs0_2 t).read_unread, (hs0_3 t).read_unread,
      View.ld_unit_zero (S := S256x1024) hz2, View.ld_unit_zero (S := S1x1024) hz2]
    rfl
  · rw [outsAt0_B m c t h0]
    dsimp only
    unfold out0_B_8
    rw [View.read_writes_eq_canon _ _ _ (cover0_B_8 _ _ _ _ _ _ _ _ _ _ _ _ _ _ _ _ _ _ _ _ _ _ _ _ _ _ _ _ _ _ _ _ _ _ _ _ _ _ _ _ _ _)]
    unfold kernelRun0_B
    dsimp only
    sl_unfold_words
    rw [View.canon_cons_unit_zero (S := S1x384x256) hz3]
    simp only [View.readAt_eq_ld, (hs0_0 t).read_unread, (hs0_1 t).read_unread, (hs0_2 t).read_unread, (hs0_3 t).read_unread,
      View.ld_unit_zero (S := S256x1024) hz2, View.ld_unit_zero (S := S1x1024) hz2]
    rfl

theorem left_9 : (dats m 0 c).after 9 t = k0_pay8 (k0_pay6 (iblk m c 0 t) (iblk m c 1 t) (View.ld (iblk m c 3 t) (Rect.unit (s := S1920x1024) ![384, 0] S384x1024.size inb_S1920x1024_S384x1024_384_0))) := by
  rw [after0_9]
  by_cases h0 : t.val % 32 = 0
  · rw [outsAt0_A m c t h0]
    dsimp only
    unfold out0_A_9
    rw [View.read_writes_eq_canon _ _ _ (cover0_A_9 _ _ _ _ _ _ _ _ _ _ _ _ _ _ _ _ _ _ _ _ _ _ _ _ _ _ _ _ _ _ _ _ _ _ _ _ _ _ _ _ _)]
    unfold kernelRun0_A
    dsimp only
    sl_unfold_words
    rw [View.canon_cons_unit_zero (S := S1x384x256) hz3]
    simp only [View.readAt_eq_ld, (hs0_0 t).read_unread, (hs0_1 t).read_unread, (hs0_2 t).read_unread, (hs0_3 t).read_unread,
      View.ld_unit_zero (S := S256x1024) hz2, View.ld_unit_zero (S := S1x1024) hz2]
    rfl
  · rw [outsAt0_B m c t h0]
    dsimp only
    unfold out0_B_9
    rw [View.read_writes_eq_canon _ _ _ (cover0_B_9 _ _ _ _ _ _ _ _ _ _ _ _ _ _ _ _ _ _ _ _ _ _ _ _ _ _ _ _ _ _ _ _ _ _ _ _ _ _ _ _ _ _)]
    unfold kernelRun0_B
    dsimp only
    sl_unfold_words
    rw [View.canon_cons_unit_zero (S := S1x384x256) hz3]
    simp only [View.readAt_eq_ld, (hs0_0 t).read_unread, (hs0_1 t).read_unread, (hs0_2 t).read_unread, (hs0_3 t).read_unread,
      View.ld_unit_zero (S := S256x1024) hz2, View.ld_unit_zero (S := S1x1024) hz2]
    rfl

theorem left_10 : (dats m 0 c).after 10 t = k0_pay18 (k0_pay2 (iblk m c 0 t) (iblk m c 1 t)) (View.ld (iblk m c 3 t) (Rect.unit (s := S1920x1024) ![1152, 0] S384x1024.size inb_S1920x1024_S384x1024_1152_0)) := by
  rw [after0_10]
  by_cases h0 : t.val % 32 = 0
  · rw [outsAt0_A m c t h0]
    dsimp only
    unfold out0_A_10
    rw [View.read_writes_eq_canon _ _ _ (cover0_A_10 _ _ _ _ _ _ _ _ _ _ _ _ _ _ _ _ _ _ _ _ _ _ _ _ _ _ _ _ _ _ _ _ _ _ _ _ _ _ _ _ _)]
    unfold kernelRun0_A
    dsimp only
    sl_unfold_words
    rw [View.canon_cons_unit_zero (S := S1x384x256) hz3]
    simp only [View.readAt_eq_ld, (hs0_0 t).read_unread, (hs0_1 t).read_unread, (hs0_2 t).read_unread, (hs0_3 t).read_unread,
      View.ld_unit_zero (S := S256x1024) hz2, View.ld_unit_zero (S := S1x1024) hz2]
    rfl
  · rw [outsAt0_B m c t h0]
    dsimp only
    unfold out0_B_10
    rw [View.read_writes_eq_canon _ _ _ (cover0_B_10 _ _ _ _ _ _ _ _ _ _ _ _ _ _ _ _ _ _ _ _ _ _ _ _ _ _ _ _ _ _ _ _ _ _ _ _ _ _ _ _ _ _)]
    unfold kernelRun0_B
    dsimp only
    sl_unfold_words
    rw [View.canon_cons_unit_zero (S := S1x384x256) hz3]
    simp only [View.readAt_eq_ld, (hs0_0 t).read_unread, (hs0_1 t).read_unread, (hs0_2 t).read_unread, (hs0_3 t).read_unread,
      View.ld_unit_zero (S := S256x1024) hz2, View.ld_unit_zero (S := S1x1024) hz2]
    rfl

theorem left_11 : (dats m 0 c).after 11 t = k0_pay19 (k0_pay2 (iblk m c 0 t) (iblk m c 1 t)) (View.ld (iblk m c 3 t) (Rect.unit (s := S1920x1024) ![1536, 0] S384x1024.size inb_S1920x1024_S384x1024_1536_0)) := by
  rw [after0_11]
  by_cases h0 : t.val % 32 = 0
  · rw [outsAt0_A m c t h0]
    dsimp only
    unfold out0_A_11
    rw [View.read_writes_eq_canon _ _ _ (cover0_A_11 _ _ _ _ _ _ _ _ _ _ _ _ _ _ _ _ _ _ _ _ _ _ _ _ _ _ _ _ _ _ _ _ _ _ _ _ _ _ _ _ _)]
    unfold kernelRun0_A
    dsimp only
    sl_unfold_words
    rw [View.canon_cons_unit_zero (S := S1x384x256) hz3]
    simp only [View.readAt_eq_ld, (hs0_0 t).read_unread, (hs0_1 t).read_unread, (hs0_2 t).read_unread, (hs0_3 t).read_unread,
      View.ld_unit_zero (S := S256x1024) hz2, View.ld_unit_zero (S := S1x1024) hz2]
    rfl
  · rw [outsAt0_B m c t h0]
    dsimp only
    unfold out0_B_11
    rw [View.read_writes_eq_canon _ _ _ (cover0_B_11 _ _ _ _ _ _ _ _ _ _ _ _ _ _ _ _ _ _ _ _ _ _ _ _ _ _ _ _ _ _ _ _ _ _ _ _ _ _ _ _ _ _)]
    unfold kernelRun0_B
    dsimp only
    sl_unfold_words
    rw [View.canon_cons_unit_zero (S := S1x384x256) hz3]
    simp only [View.readAt_eq_ld, (hs0_0 t).read_unread, (hs0_1 t).read_unread, (hs0_2 t).read_unread, (hs0_3 t).read_unread,
      View.ld_unit_zero (S := S256x1024) hz2, View.ld_unit_zero (S := S1x1024) hz2]
    rfl

theorem left_12 : (dats m 0 c).after 12 t = k0_pay20 (k0_pay2 (iblk m c 0 t) (iblk m c 1 t)) (View.ld (iblk m c 2 t) (Rect.unit (s := S1024x3584) ![0, 1920] S1024x384.size inb_S1024x3584_S1024x384_0_1920)) := by
  rw [after0_12]
  by_cases h0 : t.val % 32 = 0
  · rw [outsAt0_A m c t h0]
    dsimp only
    unfold out0_A_12
    rw [View.read_writes_eq_canon _ _ _ (cover0_A_12 _ _ _ _ _ _ _ _ _ _ _ _ _ _ _ _ _ _ _ _ _ _ _ _ _ _ _ _ _ _ _ _ _ _ _ _ _ _ _ _ _)]
    unfold kernelRun0_A
    dsimp only
    sl_unfold_words
    rw [View.canon_cons_unit_zero (S := S256x384) hz2]
    simp only [View.readAt_eq_ld, (hs0_0 t).read_unread, (hs0_1 t).read_unread, (hs0_2 t).read_unread, (hs0_3 t).read_unread,
      View.ld_unit_zero (S := S256x1024) hz2, View.ld_unit_zero (S := S1x1024) hz2]
    rfl
  · rw [outsAt0_B m c t h0]
    dsimp only
    unfold out0_B_12
    rw [View.read_writes_eq_canon _ _ _ (cover0_B_12 _ _ _ _ _ _ _ _ _ _ _ _ _ _ _ _ _ _ _ _ _ _ _ _ _ _ _ _ _ _ _ _ _ _ _ _ _ _ _ _ _ _)]
    unfold kernelRun0_B
    dsimp only
    sl_unfold_words
    rw [View.canon_cons_unit_zero (S := S256x384) hz2]
    simp only [View.readAt_eq_ld, (hs0_0 t).read_unread, (hs0_1 t).read_unread, (hs0_2 t).read_unread, (hs0_3 t).read_unread,
      View.ld_unit_zero (S := S256x1024) hz2, View.ld_unit_zero (S := S1x1024) hz2]
    rfl

theorem left_13 : (dats m 0 c).after 13 t = k0_pay22 (k0_pay21 (k0_pay2 (iblk m c 0 t) (iblk m c 1 t)) (View.ld (iblk m c 2 t) (Rect.unit (s := S1024x3584) ![0, 0] S1024x384.size inb_S1024x3584_S1024x384_0_0))) := by
  rw [after0_13]
  by_cases h0 : t.val % 32 = 0
  · rw [outsAt0_A m c t h0]
    dsimp only
    unfold out0_A_13
    rw [View.read_writes_eq_canon _ _ _ (cover0_A_13 _ _ _ _ _ _ _ _ _ _ _ _ _ _ _ _ _ _ _ _ _ _ _ _ _ _ _ _ _ _ _ _ _ _ _ _ _ _ _ _ _)]
    unfold kernelRun0_A
    dsimp only
    sl_unfold_words
    rw [View.canon_cons_unit_zero (S := S256x384) hz2]
    simp only [View.readAt_eq_ld, (hs0_0 t).read_unread, (hs0_1 t).read_unread, (hs0_2 t).read_unread, (hs0_3 t).read_unread,
      View.ld_unit_zero (S := S256x1024) hz2, View.ld_unit_zero (S := S1x1024) hz2]
    rfl
  · rw [outsAt0_B m c t h0]
    dsimp only
    unfold out0_B_13
    rw [View.read_writes_eq_canon _ _ _ (cover0_B_13 _ _ _ _ _ _ _ _ _ _ _ _ _ _ _ _ _ _ _ _ _ _ _ _ _ _ _ _ _ _ _ _ _ _ _ _ _ _ _ _ _ _)]
    unfold kernelRun0_B
    dsimp only
    sl_unfold_words
    rw [View.canon_cons_unit_zero (S := S256x384) hz2]
    simp only [View.readAt_eq_ld, (hs0_0 t).read_unread, (hs0_1 t).read_unread, (hs0_2 t).read_unread, (hs0_3 t).read_unread,
      View.ld_unit_zero (S := S256x1024) hz2, View.ld_unit_zero (S := S1x1024) hz2]
    rfl

theorem left_14 : (dats m 0 c).after 14 t = k0_pay23 (k0_pay2 (iblk m c 0 t) (iblk m c 1 t)) (View.ld (iblk m c 2 t) (Rect.unit (s := S1024x3584) ![0, 3072] S1024x256.size inb_S1024x3584_S1024x256_0_3072)) := by
  rw [after0_14]
  by_cases h0 : t.val % 32 = 0
  · rw [outsAt0_A m c t h0]
    dsimp only
    unfold out0_A_14
    rw [View.read_writes_eq_canon _ _ _ (cover0_A_14 _ _ _ _ _ _ _ _ _ _ _ _ _ _ _ _ _ _ _ _ _ _ _ _ _ _ _ _ _ _ _ _ _ _ _ _ _ _ _ _ _)]
    unfold kernelRun0_A
    dsimp only
    sl_unfold_words
    rw [View.canon_cons_unit_zero (S := S256x256) hz2]
    simp only [View.readAt_eq_ld, (hs0_0 t).read_unread, (hs0_1 t).read_unread, (hs0_2 t).read_unread, (hs0_3 t).read_unread,
      View.ld_unit_zero (S := S256x1024) hz2, View.ld_unit_zero (S := S1x1024) hz2]
    rfl
  · rw [outsAt0_B m c t h0]
    dsimp only
    unfold out0_B_14
    rw [View.read_writes_eq_canon _ _ _ (cover0_B_14 _ _ _ _ _ _ _ _ _ _ _ _ _ _ _ _ _ _ _ _ _ _ _ _ _ _ _ _ _ _ _ _ _ _ _ _ _ _ _ _ _ _)]
    unfold kernelRun0_B
    dsimp only
    sl_unfold_words
    rw [View.canon_cons_unit_zero (S := S256x256) hz2]
    simp only [View.readAt_eq_ld, (hs0_0 t).read_unread, (hs0_1 t).read_unread, (hs0_2 t).read_unread, (hs0_3 t).read_unread,
      View.ld_unit_zero (S := S256x1024) hz2, View.ld_unit_zero (S := S1x1024) hz2]
    rfl

theorem left_15 : (dats m 0 c).after 15 t = View.canon
    [(⟨Rect.unit (s := S256x1024) ![0, 768] S256x256.size inb_S256x1024_S256x256_0_768, k0_pay1 (k0_pay2 (iblk m c 0 t) (iblk m c 1 t)) (View.ld (iblk m c 2 t) (Rect.unit (s := S1024x3584) ![0, 3328] S1024x256.size inb_S1024x3584_S1024x256_0_3328))⟩ : View.Piece (Elt Ideal) S256x1024 .f32),
     ⟨Rect.unit (s := S256x1024) ![0, 384] S256x384.size inb_S256x1024_S256x384_0_384, k0_pay25 (k0_pay2 (iblk m c 0 t) (iblk m c 1 t)) (View.ld (iblk m c 2 t) (Rect.unit (s := S1024x3584) ![0, 2688] S1024x384.size inb_S1024x3584_S1024x384_0_2688))⟩,
     ⟨Rect.unit (s := S256x1024) ![0, 0] S256x384.size inb_S256x1024_S256x384_0_0, k0_pay24 (k0_pay2 (iblk m c 0 t) (iblk m c 1 t)) (View.ld (iblk m c 2 t) (Rect.unit (s := S1024x3584) ![0, 1152] S1024x384.size inb_S1024x3584_S1024x384_0_1152))⟩] := by
  rw [after0_15]
  by_cases h0 : t.val % 32 = 0
  · rw [outsAt0_A m c t h0]
    dsimp only
    unfold out0_A_15
    rw [View.read_writes_eq_canon _ _ _ (cover0_A_15 _ _ _ _ _ _ _ _ _ _ _ _ _ _ _ _ _ _ _ _ _ _ _ _ _ _ _ _ _ _ _ _ _ _ _ _ _ _ _ _ _)]
    unfold kernelRun0_A
    dsimp only
    sl_unfold_words
    simp only [View.readAt_eq_ld, (hs0_0 t).read_unread, (hs0_1 t).read_unread, (hs0_2 t).read_unread, (hs0_3 t).read_unread,
      View.ld_unit_zero (S := S256x1024) hz2, View.ld_unit_zero (S := S1x1024) hz2]
    rfl
  · rw [outsAt0_B m c t h0]
    dsimp only
    unfold out0_B_15
    rw [View.read_writes_eq_canon _ _ _ (cover0_B_15 _ _ _ _ _ _ _ _ _ _ _ _ _ _ _ _ _ _ _ _ _ _ _ _ _ _ _ _ _ _ _ _ _ _ _ _ _ _ _ _ _ _)]
    unfold kernelRun0_B
    dsimp only
    sl_unfold_words
    simp only [View.readAt_eq_ld, (hs0_0 t).read_unread, (hs0_1 t).read_unread, (hs0_2 t).read_unread, (hs0_3 t).read_unread,
      View.ld_unit_zero (S := S256x1024) hz2, View.ld_unit_zero (S := S1x1024) hz2]
    rfl

theorem left_16_A (h0 : t.val % 32 = 0) : (dats m 0 c).after 16 t = k0_pay15 (k0_pay12 (BitVec.ofNat 32 (grid0.coords t 0).val))
    (k0_pay13 (k0_pay11 (F := Ideal))) (k0_pay14 (k0_pay2 (iblk m c 0 t) (iblk m c 1 t)) (View.ld (iblk m c 3 t) (Rect.unit (s := S1920x1024) ![768, 0] S384x1024.size inb_S1920x1024_S384x1024_768_0))) := by
  rw [after0_16, outsAt0_A m c t h0]
  dsimp only
  unfold out0_A_16
  rw [View.read_writes_eq_canon _ _ _ (cover0_A_16 _ _ _ _ _ _ _ _ _ _ _ _ _ _ _ _ _ _ _ _ _ _ _ _ _ _ _ _ _ _ _ _ _ _ _ _ _ _ _ _ _)]
  unfold kernelRun0_A
  dsimp only
  sl_unfold_words
  rw [View.canon_cons_unit_zero (S := S1x384x128) hz3, View.readCov_unit_zero (S := S1x384x128) _ hz3]
  simp only [View.readAt_eq_ld, (hs0_0 t).read_unread, (hs0_1 t).read_unread, (hs0_2 t).read_unread, (hs0_3 t).read_unread, (hs0_16 t).read_unread,
      View.ld_unit_zero (S := S256x1024) hz2, View.ld_unit_zero (S := S1x1024) hz2, View.ld_unit_zero (S := S1x384x128) hz3]
  rfl

theorem left_16_B (h0 : ¬t.val % 32 = 0) : (dats m 0 c).after 16 t = k0_pay15 (k0_pay12 (BitVec.ofNat 32 (grid0.coords t 0).val))
    (k0_pay13 ((dats m 0 c).after 16 ⟨t.val - 1, Nat.lt_of_le_of_lt (Nat.sub_le _ _) t.isLt⟩)) (k0_pay14 (k0_pay2 (iblk m c 0 t) (iblk m c 1 t)) (View.ld (iblk m c 3 t) (Rect.unit (s := S1920x1024) ![768, 0] S384x1024.size inb_S1920x1024_S384x1024_768_0))) := by
  rw [after0_16, outsAt0_B m c t h0]
  dsimp only
  unfold out0_B_16
  rw [View.read_writes_eq_canon _ _ _ (cover0_B_16 _ _ _ _ _ _ _ _ _ _ _ _ _ _ _ _ _ _ _ _ _ _ _ _ _ _ _ _ _ _ _ _ _ _ _ _ _ _ _ _ _ _)]
  unfold kernelRun0_B
  dsimp only
  sl_unfold_words
  rw [View.canon_cons_unit_zero (S := S1x384x128) hz3]
  simp only [View.readAt_eq_ld, (hs0_0 t).read_unread, (hs0_1 t).read_unread, (hs0_2 t).read_unread, (hs0_3 t).read_unread, (hs0_16 t).read_unread,
      View.ld_unit_zero (S := S256x1024) hz2, View.ld_unit_zero (S := S1x1024) hz2, View.ld_unit_zero (S := S1x384x128) hz3]
  rfl

end Cert.Proof.PJ
-- ==== Proof.PJ.Read.lean ====
/- What the projection computes from a tile of tokens, read at an index over the extended reals. -/
module

public import proofs.«01_k».proof.Proof.Gen.Kernel2Ideal.Skeleton
public import Idealize.ShloMosaic.Lib.Pointwise
public import Idealize.ShloMosaic.PureOps.Ideal.Laws

@[expose] public section

set_option maxRecDepth 16384

noncomputable section

namespace Cert.Proof.PJ

open Cert.Kernel2Ideal Cert.Kernel2Ideal.Gen
open Idealize.ShloMosaic

/-- A row's scale: the reciprocal root of its mean square, a small constant added. -/
def scale (f : Fin 1024 → EReal) : EReal :=
  Ideal.rsqrt (Ideal.div (∑ j, f j * f j) (Ideal.ofBits .f32 0x44800000#32) + Ideal.ofBits .f32 0x358637BD#32)

/-- A gate: its argument times the logistic function of it. -/
def gate (p : EReal) : EReal := p * Ideal.div 1 (1 + Ideal.exp (0 - p))

/-- The scale of a query, one over the root of the head's width. -/
def eighth : EReal := Ideal.ofBits .f32 0x3E000000#32

/-- One over the number of tokens of a tile. -/
def tileth : EReal := Ideal.ofBits .f32 0x3B800000#32

/-- The hidden state of a row. -/
theorem hidden_apply (x : Vec Ideal S256x1024 .f32) (g : Vec Ideal S1x1024 .f32) (r : Fin 256) (k : Fin 1024) :
    k0_pay2 x g (ix2 r k) = x (ix2 r k) * scale (fun j => x (ix2 r j)) * g (ix2 0 k) := by
  unfold_payloads
  pointwise
  rfl

theorem cols3_apply (x : Vec Ideal S256x1024 .f32) (g : Vec Ideal S1x1024 .f32) (w : Vec Ideal S384x1024 .bf16) (d : Fin 384) (r : Fin 256) :
    k0_pay3 x g w (ix2 d r) = ∑ k : Fin 1024, w (ix2 d k) * k0_pay2 x g (ix2 r k) := by
  unfold k0_pay3
  generalize k0_pay2 x g = h
  pointwise

theorem cols6_apply (x : Vec Ideal S256x1024 .f32) (g : Vec Ideal S1x1024 .f32) (w : Vec Ideal S384x1024 .bf16) (d : Fin 384) (r : Fin 256) :
    k0_pay6 x g w (ix2 d r) = ∑ k : Fin 1024, w (ix2 d k) * k0_pay2 x g (ix2 r k) := by
  unfold k0_pay6
  generalize k0_pay2 x g = h
  pointwise

theorem cols9_apply (h : Vec Ideal S256x1024 .bf16) (w : Vec Ideal S384x1024 .bf16) (d : Fin 384) (r : Fin 256) :
    k0_pay9 h w (ix2 d r) = ∑ k : Fin 1024, w (ix2 d k) * h (ix2 r k) := by
  unfold k0_pay9
  pointwise

theorem cols16_apply (h : Vec Ideal S256x1024 .bf16) (w : Vec Ideal S384x1024 .bf16) (d : Fin 384) (r : Fin 256) :
    k0_pay16 h w (ix2 d r) = ∑ k : Fin 1024, w (ix2 d k) * h (ix2 r k) := by
  unfold k0_pay16
  pointwise

theorem cols4_apply (x : Vec Ideal S256x1024 .f32) (g : Vec Ideal S1x1024 .f32) (w : Vec Ideal S384x1024 .bf16) (u v : Fin 1) (d : Fin 384) (r : Fin 256) :
    k0_pay4 x g w (ix4 u v d r) = ∑ k : Fin 1024, w (ix2 d k) * k0_pay2 x g (ix2 r k) := by
  rw [← cols3_apply]
  unfold k0_pay4
  generalize k0_pay3 x g w = y
  pointwise

theorem cols5_apply (x : Vec Ideal S256x1024 .f32) (g : Vec Ideal S1x1024 .f32) (w : Vec Ideal S384x1024 .bf16) (u : Fin 1) (d : Fin 384) (r : Fin 256) :
    k0_pay5 x g w (ix3 u d r) = ∑ k : Fin 1024, w (ix2 d k) * k0_pay2 x g (ix2 r k) := by
  rw [← cols3_apply]
  unfold k0_pay5
  generalize k0_pay3 x g w = y
  pointwise

theorem cols7_apply (x : Vec Ideal S256x1024 .f32) (g : Vec Ideal S1x1024 .f32) (w : Vec Ideal S384x1024 .bf16) (u v : Fin 1) (d : Fin 384) (r : Fin 256) :
    k0_pay7 x g w (ix4 u v d r) = ∑ k : Fin 1024, w (ix2 d k) * k0_pay2 x g (ix2 r k) := by
  rw [← cols6_apply]
  unfold k0_pay7
  generalize k0_pay6 x g w = y
  pointwise

theorem cols8_apply (x : Vec Ideal S256x1024 .f32) (g : Vec Ideal S1x1024 .f32) (w : Vec Ideal S384x1024 .bf16) (u : Fin 1) (d : Fin 384) (r : Fin 256) :
    k0_pay8 (k0_pay6 x g w) (ix3 u d r) = ∑ k : Fin 1024, w (ix2 d k) * k0_pay2 x g (ix2 r k) := by
  rw [← cols6_apply]
  unfold k0_pay8
  generalize k0_pay6 x g w = y
  pointwise

theorem cols10_apply (h : Vec Ideal S256x1024 .bf16) (w : Vec Ideal S384x1024 .bf16) (u v : Fin 1) (d : Fin 384) (r : Fin 256) :
    k0_pay10 h w (ix4 u v d r) = ∑ k : Fin 1024, w (ix2 d k) * h (ix2 r k) := by
  rw [← cols9_apply]
  unfold k0_pay10
  generalize k0_pay9 h w = y
  pointwise

theorem cols17_apply (h : Vec Ideal S256x1024 .bf16) (w : Vec Ideal S384x1024 .bf16) (u v : Fin 1) (d : Fin 384) (r : Fin 256) :
    k0_pay17 h w (ix4 u v d r) = ∑ k : Fin 1024, w (ix2 d k) * h (ix2 r k) := by
  rw [← cols16_apply]
  unfold k0_pay17
  generalize k0_pay16 h w = y
  pointwise

theorem cols18_apply (h : Vec Ideal S256x1024 .bf16) (w : Vec Ideal S384x1024 .bf16) (u : Fin 1) (d : Fin 384) (r : Fin 256) :
    k0_pay18 h w (ix3 u d r) = ∑ k : Fin 1024, w (ix2 d k) * h (ix2 r k) := by
  rw [← cols16_apply]
  unfold k0_pay18
  generalize k0_pay16 h w = y
  pointwise

theorem cols19_apply (h : Vec Ideal S256x1024 .bf16) (w : Vec Ideal S384x1024 .bf16) (u : Fin 1) (d : Fin 384) (r : Fin 256) :
    k0_pay19 h w (ix3 u d r) = ∑ k : Fin 1024, w (ix2 d k) * h (ix2 r k) := by
  unfold k0_pay19
  pointwise

theorem rows20_apply (h : Vec Ideal S256x1024 .bf16) (w : Vec Ideal S1024x384 .bf16) (r : Fin 256) (d : Fin 384) :
    k0_pay20 h w (ix2 r d) = ∑ k : Fin 1024, h (ix2 r k) * w (ix2 k d) := by
  unfold k0_pay20
  pointwise

theorem rows22_apply (h : Vec Ideal S256x1024 .bf16) (w : Vec Ideal S1024x384 .bf16) (r : Fin 256) (d : Fin 384) :
    k0_pay22 (k0_pay21 h w) (ix2 r d) = (∑ k : Fin 1024, h (ix2 r k) * w (ix2 k d)) * eighth := by
  unfold k0_pay22 k0_pay21
  pointwise
  rfl

theorem rows23_apply (h : Vec Ideal S256x1024 .bf16) (w : Vec Ideal S1024x256 .bf16) (r : Fin 256) (d : Fin 256) :
    k0_pay23 h w (ix2 r d) = (∑ k : Fin 1024, h (ix2 r k) * w (ix2 k d)) * eighth := by
  unfold k0_pay23
  pointwise
  rfl

theorem rows24_apply (h : Vec Ideal S256x1024 .bf16) (w : Vec Ideal S1024x384 .bf16) (r : Fin 256) (d : Fin 384) :
    k0_pay24 h w (ix2 r d) = gate (∑ k : Fin 1024, h (ix2 r k) * w (ix2 k d)) := by
  unfold k0_pay24
  pointwise
  rfl

theorem rows25_apply (h : Vec Ideal S256x1024 .bf16) (w : Vec Ideal S1024x384 .bf16) (r : Fin 256) (d : Fin 384) :
    k0_pay25 h w (ix2 r d) = gate (∑ k : Fin 1024, h (ix2 r k) * w (ix2 k d)) := by
  unfold k0_pay25
  pointwise
  rfl

theorem rows1_apply (h : Vec Ideal S256x1024 .bf16) (w : Vec Ideal S1024x256 .bf16) (r : Fin 256) (d : Fin 256) :
    k0_pay1 h w (ix2 r d) = gate (∑ k : Fin 1024, h (ix2 r k) * w (ix2 k d)) := by
  unfold k0_pay1
  pointwise
  rfl

/-- A tile's sum of keys over its tokens, times one over their number: the same in every lane. -/
theorem mean_apply (h : Vec Ideal S256x1024 .bf16) (w : Vec Ideal S384x1024 .bf16) (d : Fin 384) (l : Fin 128) :
    k0_pay14 h w (ix2 d l) = (∑ r : Fin 256, ∑ k : Fin 1024, w (ix2 d k) * h (ix2 r k)) * tileth := by
  unfold k0_pay14 k0_pay9
  pointwise
  rfl

theorem zero_apply (u : Fin 1) (d : Fin 384) (l : Fin 128) : k0_pay11 (F := Ideal) (ix3 u d l) = 0 := by
  unfold k0_pay11
  pointwise

theorem flat_apply (y : Vec Ideal S1x384x128 .f32) (d : Fin 384) (l : Fin 128) : k0_pay13 y (ix2 d l) = y (ix3 0 d l) := by
  unfold k0_pay13
  pointwise

theorem pick_apply (s : IVec S384x128 1) (y z : FVec Ideal S384x128 .f32) (u : Fin 1) (d : Fin 384) (l : Fin 128) :
    k0_pay15 s y z (ix3 u d l) = if s (ix2 d l) = 1#1 then z (ix2 d l) else y (ix2 d l) := by
  unfold k0_pay15
  pointwise
  rfl

/-- The lane a tile's mean goes to. -/
theorem lane_apply (a : ℕ) (ha : a < 64) (d : Fin 384) (l : Fin 128) :
    k0_pay12 (BitVec.ofNat 32 a) (ix2 d l) = 1#1 ↔ l.val = a % 32 := by
  unfold k0_pay12
  pointwise
  revert d l
  revert a
  decide +kernel

end Cert.Proof.PJ
-- ==== Proof.PJ.Blocks.lean ====
/- What the projection's windows hold at a point, read off the arguments. -/
module

public import proofs.«01_k».proof.Proof.PJ.Stores
public import proofs.«01_k».proof.Proof.PJ.Read

@[expose] public section

set_option maxRecDepth 16384

noncomputable section

namespace Cert.Proof.PJ

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

/-- A token's hidden state: its row normalised and weighted. -/
def hid (x : S16384x1024.Idx → EReal) (g : S1024.Idx → EReal) (t : ℕ) (k : Fin 1024) : EReal :=
  x (ix2 (Fin.ofNat 16384 t) k) * scale (fun j => x (ix2 (Fin.ofNat 16384 t) j)) * g (ix1 k)

/-- A token's projection on a column of the weights. -/
def proj (x : S16384x1024.Idx → EReal) (g : S1024.Idx → EReal) (w : S1024x3584.Idx → EReal) (t e : ℕ) : EReal :=
  ∑ k : Fin 1024, hid x g t k * w (ix2 k (Fin.ofNat 3584 e))

/-- The block each window names at a point: the tile of tokens is the point's number. -/
theorem blocks : ∀ t : Fin cfg0.N,
    win0_0.index t = ![t.val, 0] ∧ win0_1.index t = ![0, 0] ∧ win0_2.index t = ![0, 0] ∧ win0_3.index t = ![0, 0]
    ∧ win0_4.index t = ![1, t.val / 32, 0, t.val % 32] ∧ win0_5.index t = ![1, t.val / 32, 0, t.val % 32]
    ∧ win0_6.index t = ![1, t.val / 32, 0, t.val % 32] ∧ win0_7.index t = ![1, t.val / 32, 0, t.val % 32]
    ∧ win0_8.index t = ![t.val, 0, 0] ∧ win0_9.index t = ![t.val, 0, 0]
    ∧ win0_10.index t = ![t.val, 0, 0] ∧ win0_11.index t = ![t.val, 0, 0]
    ∧ win0_12.index t = ![t.val, 0] ∧ win0_13.index t = ![t.val, 0]
    ∧ win0_14.index t = ![t.val, 0] ∧ win0_15.index t = ![t.val, 0] ∧ win0_16.index t = ![t.val / 32, 0, 0] := by
  decide +kernel

theorem coord : ∀ t : Fin cfg0.N, (grid0.coords t 0).val = t.val := by decide +kernel

theorem pt_lt (t : Fin cfg0.N) : t.val < 64 := t.isLt

theorem entry_v9 (k : Fin 1024) : V m c main_v9 (ix2 0 k) = m ((c : Thread nD τ).loc main_arg1) (ix1 k) := by
  entry_read
  pointwise

theorem entry_v0 (k : Fin 1024) (e : Fin 3584) : V m c main_v0 (ix2 k e) = m ((c : Thread nD τ).loc main_arg2) (ix2 k e) := by
  entry_read
  pointwise

/-- The weights of the token-minor outputs, one column of the projection per row: five groups of columns, one after another. -/
def weightT (w : FVec Ideal S1024x3584 .f32) : FVec Ideal S1920x1024 .bf16 :=
  truncf .bf16 (transpose S1920x1024 [1, 0] (concatenate S1024x1920 1 [
    ⟨S1024x384, extractStridedSlice S1024x384 ![0, 384] w slices_S1024x3584_S1024x384_0_384⟩,
    ⟨S1024x384, extractStridedSlice S1024x384 ![0, 768] w slices_S1024x3584_S1024x384_0_768⟩,
    ⟨S1024x384, extractStridedSlice S1024x384 ![0, 1920] w slices_S1024x3584_S1024x384_0_1920⟩,
    ⟨S1024x384, extractStridedSlice S1024x384 ![0, 2304] w slices_S1024x3584_S1024x384_0_2304⟩,
    ⟨S1024x384, extractStridedSlice S1024x384 ![0, 1536] w slices_S1024x3584_S1024x384_0_1536⟩]
    concatenates_S1024x384_S1024x384_S1024x384_S1024x384_S1024x384_S1024x1920_d1) transposes_S1024x1920_S1920x1024_1_0) bitsLt_bf16_f32

theorem entry_v8 : V m c main_v8 = weightT (m ((c : Thread nD τ).loc main_arg2)) := by
  rfl

theorem weightT_0 (w : FVec Ideal S1024x3584 .f32) (d : Fin 384) (k : Fin 1024) :
    weightT w (ix2 ⟨0 + d.val, by omega⟩ k) = w (ix2 k ⟨384 + d.val, by omega⟩) := by
  unfold weightT
  pointwise
  try (split_ifs <;> first | omega | exact congrArg (fun e => w (ix2 k e)) (Fin.ext (by simp only; omega)))

theorem weightT_384 (w : FVec Ideal S1024x3584 .f32) (d : Fin 384) (k : Fin 1024) :
    weightT w (ix2 ⟨384 + d.val, by omega⟩ k) = w (ix2 k ⟨768 + d.val, by omega⟩) := by
  unfold weightT
  pointwise
  try (split_ifs <;> first | omega | exact congrArg (fun e => w (ix2 k e)) (Fin.ext (by simp only; omega)))

theorem weightT_768 (w : FVec Ideal S1024x3584 .f32) (d : Fin 384) (k : Fin 1024) :
    weightT w (ix2 ⟨768 + d.val, by omega⟩ k) = w (ix2 k ⟨1920 + d.val, by omega⟩) := by
  unfold weightT
  pointwise
  try (split_ifs <;> first | omega | exact congrArg (fun e => w (ix2 k e)) (Fin.ext (by simp only; omega)))

theorem weightT_1152 (w : FVec Ideal S1024x3584 .f32) (d : Fin 384) (k : Fin 1024) :
    weightT w (ix2 ⟨1152 + d.val, by omega⟩ k) = w (ix2 k ⟨2304 + d.val, by omega⟩) := by
  unfold weightT
  pointwise
  try (split_ifs <;> first | omega | exact congrArg (fun e => w (ix2 k e)) (Fin.ext (by simp only; omega)))

theorem weightT_1536 (w : FVec Ideal S1024x3584 .f32) (d : Fin 384) (k : Fin 1024) :
    weightT w (ix2 ⟨1536 + d.val, by omega⟩ k) = w (ix2 k ⟨1536 + d.val, by omega⟩) := by
  unfold weightT
  pointwise
  try (split_ifs <;> first | omega | exact congrArg (fun e => w (ix2 k e)) (Fin.ext (by simp only; omega)))

/-- The hidden state of a row of the point's tile. -/
theorem hidden_at (t : Fin cfg0.N) (r : Fin 256) (k : Fin 1024) :
    k0_pay2 (iblk m c 0 t) (iblk m c 1 t) (ix2 r k) = hid (m ((c : Thread nD τ).loc main_arg0)) (m ((c : Thread nD τ).loc main_arg1)) (256 * t.val + r.val) k := by
  have e := (blocks t).1
  have e1 := (blocks t).2.1
  have ht := pt_lt t
  have hx : ∀ j : Fin 1024, iblk m c 0 t (ix2 r j) = m ((c : Thread nD τ).loc main_arg0) (ix2 (Fin.ofNat 16384 (256 * t.val + r.val)) j) := by
    intro j
    unfold iblk
    show V m c main_arg0 ((cfg0.win 0).blk t |>.view.emb (ix2 r j)) = _
    rw [show ((cfg0.win 0).blk t |>.view.emb (ix2 r j)) = ix2 ⟨256 * t.val + r.val, by omega⟩ j by blk_ext [e]]
    rw [show (⟨256 * t.val + r.val, by omega⟩ : Fin 16384) = Fin.ofNat 16384 (256 * t.val + r.val) from Fin.ext (Nat.mod_eq_of_lt (by omega)).symm]
    entry_read
    rfl
  have hg : iblk m c 1 t (ix2 0 k) = m ((c : Thread nD τ).loc main_arg1) (ix1 k) := by
    unfold iblk
    show V m c main_v9 ((cfg0.win 1).blk t |>.view.emb (ix2 0 k)) = _
    rw [show ((cfg0.win 1).blk t |>.view.emb (ix2 0 k)) = ix2 0 k by blk_ext [e1]]
    exact entry_v9 m c k
  rw [hidden_apply, hg]
  simp only [hx]
  rfl

theorem weights_at (t : Fin cfg0.N) (k : Fin 1024) (e : Fin 3584) :
    iblk m c 2 t (ix2 k e) = m ((c : Thread nD τ).loc main_arg2) (ix2 k e) := by
  have h := (blocks t).2.2.1
  unfold iblk
  show V m c main_v0 ((cfg0.win 2).blk t |>.view.emb (ix2 k e)) = _
  rw [show ((cfg0.win 2).blk t |>.view.emb (ix2 k e)) = ix2 k e by blk_ext [h]]
  exact entry_v0 m c k e

theorem weightsT_at (t : Fin cfg0.N) (k : Fin 1024) (e : Fin 1920) :
    iblk m c 3 t (ix2 e k) = weightT (m ((c : Thread nD τ).loc main_arg2)) (ix2 e k) := by
  have h := (blocks t).2.2.2.1
  unfold iblk
  show V m c main_v8 ((cfg0.win 3).blk t |>.view.emb (ix2 e k)) = _
  rw [show ((cfg0.win 3).blk t |>.view.emb (ix2 e k)) = ix2 e k by blk_ext [h]]
  rw [entry_v8]

/-- The projection of the call's own arguments. -/
abbrev prj (t e : ℕ) : EReal :=
  proj (m ((c : Thread nD τ).loc main_arg0)) (m ((c : Thread nD τ).loc main_arg1)) (m ((c : Thread nD τ).loc main_arg2)) t e

abbrev part_0 (t : Fin cfg0.N) : Vec Ideal S384x1024 .bf16 :=
  View.ld (iblk m c 3 t) (Rect.unit (s := S1920x1024) ![0, 0] S384x1024.size inb_S1920x1024_S384x1024_0_0)

theorem cols_0 (t : Fin cfg0.N) (d : Fin 384) (r : Fin 256) :
    ∑ k : Fin 1024, part_0 m c t (ix2 d k) * k0_pay2 (iblk m c 0 t) (iblk m c 1 t) (ix2 r k) = prj m c (256 * t.val + r.val) (384 + d.val) := by
  unfold prj proj
  refine Finset.sum_congr rfl fun k _ => ?_
  rw [hidden_at, mul_comm]
  congr 1
  have h : part_0 m c t (ix2 d k) = iblk m c 3 t (ix2 ⟨0 + d.val, by omega⟩ k) := by
    unfold part_0
    generalize iblk m c 3 t = y
    revert y
    intro (y : S1920x1024.Idx → EReal)
    pointwise
  rw [h, weightsT_at, weightT_0]
  congr 2
  exact Fin.ext (Nat.mod_eq_of_lt (by omega)).symm

abbrev part_384 (t : Fin cfg0.N) : Vec Ideal S384x1024 .bf16 :=
  View.ld (iblk m c 3 t) (Rect.unit (s := S1920x1024) ![384, 0] S384x1024.size inb_S1920x1024_S384x1024_384_0)

theorem cols_384 (t : Fin cfg0.N) (d : Fin 384) (r : Fin 256) :
    ∑ k : Fin 1024, part_384 m c t (ix2 d k) * k0_pay2 (iblk m c 0 t) (iblk m c 1 t) (ix2 r k) = prj m c (256 * t.val + r.val) (768 + d.val) := by
  unfold prj proj
  refine Finset.sum_congr rfl fun k _ => ?_
  rw [hidden_at, mul_comm]
  congr 1
  have h : part_384 m c t (ix2 d k) = iblk m c 3 t (ix2 ⟨384 + d.val, by omega⟩ k) := by
    unfold part_384
    generalize iblk m c 3 t = y
    revert y
    intro (y : S1920x1024.Idx → EReal)
    pointwise
  rw [h, weightsT_at, weightT_384]
  congr 2
  exact Fin.ext (Nat.mod_eq_of_lt (by omega)).symm

abbrev part_768 (t : Fin cfg0.N) : Vec Ideal S384x1024 .bf16 :=
  View.ld (iblk m c 3 t) (Rect.unit (s := S1920x1024) ![768, 0] S384x1024.size inb_S1920x1024_S384x1024_768_0)

theorem cols_768 (t : Fin cfg0.N) (d : Fin 384) (r : Fin 256) :
    ∑ k : Fin 1024, part_768 m c t (ix2 d k) * k0_pay2 (iblk m c 0 t) (iblk m c 1 t) (ix2 r k) = prj m c (256 * t.val + r.val) (1920 + d.val) := by
  unfold prj proj
  refine Finset.sum_congr rfl fun k _ => ?_
  rw [hidden_at, mul_comm]
  congr 1
  have h : part_768 m c t (ix2 d k) = iblk m c 3 t (ix2 ⟨768 + d.val, by omega⟩ k) := by
    unfold part_768
    generalize iblk m c 3 t = y
    revert y
    intro (y : S1920x1024.Idx → EReal)
    pointwise
  rw [h, weightsT_at, weightT_768]
  congr 2
  exact Fin.ext (Nat.mod_eq_of_lt (by omega)).symm

abbrev part_1152 (t : Fin cfg0.N) : Vec Ideal S384x1024 .bf16 :=
  View.ld (iblk m c 3 t) (Rect.unit (s := S1920x1024) ![1152, 0] S384x1024.size inb_S1920x1024_S384x1024_1152_0)

theorem cols_1152 (t : Fin cfg0.N) (d : Fin 384) (r : Fin 256) :
    ∑ k : Fin 1024, part_1152 m c t (ix2 d k) * k0_pay2 (iblk m c 0 t) (iblk m c 1 t) (ix2 r k) = prj m c (256 * t.val + r.val) (2304 + d.val) := by
  unfold prj proj
  refine Finset.sum_congr rfl fun k _ => ?_
  rw [hidden_at, mul_comm]
  congr 1
  have h : part_1152 m c t (ix2 d k) = iblk m c 3 t (ix2 ⟨1152 + d.val, by omega⟩ k) := by
    unfold part_1152
    generalize iblk m c 3 t = y
    revert y
    intro (y : S1920x1024.Idx → EReal)
    pointwise
  rw [h, weightsT_at, weightT_1152]
  congr 2
  exact Fin.ext (Nat.mod_eq_of_lt (by omega)).symm

abbrev part_1536 (t : Fin cfg0.N) : Vec Ideal S384x1024 .bf16 :=
  View.ld (iblk m c 3 t) (Rect.unit (s := S1920x1024) ![1536, 0] S384x1024.size inb_S1920x1024_S384x1024_1536_0)

theorem cols_1536 (t : Fin cfg0.N) (d : Fin 384) (r : Fin 256) :
    ∑ k : Fin 1024, part_1536 m c t (ix2 d k) * k0_pay2 (iblk m c 0 t) (iblk m c 1 t) (ix2 r k) = prj m c (256 * t.val + r.val) (1536 + d.val) := by
  unfold prj proj
  refine Finset.sum_congr rfl fun k _ => ?_
  rw [hidden_at, mul_comm]
  congr 1
  have h : part_1536 m c t (ix2 d k) = iblk m c 3 t (ix2 ⟨1536 + d.val, by omega⟩ k) := by
    unfold part_1536
    generalize iblk m c 3 t = y
    revert y
    intro (y : S1920x1024.Idx → EReal)
    pointwise
  rw [h, weightsT_at, weightT_1536]
  congr 2
  exact Fin.ext (Nat.mod_eq_of_lt (by omega)).symm

theorem rows_0 (t : Fin cfg0.N) (d : Fin 384) (r : Fin 256) :
    ∑ k : Fin 1024, k0_pay2 (iblk m c 0 t) (iblk m c 1 t) (ix2 r k)
      * View.ld (iblk m c 2 t) (Rect.unit (s := S1024x3584) ![0, 0] S1024x384.size inb_S1024x3584_S1024x384_0_0) (ix2 k d)
      = prj m c (256 * t.val + r.val) (0 + d.val) := by
  unfold prj proj
  refine Finset.sum_congr rfl fun k _ => ?_
  rw [hidden_at]
  congr 1
  have h : View.ld (iblk m c 2 t) (Rect.unit (s := S1024x3584) ![0, 0] S1024x384.size inb_S1024x3584_S1024x384_0_0) (ix2 k d)
      = iblk m c 2 t (ix2 k ⟨0 + d.val, by omega⟩) := by
    generalize iblk m c 2 t = y
    revert y
    intro (y : S1024x3584.Idx → EReal)
    pointwise
  rw [h, weights_at]
  congr 2
  exact Fin.ext (Nat.mod_eq_of_lt (by omega)).symm

theorem rows_1152 (t : Fin cfg0.N) (d : Fin 384) (r : Fin 256) :
    ∑ k : Fin 1024, k0_pay2 (iblk m c 0 t) (iblk m c 1 t) (ix2 r k)
      * View.ld (iblk m c 2 t) (Rect.unit (s := S1024x3584) ![0, 1152] S1024x384.size inb_S1024x3584_S1024x384_0_1152) (ix2 k d)
      = prj m c (256 * t.val + r.val) (1152 + d.val) := by
  unfold prj proj
  refine Finset.sum_congr rfl fun k _ => ?_
  rw [hidden_at]
  congr 1
  have h : View.ld (iblk m c 2 t) (Rect.unit (s := S1024x3584) ![0, 1152] S1024x384.size inb_S1024x3584_S1024x384_0_1152) (ix2 k d)
      = iblk m c 2 t (ix2 k ⟨1152 + d.val, by omega⟩) := by
    generalize iblk m c 2 t = y
    revert y
    intro (y : S1024x3584.Idx → EReal)
    pointwise
  rw [h, weights_at]
  congr 2
  exact Fin.ext (Nat.mod_eq_of_lt (by omega)).symm

theorem rows_1920 (t : Fin cfg0.N) (d : Fin 384) (r : Fin 256) :
    ∑ k : Fin 1024, k0_pay2 (iblk m c 0 t) (iblk m c 1 t) (ix2 r k)
      * View.ld (iblk m c 2 t) (Rect.unit (s := S1024x3584) ![0, 1920] S1024x384.size inb_S1024x3584_S1024x384_0_1920) (ix2 k d)
      = prj m c (256 * t.val + r.val) (1920 + d.val) := by
  unfold prj proj
  refine Finset.sum_congr rfl fun k _ => ?_
  rw [hidden_at]
  congr 1
  have h : View.ld (iblk m c 2 t) (Rect.unit (s := S1024x3584) ![0, 1920] S1024x384.size inb_S1024x3584_S1024x384_0_1920) (ix2 k d)
      = iblk m c 2 t (ix2 k ⟨1920 + d.val, by omega⟩) := by
    generalize iblk m c 2 t = y
    revert y
    intro (y : S1024x3584.Idx → EReal)
    pointwise
  rw [h, weights_at]
  congr 2
  exact Fin.ext (Nat.mod_eq_of_lt (by omega)).symm

theorem rows_2688 (t : Fin cfg0.N) (d : Fin 384) (r : Fin 256) :
    ∑ k : Fin 1024, k0_pay2 (iblk m c 0 t) (iblk m c 1 t) (ix2 r k)
      * View.ld (iblk m c 2 t) (Rect.unit (s := S1024x3584) ![0, 2688] S1024x384.size inb_S1024x3584_S1024x384_0_2688) (ix2 k d)
      = prj m c (256 * t.val + r.val) (2688 + d.val) := by
  unfold prj proj
  refine Finset.sum_congr rfl fun k _ => ?_
  rw [hidden_at]
  congr 1
  have h : View.ld (iblk m c 2 t) (Rect.unit (s := S1024x3584) ![0, 2688] S1024x384.size inb_S1024x3584_S1024x384_0_2688) (ix2 k d)
      = iblk m c 2 t (ix2 k ⟨2688 + d.val, by omega⟩) := by
    generalize iblk m c 2 t = y
    revert y
    intro (y : S1024x3584.Idx → EReal)
    pointwise
  rw [h, weights_at]
  congr 2
  exact Fin.ext (Nat.mod_eq_of_lt (by omega)).symm

theorem rows_3072 (t : Fin cfg0.N) (d : Fin 256) (r : Fin 256) :
    ∑ k : Fin 1024, k0_pay2 (iblk m c 0 t) (iblk m c 1 t) (ix2 r k)
      * View.ld (iblk m c 2 t) (Rect.unit (s := S1024x3584) ![0, 3072] S1024x256.size inb_S1024x3584_S1024x256_0_3072) (ix2 k d)
      = prj m c (256 * t.val + r.val) (3072 + d.val) := by
  unfold prj proj
  refine Finset.sum_congr rfl fun k _ => ?_
  rw [hidden_at]
  congr 1
  have h : View.ld (iblk m c 2 t) (Rect.unit (s := S1024x3584) ![0, 3072] S1024x256.size inb_S1024x3584_S1024x256_0_3072) (ix2 k d)
      = iblk m c 2 t (ix2 k ⟨3072 + d.val, by omega⟩) := by
    generalize iblk m c 2 t = y
    revert y
    intro (y : S1024x3584.Idx → EReal)
    pointwise
  rw [h, weights_at]
  congr 2
  exact Fin.ext (Nat.mod_eq_of_lt (by omega)).symm

theorem rows_3328 (t : Fin cfg0.N) (d : Fin 256) (r : Fin 256) :
    ∑ k : Fin 1024, k0_pay2 (iblk m c 0 t) (iblk m c 1 t) (ix2 r k)
      * View.ld (iblk m c 2 t) (Rect.unit (s := S1024x3584) ![0, 3328] S1024x256.size inb_S1024x3584_S1024x256_0_3328) (ix2 k d)
      = prj m c (256 * t.val + r.val) (3328 + d.val) := by
  unfold prj proj
  refine Finset.sum_congr rfl fun k _ => ?_
  rw [hidden_at]
  congr 1
  have h : View.ld (iblk m c 2 t) (Rect.unit (s := S1024x3584) ![0, 3328] S1024x256.size inb_S1024x3584_S1024x256_0_3328) (ix2 k d)
      = iblk m c 2 t (ix2 k ⟨3328 + d.val, by omega⟩) := by
    generalize iblk m c 2 t = y
    revert y
    intro (y : S1024x3584.Idx → EReal)
    pointwise
  rw [h, weights_at]
  congr 2
  exact Fin.ext (Nat.mod_eq_of_lt (by omega)).symm

end Cert.Proof.PJ
-- ==== Proof.PJ.Out.lean ====
/- The projection's result arrays, in closed form. -/
module

public import proofs.«01_k».proof.Proof.PJ.Blocks
public import proofs.«01_k».proof.Proof.Gen.Kernel2Ideal.Value
public import Idealize.ShloMosaic.Lib.Claim

@[expose] public section

set_option maxRecDepth 16384

noncomputable section

namespace Cert.Proof.PJ

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

/-- Result 0: the first layer as it came, and this layer's keys or values, features by tokens. -/
def res_4 (c : Dev nD) : Buf (Elt Ideal) ((c.tc : Thread nD τ).loc main_v10_0) := fun i =>
  if (i 0).val = 0 then m ((c : Thread nD τ).loc main_arg3) i else prj m c (8192 * (i 1).val + (i 3).val) (384 + (i 2).val)

theorem entry_4 : V m c main_v10_0 = m ((c : Thread nD τ).loc main_arg3) := by
  rfl

theorem array_4 : (dats m 0 c).arrAt 4 cfg0.N = res_4 m c := by
  refine (dats m 0 c).arrAt_eq_of_coversWhere_of_agree 4 _ (fun β => β (0 : Fin 4) = 1) (by decide +kernel) (fun t hf y => ?_) (fun j hj => ?_)
  · have e : win0_4.index t = ![1, t.val / 32, 0, t.val % 32] := (blocks t).2.2.2.2.1
    blk_simp [e]
    rw [left_4]
    revert y
    intro (y : S1x1x384x256.Idx)
    have hy : y = ix4 (y 0) (y 1) (y 2) (y 3) := by
      funext a
      fin_cases a <;> rfl
    refine (congrArg _ hy).trans ((cols4_apply _ _ _ _ _ _ _).trans ((cols_0 m c t (y 2) (y 3)).trans ?_))
    have e0 : ((win0_4.blk t).view.emb y 0).val = 1 + (y 0).val := by blk_simp [e]
    have e1 : ((win0_4.blk t).view.emb y 1).val = t.val / 32 + (y 1).val := by blk_simp [e]
    have e2 : ((win0_4.blk t).view.emb y 2).val = (y 2).val := by blk_simp [e]
    have e3 : ((win0_4.blk t).view.emb y 3).val = 256 * (t.val % 32) + (y 3).val := by blk_simp [e]; ring
    have h0 : (y 0).val < 1 := (y 0).isLt
    have h1 : (y 1).val < 1 := (y 1).isLt
    unfold res_4
    rw [e0, e1, e2, e3, if_neg (by omega)]
    congr 1
    omega
  · blk_simp [Pipeline.Window.cell_apply] at hj
    revert j
    intro (j : S2x2x384x8192.Idx) hj
    have h0 : (j 0).val < 2 := (j 0).isLt
    unfold res_4
    have z : (j 0).val = 0 := by omega
    refine (show _ = V m c main_v10_0 j from rfl).trans ?_
    rw [entry_4]
    exact (if_pos z).symm

/-- Result 1: the first layer as it came, and this layer's keys or values, features by tokens. -/
def res_5 (c : Dev nD) : Buf (Elt Ideal) ((c.tc : Thread nD τ).loc main_v10_1) := fun i =>
  if (i 0).val = 0 then m ((c : Thread nD τ).loc main_arg4) i else prj m c (8192 * (i 1).val + (i 3).val) (768 + (i 2).val)

theorem entry_5 : V m c main_v10_1 = m ((c : Thread nD τ).loc main_arg4) := by
  rfl

theorem array_5 : (dats m 0 c).arrAt 5 cfg0.N = res_5 m c := by
  refine (dats m 0 c).arrAt_eq_of_coversWhere_of_agree 5 _ (fun β => β (0 : Fin 4) = 1) (by decide +kernel) (fun t hf y => ?_) (fun j hj => ?_)
  · have e : win0_5.index t = ![1, t.val / 32, 0, t.val % 32] := (blocks t).2.2.2.2.2.1
    blk_simp [e]
    rw [left_5]
    revert y
    intro (y : S1x1x384x256.Idx)
    have hy : y = ix4 (y 0) (y 1) (y 2) (y 3) := by
      funext a
      fin_cases a <;> rfl
    refine (congrArg _ hy).trans ((cols7_apply _ _ _ _ _ _ _).trans ((cols_384 m c t (y 2) (y 3)).trans ?_))
    have e0 : ((win0_5.blk t).view.emb y 0).val = 1 + (y 0).val := by blk_simp [e]
    have e1 : ((win0_5.blk t).view.emb y 1).val = t.val / 32 + (y 1).val := by blk_simp [e]
    have e2 : ((win0_5.blk t).view.emb y 2).val = (y 2).val := by blk_simp [e]
    have e3 : ((win0_5.blk t).view.emb y 3).val = 256 * (t.val % 32) + (y 3).val := by blk_simp [e]; ring
    have h0 : (y 0).val < 1 := (y 0).isLt
    have h1 : (y 1).val < 1 := (y 1).isLt
    unfold res_5
    rw [e0, e1, e2, e3, if_neg (by omega)]
    congr 1
    omega
  · blk_simp [Pipeline.Window.cell_apply] at hj
    revert j
    intro (j : S2x2x384x8192.Idx) hj
    have h0 : (j 0).val < 2 := (j 0).isLt
    unfold res_5
    have z : (j 0).val = 0 := by omega
    refine (show _ = V m c main_v10_1 j from rfl).trans ?_
    rw [entry_5]
    exact (if_pos z).symm

/-- Result 2: the first layer as it came, and this layer's keys or values, features by tokens. -/
def res_6 (c : Dev nD) : Buf (Elt Ideal) ((c.tc : Thread nD τ).loc main_v10_2) := fun i =>
  if (i 0).val = 0 then m ((c : Thread nD τ).loc main_arg5) i else prj m c (8192 * (i 1).val + (i 3).val) (1920 + (i 2).val)

theorem entry_6 : V m c main_v10_2 = m ((c : Thread nD τ).loc main_arg5) := by
  rfl

theorem array_6 : (dats m 0 c).arrAt 6 cfg0.N = res_6 m c := by
  refine (dats m 0 c).arrAt_eq_of_coversWhere_of_agree 6 _ (fun β => β (0 : Fin 4) = 1) (by decide +kernel) (fun t hf y => ?_) (fun j hj => ?_)
  · have e : win0_6.index t = ![1, t.val / 32, 0, t.val % 32] := (blocks t).2.2.2.2.2.2.1
    blk_simp [e]
    rw [left_6]
    revert y
    intro (y : S1x1x384x256.Idx)
    have hy : y = ix4 (y 0) (y 1) (y 2) (y 3) := by
      funext a
      fin_cases a <;> rfl
    refine (congrArg _ hy).trans ((cols10_apply _ _ _ _ _ _).trans ((cols_768 m c t (y 2) (y 3)).trans ?_))
    have e0 : ((win0_6.blk t).view.emb y 0).val = 1 + (y 0).val := by blk_simp [e]
    have e1 : ((win0_6.blk t).view.emb y 1).val = t.val / 32 + (y 1).val := by blk_simp [e]
    have e2 : ((win0_6.blk t).view.emb y 2).val = (y 2).val := by blk_simp [e]
    have e3 : ((win0_6.blk t).view.emb y 3).val = 256 * (t.val % 32) + (y 3).val := by blk_simp [e]; ring
    have h0 : (y 0).val < 1 := (y 0).isLt
    have h1 : (y 1).val < 1 := (y 1).isLt
    unfold res_6
    rw [e0, e1, e2, e3, if_neg (by omega)]
    congr 1
    omega
  · blk_simp [Pipeline.Window.cell_apply] at hj
    revert j
    intro (j : S2x2x384x8192.Idx) hj
    have h0 : (j 0).val < 2 := (j 0).isLt
    unfold res_6
    have z : (j 0).val = 0 := by omega
    refine (show _ = V m c main_v10_2 j from rfl).trans ?_
    rw [entry_6]
    exact (if_pos z).symm

/-- Result 3: the first layer as it came, and this layer's keys or values, features by tokens. -/
def res_7 (c : Dev nD) : Buf (Elt Ideal) ((c.tc : Thread nD τ).loc main_v10_3) := fun i =>
  if (i 0).val = 0 then m ((c : Thread nD τ).loc main_arg6) i else prj m c (8192 * (i 1).val + (i 3).val) (2304 + (i 2).val)

theorem entry_7 : V m c main_v10_3 = m ((c : Thread nD τ).loc main_arg6) := by
  rfl

theorem array_7 : (dats m 0 c).arrAt 7 cfg0.N = res_7 m c := by
  refine (dats m 0 c).arrAt_eq_of_coversWhere_of_agree 7 _ (fun β => β (0 : Fin 4) = 1) (by decide +kernel) (fun t hf y => ?_) (fun j hj => ?_)
  · have e : win0_7.index t = ![1, t.val / 32, 0, t.val % 32] := (blocks t).2.2.2.2.2.2.2.1
    blk_simp [e]
    rw [left_7]
    revert y
    intro (y : S1x1x384x256.Idx)
    have hy : y = ix4 (y 0) (y 1) (y 2) (y 3) := by
      funext a
      fin_cases a <;> rfl
    refine (congrArg _ hy).trans ((cols17_apply _ _ _ _ _ _).trans ((cols_1152 m c t (y 2) (y 3)).trans ?_))
    have e0 : ((win0_7.blk t).view.emb y 0).val = 1 + (y 0).val := by blk_simp [e]
    have e1 : ((win0_7.blk t).view.emb y 1).val = t.val / 32 + (y 1).val := by blk_simp [e]
    have e2 : ((win0_7.blk t).view.emb y 2).val = (y 2).val := by blk_simp [e]
    have e3 : ((win0_7.blk t).view.emb y 3).val = 256 * (t.val % 32) + (y 3).val := by blk_simp [e]; ring
    have h0 : (y 0).val < 1 := (y 0).isLt
    have h1 : (y 1).val < 1 := (y 1).isLt
    unfold res_7
    rw [e0, e1, e2, e3, if_neg (by omega)]
    congr 1
    omega
  · blk_simp [Pipeline.Window.cell_apply] at hj
    revert j
    intro (j : S2x2x384x8192.Idx) hj
    have h0 : (j 0).val < 2 := (j 0).isLt
    unfold res_7
    have z : (j 0).val = 0 := by omega
    refine (show _ = V m c main_v10_3 j from rfl).trans ?_
    rw [entry_7]
    exact (if_pos z).symm

/-- Result 4: a group of columns, each tile features by tokens. -/
def res_8 (c : Dev nD) : Buf (Elt Ideal) ((c.tc : Thread nD τ).loc main_v10_4) := fun i =>
  prj m c (256 * (i 0).val + (i 2).val) (384 + (i 1).val)

theorem array_8 : (dats m 0 c).arrAt 8 cfg0.N = res_8 m c := by
  refine (dats m 0 c).arrAt_eq_of_covers 8 _ (by decide +kernel) fun t hf y => ?_
  have e : win0_8.index t = ![t.val, 0, 0] := (blocks t).2.2.2.2.2.2.2.2.1
  blk_simp [e]
  rw [left_8]
  revert y
  intro (y : S1x384x256.Idx)
  have hy : y = ix3 (y 0) (y 1) (y 2) := by
    funext a
    fin_cases a <;> rfl
  refine (congrArg _ hy).trans ((cols5_apply _ _ _ _ _ _).trans ((cols_0 m c t (y 1) (y 2)).trans ?_))
  have e0 : ((win0_8.blk t).view.emb y 0).val = t.val + (y 0).val := by blk_simp [e]
  have e1 : ((win0_8.blk t).view.emb y 1).val = (y 1).val := by blk_simp [e]
  have e2 : ((win0_8.blk t).view.emb y 2).val = (y 2).val := by blk_simp [e]
  have h0 : (y 0).val < 1 := (y 0).isLt
  unfold res_8
  rw [e0, e1, e2]
  congr 1
  omega

/-- Result 5: a group of columns, each tile features by tokens. -/
def res_9 (c : Dev nD) : Buf (Elt Ideal) ((c.tc : Thread nD τ).loc main_v10_5) := fun i =>
  prj m c (256 * (i 0).val + (i 2).val) (768 + (i 1).val)

theorem array_9 : (dats m 0 c).arrAt 9 cfg0.N = res_9 m c := by
  refine (dats m 0 c).arrAt_eq_of_covers 9 _ (by decide +kernel) fun t hf y => ?_
  have e : win0_9.index t = ![t.val, 0, 0] := (blocks t).2.2.2.2.2.2.2.2.2.1
  blk_simp [e]
  rw [left_9]
  revert y
  intro (y : S1x384x256.Idx)
  have hy : y = ix3 (y 0) (y 1) (y 2) := by
    funext a
    fin_cases a <;> rfl
  refine (congrArg _ hy).trans ((cols8_apply _ _ _ _ _ _).trans ((cols_384 m c t (y 1) (y 2)).trans ?_))
  have e0 : ((win0_9.blk t).view.emb y 0).val = t.val + (y 0).val := by blk_simp [e]
  have e1 : ((win0_9.blk t).view.emb y 1).val = (y 1).val := by blk_simp [e]
  have e2 : ((win0_9.blk t).view.emb y 2).val = (y 2).val := by blk_simp [e]
  have h0 : (y 0).val < 1 := (y 0).isLt
  unfold res_9
  rw [e0, e1, e2]
  congr 1
  omega

/-- Result 6: a group of columns, each tile features by tokens. -/
def res_10 (c : Dev nD) : Buf (Elt Ideal) ((c.tc : Thread nD τ).loc main_v10_6) := fun i =>
  prj m c (256 * (i 0).val + (i 2).val) (2304 + (i 1).val)

theorem array_10 : (dats m 0 c).arrAt 10 cfg0.N = res_10 m c := by
  refine (dats m 0 c).arrAt_eq_of_covers 10 _ (by decide +kernel) fun t hf y => ?_
  have e : win0_10.index t = ![t.val, 0, 0] := (blocks t).2.2.2.2.2.2.2.2.2.2.1
  blk_simp [e]
  rw [left_10]
  revert y
  intro (y : S1x384x256.Idx)
  have hy : y = ix3 (y 0) (y 1) (y 2) := by
    funext a
    fin_cases a <;> rfl
  refine (congrArg _ hy).trans ((cols18_apply _ _ _ _ _).trans ((cols_1152 m c t (y 1) (y 2)).trans ?_))
  have e0 : ((win0_10.blk t).view.emb y 0).val = t.val + (y 0).val := by blk_simp [e]
  have e1 : ((win0_10.blk t).view.emb y 1).val = (y 1).val := by blk_simp [e]
  have e2 : ((win0_10.blk t).view.emb y 2).val = (y 2).val := by blk_simp [e]
  have h0 : (y 0).val < 1 := (y 0).isLt
  unfold res_10
  rw [e0, e1, e2]
  congr 1
  omega

/-- Result 7: a group of columns, each tile features by tokens. -/
def res_11 (c : Dev nD) : Buf (Elt Ideal) ((c.tc : Thread nD τ).loc main_v10_7) := fun i =>
  prj m c (256 * (i 0).val + (i 2).val) (1536 + (i 1).val)

theorem array_11 : (dats m 0 c).arrAt 11 cfg0.N = res_11 m c := by
  refine (dats m 0 c).arrAt_eq_of_covers 11 _ (by decide +kernel) fun t hf y => ?_
  have e : win0_11.index t = ![t.val, 0, 0] := (blocks t).2.2.2.2.2.2.2.2.2.2.2.1
  blk_simp [e]
  rw [left_11]
  revert y
  intro (y : S1x384x256.Idx)
  have hy : y = ix3 (y 0) (y 1) (y 2) := by
    funext a
    fin_cases a <;> rfl
  refine (congrArg _ hy).trans ((cols19_apply _ _ _ _ _).trans ((cols_1536 m c t (y 1) (y 2)).trans ?_))
  have e0 : ((win0_11.blk t).view.emb y 0).val = t.val + (y 0).val := by blk_simp [e]
  have e1 : ((win0_11.blk t).view.emb y 1).val = (y 1).val := by blk_simp [e]
  have e2 : ((win0_11.blk t).view.emb y 2).val = (y 2).val := by blk_simp [e]
  have h0 : (y 0).val < 1 := (y 0).isLt
  unfold res_11
  rw [e0, e1, e2]
  congr 1
  omega

/-- Result 8: a group of columns, tokens by features. -/
def res_12 (c : Dev nD) : Buf (Elt Ideal) ((c.tc : Thread nD τ).loc main_v10_8) := fun i =>
  prj m c (i 0).val (1920 + (i 1).val)

theorem array_12 : (dats m 0 c).arrAt 12 cfg0.N = res_12 m c := by
  refine (dats m 0 c).arrAt_eq_of_covers 12 _ (by decide +kernel) fun t hf y => ?_
  have e : win0_12.index t = ![t.val, 0] := (blocks t).2.2.2.2.2.2.2.2.2.2.2.2.1
  blk_simp [e]
  rw [left_12]
  revert y
  intro (y : S256x384.Idx)
  have hy : y = ix2 (y 0) (y 1) := by
    funext a
    fin_cases a <;> rfl
  refine (congrArg _ hy).trans ((rows20_apply _ _ _ _).trans ((rows_1920 m c t (y 1) (y 0)).trans ?_))
  have e0 : ((win0_12.blk t).view.emb y 0).val = 256 * t.val + (y 0).val := by blk_simp [e]; ring
  have e1 : ((win0_12.blk t).view.emb y 1).val = (y 1).val := by blk_simp [e]
  unfold res_12
  rw [e0, e1]

/-- Result 9: a group of columns, tokens by features. -/
def res_13 (c : Dev nD) : Buf (Elt Ideal) ((c.tc : Thread nD τ).loc main_v10_9) := fun i =>
  prj m c (i 0).val (0 + (i 1).val) * eighth

theorem array_13 : (dats m 0 c).arrAt 13 cfg0.N = res_13 m c := by
  refine (dats m 0 c).arrAt_eq_of_covers 13 _ (by decide +kernel) fun t hf y => ?_
  have e : win0_13.index t = ![t.val, 0] := (blocks t).2.2.2.2.2.2.2.2.2.2.2.2.2.1
  blk_simp [e]
  rw [left_13]
  revert y
  intro (y : S256x384.Idx)
  have hy : y = ix2 (y 0) (y 1) := by
    funext a
    fin_cases a <;> rfl
  refine (congrArg _ hy).trans ((rows22_apply _ _ _ _).trans ((congrArg (· * eighth) (rows_0 m c t (y 1) (y 0))).trans ?_))
  have e0 : ((win0_13.blk t).view.emb y 0).val = 256 * t.val + (y 0).val := by blk_simp [e]; ring
  have e1 : ((win0_13.blk t).view.emb y 1).val = (y 1).val := by blk_simp [e]
  unfold res_13
  rw [e0, e1]

/-- Result 10: a group of columns, tokens by features. -/
def res_14 (c : Dev nD) : Buf (Elt Ideal) ((c.tc : Thread nD τ).loc main_v10_10) := fun i =>
  prj m c (i 0).val (3072 + (i 1).val) * eighth

theorem array_14 : (dats m 0 c).arrAt 14 cfg0.N = res_14 m c := by
  refine (dats m 0 c).arrAt_eq_of_covers 14 _ (by decide +kernel) fun t hf y => ?_
  have e : win0_14.index t = ![t.val, 0] := (blocks t).2.2.2.2.2.2.2.2.2.2.2.2.2.2.1
  blk_simp [e]
  rw [left_14]
  revert y
  intro (y : S256x256.Idx)
  have hy : y = ix2 (y 0) (y 1) := by
    funext a
    fin_cases a <;> rfl
  refine (congrArg _ hy).trans ((rows23_apply _ _ _ _).trans ((congrArg (· * eighth) (rows_3072 m c t (y 1) (y 0))).trans ?_))
  have e0 : ((win0_14.blk t).view.emb y 0).val = 256 * t.val + (y 0).val := by blk_simp [e]; ring
  have e1 : ((win0_14.blk t).view.emb y 1).val = (y 1).val := by blk_simp [e]
  unfold res_14
  rw [e0, e1]

end Cert.Proof.PJ
-- ==== Proof.PJ.Means.lean ====
/- The projection's gates and tile means, in closed form. -/
module

public import proofs.«01_k».proof.Proof.PJ.Blocks
public import proofs.«01_k».proof.Proof.Gen.Kernel2Ideal.Value
public import Idealize.ShloMosaic.Lib.Claim

@[expose] public section

set_option maxRecDepth 16384

noncomputable section

namespace Cert.Proof.PJ

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

/-- The column a gate comes from. -/
def gateCol (e : ℕ) : ℕ := if e < 384 then 1152 + e else if e < 768 then 2688 + (e - 384) else 3328 + (e - 768)

/-- Result 11: the gates. -/
def res_15 (c : Dev nD) : Buf (Elt Ideal) ((c.tc : Thread nD τ).loc main_v10_11) := fun i =>
  gate (prj m c (i 0).val (gateCol (i 1).val))

theorem gates_at (t : Fin cfg0.N) (r : Fin 256) (d : Fin 1024) :
    (dats m 0 c).after 15 t (ix2 r d) = gate (prj m c (256 * t.val + r.val) (gateCol d.val)) := by
  rw [left_15]
  refine View.canon_apply_of_pieces (Val := Elt Ideal) (S := S256x1024) (e := .f32) (fun y : S256x1024.Idx => gate (prj m c (256 * t.val + (y 0).val) (gateCol (y 1).val))) _ ?_ (ix2 r d) ?_
  · intro p hp x
    simp only [List.mem_cons, List.not_mem_nil, or_false] at hp
    rcases hp with rfl | rfl | rfl
    · revert x
      intro (x : S256x256.Idx)
      have hx : x = ix2 (x 0) (x 1) := by
        funext a
        fin_cases a <;> rfl
      have h1 : (x 1).val < 256 := (x 1).isLt
      refine (congrArg _ hx).trans ((rows1_apply _ _ _ _).trans ((congrArg gate (rows_3328 m c t (x 1) (x 0))).trans ?_))
      show _ = gate (prj m c (256 * t.val + (0 + 1 * (x 0).val)) (gateCol (768 + 1 * (x 1).val)))
      unfold gateCol
      rw [if_neg (by omega), if_neg (by omega)]
      congr 2 <;> omega
    · revert x
      intro (x : S256x384.Idx)
      have hx : x = ix2 (x 0) (x 1) := by
        funext a
        fin_cases a <;> rfl
      have h1 : (x 1).val < 384 := (x 1).isLt
      refine (congrArg _ hx).trans ((rows25_apply _ _ _ _).trans ((congrArg gate (rows_2688 m c t (x 1) (x 0))).trans ?_))
      show _ = gate (prj m c (256 * t.val + (0 + 1 * (x 0).val)) (gateCol (384 + 1 * (x 1).val)))
      unfold gateCol
      rw [if_neg (by omega), if_pos (by omega)]
      congr 2 <;> omega
    · revert x
      intro (x : S256x384.Idx)
      have hx : x = ix2 (x 0) (x 1) := by
        funext a
        fin_cases a <;> rfl
      have h1 : (x 1).val < 384 := (x 1).isLt
      refine (congrArg _ hx).trans ((rows24_apply _ _ _ _).trans ((congrArg gate (rows_1152 m c t (x 1) (x 0))).trans ?_))
      show _ = gate (prj m c (256 * t.val + (0 + 1 * (x 0).val)) (gateCol (0 + 1 * (x 1).val)))
      unfold gateCol
      rw [if_pos (by omega)]
      congr 2 <;> omega
  · by_cases h : d.val < 384
    · refine ⟨_, List.mem_cons_of_mem _ (List.mem_cons_of_mem _ (List.mem_cons_self ..)), ?_⟩
      rw [Rect.mem_set_unit]
      intro a
      fin_cases a
      · exact ⟨Nat.zero_le _, by show r.val < 0 + 256; omega⟩
      · exact ⟨Nat.zero_le _, by show d.val < 0 + 384; omega⟩
    · by_cases h' : d.val < 768
      · refine ⟨_, List.mem_cons_of_mem _ (List.mem_cons_self ..), ?_⟩
        rw [Rect.mem_set_unit]
        intro a
        fin_cases a
        · exact ⟨Nat.zero_le _, by show r.val < 0 + 256; omega⟩
        · exact ⟨by show 384 ≤ d.val; omega, by show d.val < 384 + 384; omega⟩
      · refine ⟨_, List.mem_cons_self .., ?_⟩
        rw [Rect.mem_set_unit]
        intro a
        fin_cases a
        · exact ⟨Nat.zero_le _, by show r.val < 0 + 256; omega⟩
        · exact ⟨by show 768 ≤ d.val; omega, by show d.val < 768 + 256; omega⟩

theorem array_15 : (dats m 0 c).arrAt 15 cfg0.N = res_15 m c := by
  refine (dats m 0 c).arrAt_eq_of_covers 15 _ (by decide +kernel) fun t hf y => ?_
  have e : win0_15.index t = ![t.val, 0] := (blocks t).2.2.2.2.2.2.2.2.2.2.2.2.2.2.2.1
  blk_simp [e]
  revert y
  intro (y : S256x1024.Idx)
  have hy : y = ix2 (y 0) (y 1) := by
    funext a
    fin_cases a <;> rfl
  refine (congrArg _ hy).trans ((gates_at m c t (y 0) (y 1)).trans ?_)
  have e0 : ((win0_15.blk t).view.emb y 0).val = 256 * t.val + (y 0).val := by blk_simp [e]; ring
  have e1 : ((win0_15.blk t).view.emb y 1).val = (y 1).val := by blk_simp [e]
  unfold res_15
  rw [e0, e1]

/-- The mean of a tile's keys. -/
def tileMean (n d : ℕ) : EReal := (∑ r : Fin 256, prj m c (256 * n + r.val) (1920 + d)) * tileth

theorem mean_at (t : Fin cfg0.N) (d : Fin 384) (l : Fin 128) :
    k0_pay14 (k0_pay2 (iblk m c 0 t) (iblk m c 1 t)) (part_768 m c t) (ix2 d l) = tileMean m c t.val d.val := by
  refine (mean_apply _ _ d l).trans ?_
  exact congrArg (· * tileth) (Finset.sum_congr rfl fun r _ => cols_768 m c t d r)

/-- After a tile, the means of the batch's tiles so far stand in their lanes. -/
theorem means_at : ∀ n (h : n < cfg0.N) (u : Fin 1) (d : Fin 384) (l : Fin 128),
    (dats m 0 c).after 16 ⟨n, h⟩ (ix3 u d l) = if l.val ≤ n % 32 then tileMean m c (32 * (n / 32) + l.val) d.val else 0 := by
  intro n
  induction n with
  | zero =>
    intro h u d l
    rw [left_16_A m c ⟨0, h⟩ rfl]
    refine (pick_apply _ _ _ u d l).trans ?_
    rw [flat_apply, zero_apply]
    have hl := lane_apply (grid0.coords ⟨0, h⟩ 0).val (by rw [coord]; exact h) d l
    rw [coord] at hl
    by_cases z : l.val = 0
    · rw [if_pos (by rw [coord]; exact hl.mpr z), if_pos (by omega)]
      refine (mean_at m c ⟨0, h⟩ d l).trans ?_
      show tileMean m c 0 _ = _
      rw [z]
    · rw [if_neg (by rw [coord]; exact fun q => z (hl.mp q)), if_neg (by omega)]
  | succ n ih =>
    intro h u d l
    by_cases h0 : (n + 1) % 32 = 0
    · rw [left_16_A m c ⟨n + 1, h⟩ h0]
      refine (pick_apply _ _ _ u d l).trans ?_
      rw [flat_apply, zero_apply]
      have hl := lane_apply (grid0.coords ⟨n + 1, h⟩ 0).val (by rw [coord]; exact h) d l
      rw [coord] at hl
      change _ ↔ l.val = (n + 1) % 32 at hl
      by_cases z : l.val = (n + 1) % 32
      · rw [if_pos (by rw [coord]; exact hl.mpr z), if_pos (by omega)]
        refine (mean_at m c ⟨n + 1, h⟩ d l).trans ?_
        congr 1
        show n + 1 = _
        omega
      · rw [if_neg (by rw [coord]; exact fun q => z (hl.mp q)), if_neg (by omega)]
    · rw [left_16_B m c ⟨n + 1, h⟩ h0]
      refine (pick_apply _ _ _ u d l).trans ?_
      rw [flat_apply]
      have hl := lane_apply (grid0.coords ⟨n + 1, h⟩ 0).val (by rw [coord]; exact h) d l
      rw [coord] at hl
      change _ ↔ l.val = (n + 1) % 32 at hl
      by_cases z : l.val = (n + 1) % 32
      · rw [if_pos (by rw [coord]; exact hl.mpr z), if_pos (by omega)]
        refine (mean_at m c ⟨n + 1, h⟩ d l).trans ?_
        congr 1
        show n + 1 = _
        omega
      · rw [if_neg (by rw [coord]; exact fun q => z (hl.mp q))]
        refine (ih (by omega) 0 d l).trans ?_
        have e : (n + 1) / 32 = n / 32 := by omega
        rw [e]
        by_cases q : l.val ≤ n % 32
        · rw [if_pos q, if_pos (by omega)]
        · rw [if_neg q, if_neg (by omega)]

/-- Result 12: the means of each batch's tiles, zero in the lanes beyond them. -/
def res_16 (c : Dev nD) : Buf (Elt Ideal) ((c.tc : Thread nD τ).loc main_v10_12) := fun i =>
  if (i 2).val ≤ 31 then tileMean m c (32 * (i 0).val + (i 2).val) (i 1).val else (0 : EReal)

theorem flush_last : ∀ t : Fin cfg0.N, (cfg0.win 16).flush t = true → t.val % 32 = 31 := by decide +kernel

theorem array_16 : (dats m 0 c).arrAt 16 cfg0.N = res_16 m c := by
  refine (dats m 0 c).arrAt_eq_of_covers 16 _ (by decide +kernel) fun t hf y => ?_
  have hl := flush_last t hf
  have e : win0_16.index t = ![t.val / 32, 0, 0] := (blocks t).2.2.2.2.2.2.2.2.2.2.2.2.2.2.2.2
  blk_simp [e]
  revert y
  intro (y : S1x384x128.Idx)
  have hy : y = ix3 (y 0) (y 1) (y 2) := by
    funext a
    fin_cases a <;> rfl
  refine (congrArg _ hy).trans ((means_at m c t.val t.isLt (y 0) (y 1) (y 2)).trans ?_)
  have e0 : ((win0_16.blk t).view.emb y 0).val = t.val / 32 + (y 0).val := by blk_simp [e]
  have e1 : ((win0_16.blk t).view.emb y 1).val = (y 1).val := by blk_simp [e]
  have e2 : ((win0_16.blk t).view.emb y 2).val = (y 2).val := by blk_simp [e]
  have h0 : (y 0).val < 1 := (y 0).isLt
  unfold res_16
  rw [e0, e1, e2, hl, show t.val / 32 + (y 0).val = t.val / 32 by omega]

end Cert.Proof.PJ
-- ==== Proof.PJ.Ref.lean ====
/- The plain projection's results, read at an index. -/
module

public import proofs.«01_k».proof.Proof.PJ.Blocks
public import proofs.«01_k».proof.Proof.Gen.Reference2Ideal.Read
public import Idealize.ShloMosaic.Lib.Pointwise

@[expose] public section

set_option maxRecDepth 16384

noncomputable section

namespace Cert.Proof.PJ.Ref

open Cert.Reference2Ideal Cert.Reference2Ideal.Read
open Idealize.ShloMosaic

variable (x : FVec Ideal S16384x1024 .f32) (g : FVec Ideal S1024 .f32) (w : FVec Ideal S1024x3584 .f32)

/-- A token's hidden state. -/
theorem hid_at (t : Fin 16384) (k : Fin 1024) : val_main_v12 (F := Ideal) x g (ix2 t k) = hid x g t.val k := by
  have ht : Fin.ofNat 16384 t.val = t := Fin.ext (Nat.mod_eq_of_lt t.isLt)
  unfold hid scale
  rw [ht]
  unfold val_main_v12 val_main_v11 val_main_v10 val_main_v9 val_main_v8 val_main_v7 val_main_v6 val_main_v5 val_main_v4 val_main_v3 val_main_v2 val_main_v1 val_main_v0 val_main_cst val_main_cst_0 val_main_cst_1
  pointwise

/-- A token's projection. -/
theorem proj_at (t : Fin 16384) (e : Fin 3584) : val_main_v13 (F := Ideal) x g w (ix2 t e) = proj x g w t.val e.val := by
  have he : Fin.ofNat 3584 e.val = e := Fin.ext (Nat.mod_eq_of_lt e.isLt)
  unfold proj val_main_v13
  simp only [← hid_at, he]
  generalize val_main_v12 (F := Ideal) x g = h
  pointwise

theorem at_37 (x3 : FVec Ideal S2x2x384x8192 .f32) (l b : Fin 2) (d : Fin 384) (s : Fin 8192) :
    val_main_v37 (F := Ideal) x g w x3 (ix4 l b d s) = if l.val = 0 then x3 (ix4 l b d s) else proj x g w (8192 * b.val + s.val) (384 + d.val) := by
  have h := proj_at x g w ⟨b.val * 8192 + s.val, by omega⟩ ⟨384 + d.val, by omega⟩
  rw [show 8192 * b.val + s.val = b.val * 8192 + s.val by omega]
  refine Eq.trans ?_ (congrArg (fun z => if l.val = 0 then x3 (ix4 l b d s) else z) h)
  unfold val_main_v37 val_main_v36 val_main_v35 val_main_v34 val_main_v33 val_main_v32 val_main_v31 val_main_v15
  generalize val_main_v13 (F := Ideal) x g w = y
  pointwise
  by_cases z : l.val < 1
  · rw [dif_pos z, if_pos (by omega), show l = 0 from Fin.ext (by simp only [Fin.val_zero]; omega)]
  · rw [dif_neg z, if_neg (by omega)]

theorem at_44 (x4 : FVec Ideal S2x2x384x8192 .f32) (l b : Fin 2) (d : Fin 384) (s : Fin 8192) :
    val_main_v44 (F := Ideal) x g w x4 (ix4 l b d s) = if l.val = 0 then x4 (ix4 l b d s) else proj x g w (8192 * b.val + s.val) (768 + d.val) := by
  have h := proj_at x g w ⟨b.val * 8192 + s.val, by omega⟩ ⟨768 + d.val, by omega⟩
  rw [show 8192 * b.val + s.val = b.val * 8192 + s.val by omega]
  refine Eq.trans ?_ (congrArg (fun z => if l.val = 0 then x4 (ix4 l b d s) else z) h)
  unfold val_main_v44 val_main_v43 val_main_v42 val_main_v41 val_main_v40 val_main_v39 val_main_v38 val_main_v16
  generalize val_main_v13 (F := Ideal) x g w = y
  pointwise
  by_cases z : l.val < 1
  · rw [dif_pos z, if_pos (by omega), show l = 0 from Fin.ext (by simp only [Fin.val_zero]; omega)]
  · rw [dif_neg z, if_neg (by omega)]

theorem at_51 (x5 : FVec Ideal S2x2x384x8192 .f32) (l b : Fin 2) (d : Fin 384) (s : Fin 8192) :
    val_main_v51 (F := Ideal) x g w x5 (ix4 l b d s) = if l.val = 0 then x5 (ix4 l b d s) else proj x g w (8192 * b.val + s.val) (1920 + d.val) := by
  have h := proj_at x g w ⟨b.val * 8192 + s.val, by omega⟩ ⟨1920 + d.val, by omega⟩
  rw [show 8192 * b.val + s.val = b.val * 8192 + s.val by omega]
  refine Eq.trans ?_ (congrArg (fun z => if l.val = 0 then x5 (ix4 l b d s) else z) h)
  unfold val_main_v51 val_main_v50 val_main_v49 val_main_v48 val_main_v47 val_main_v46 val_main_v45 val_main_v19
  generalize val_main_v13 (F := Ideal) x g w = y
  pointwise
  by_cases z : l.val < 1
  · rw [dif_pos z, if_pos (by omega), show l = 0 from Fin.ext (by simp only [Fin.val_zero]; omega)]
  · rw [dif_neg z, if_neg (by omega)]

theorem at_58 (x6 : FVec Ideal S2x2x384x8192 .f32) (l b : Fin 2) (d : Fin 384) (s : Fin 8192) :
    val_main_v58 (F := Ideal) x g w x6 (ix4 l b d s) = if l.val = 0 then x6 (ix4 l b d s) else proj x g w (8192 * b.val + s.val) (2304 + d.val) := by
  have h := proj_at x g w ⟨b.val * 8192 + s.val, by omega⟩ ⟨2304 + d.val, by omega⟩
  rw [show 8192 * b.val + s.val = b.val * 8192 + s.val by omega]
  refine Eq.trans ?_ (congrArg (fun z => if l.val = 0 then x6 (ix4 l b d s) else z) h)
  unfold val_main_v58 val_main_v57 val_main_v56 val_main_v55 val_main_v54 val_main_v53 val_main_v52 val_main_v20
  generalize val_main_v13 (F := Ideal) x g w = y
  pointwise
  by_cases z : l.val < 1
  · rw [dif_pos z, if_pos (by omega), show l = 0 from Fin.ext (by simp only [Fin.val_zero]; omega)]
  · rw [dif_neg z, if_neg (by omega)]

theorem at_61 (n : Fin 64) (d : Fin 384) (s : Fin 256) :
    val_main_v61 (F := Ideal) x g w (ix3 n d s) = proj x g w (256 * n.val + s.val) (384 + d.val) := by
  have h := proj_at x g w ⟨n.val * 256 + s.val, by omega⟩ ⟨384 + d.val, by omega⟩
  rw [show 256 * n.val + s.val = n.val * 256 + s.val by omega]
  refine Eq.trans ?_ h
  unfold val_main_v61 val_main_v60 val_main_v59 val_main_v15
  generalize val_main_v13 (F := Ideal) x g w = y
  pointwise

theorem at_64 (n : Fin 64) (d : Fin 384) (s : Fin 256) :
    val_main_v64 (F := Ideal) x g w (ix3 n d s) = proj x g w (256 * n.val + s.val) (768 + d.val) := by
  have h := proj_at x g w ⟨n.val * 256 + s.val, by omega⟩ ⟨768 + d.val, by omega⟩
  rw [show 256 * n.val + s.val = n.val * 256 + s.val by omega]
  refine Eq.trans ?_ h
  unfold val_main_v64 val_main_v63 val_main_v62 val_main_v16
  generalize val_main_v13 (F := Ideal) x g w = y
  pointwise

theorem at_67 (n : Fin 64) (d : Fin 384) (s : Fin 256) :
    val_main_v67 (F := Ideal) x g w (ix3 n d s) = proj x g w (256 * n.val + s.val) (2304 + d.val) := by
  have h := proj_at x g w ⟨n.val * 256 + s.val, by omega⟩ ⟨2304 + d.val, by omega⟩
  rw [show 256 * n.val + s.val = n.val * 256 + s.val by omega]
  refine Eq.trans ?_ h
  unfold val_main_v67 val_main_v66 val_main_v65 val_main_v20
  generalize val_main_v13 (F := Ideal) x g w = y
  pointwise

theorem at_69 (n : Fin 64) (d : Fin 384) (s : Fin 256) :
    val_main_v69 (F := Ideal) x g w (ix3 n d s) = proj x g w (256 * n.val + s.val) (1536 + d.val) := by
  have h := proj_at x g w ⟨n.val * 256 + s.val, by omega⟩ ⟨1536 + d.val, by omega⟩
  rw [show 256 * n.val + s.val = n.val * 256 + s.val by omega]
  refine Eq.trans ?_ h
  unfold val_main_v69 val_main_v68 val_main_v18
  generalize val_main_v13 (F := Ideal) x g w = y
  pointwise

theorem at_70 (t : Fin 16384) (d : Fin 384) : val_main_v70 (F := Ideal) x g w (ix2 t d) = proj x g w t.val (1920 + d.val) := by
  refine Eq.trans ?_ (proj_at x g w t ⟨1920 + d.val, by omega⟩)
  unfold val_main_v70 val_main_v19
  generalize val_main_v13 (F := Ideal) x g w = y
  pointwise

/-- Dividing by eight is multiplying by an eighth. -/
theorem div_eight (p : EReal) : Ideal.div p (Ideal.ofBits .f32 0x41000000#32) = p * eighth := by
  have h8 : Ideal.ofBits .f32 0x41000000#32 = ((8 : ℝ) : EReal) := by
    simp [Ideal.ofBits, Ideal.ieee]
    rw [← EReal.coe_mul]
    norm_num
  have h1 : eighth = ((1 / 8 : ℝ) : EReal) := by
    simp [eighth, Ideal.ofBits, Ideal.ieee]
    rw [← EReal.coe_mul]
    norm_num
  rw [h8, h1, Ideal.div_coe (by norm_num)]

/-- Dividing by the number of a tile's tokens is multiplying by one over it. -/
theorem div_tile (p : EReal) : Ideal.div p (Ideal.ofBits .f32 0x43800000#32) = p * tileth := by
  have h8 : Ideal.ofBits .f32 0x43800000#32 = ((256 : ℝ) : EReal) := by
    simp [Ideal.ofBits, Ideal.ieee]
    rw [← EReal.coe_mul]
    norm_num
  have h1 : tileth = ((1 / 256 : ℝ) : EReal) := by
    simp [tileth, Ideal.ofBits, Ideal.ieee]
    rw [← EReal.coe_mul]
    norm_num
  rw [h8, h1, Ideal.div_coe (by norm_num)]

theorem at_73 (t : Fin 16384) (d : Fin 384) : val_main_v73 (F := Ideal) x g w (ix2 t d) = proj x g w t.val (0 + d.val) * eighth := by
  have h := proj_at x g w t ⟨0 + d.val, by omega⟩
  rw [← div_eight]
  refine Eq.trans ?_ (congrArg (fun p => Ideal.div p (Ideal.ofBits .f32 0x41000000#32)) h)
  unfold val_main_v73 val_main_v72 val_main_v71 val_main_v14 val_main_cst_4
  generalize val_main_v13 (F := Ideal) x g w = y
  pointwise

theorem at_76 (t : Fin 16384) (d : Fin 256) : val_main_v76 (F := Ideal) x g w (ix2 t d) = proj x g w t.val (3072 + d.val) * eighth := by
  have h := proj_at x g w t ⟨3072 + d.val, by omega⟩
  rw [← div_eight]
  refine Eq.trans ?_ (congrArg (fun p => Ideal.div p (Ideal.ofBits .f32 0x41000000#32)) h)
  unfold val_main_v76 val_main_v75 val_main_v74 val_main_v22 val_main_cst_5
  generalize val_main_v13 (F := Ideal) x g w = y
  pointwise

theorem at_24 (t : Fin 16384) (e : Fin 1024) : val_main_v24 (F := Ideal) x g w (ix2 t e)
    = if e.val < 384 then proj x g w t.val (1152 + e.val) else if e.val < 768 then proj x g w t.val (2688 + (e.val - 384)) else proj x g w t.val (3328 + (e.val - 768)) := by
  have h := proj_at x g w
  unfold val_main_v24 val_main_v17 val_main_v21 val_main_v23
  revert h
  generalize val_main_v13 (F := Ideal) x g w = y
  intro h
  pointwise
  by_cases a : e.val < 384
  · rw [dif_pos a, if_pos a, h]
  · rw [dif_neg a, if_neg a]
    by_cases b : e.val < 768
    · rw [dif_pos (by omega), if_pos b, h]
    · rw [dif_neg (by omega), if_neg b, h, show e.val - 768 = e.val - 384 - 384 by omega]

theorem at_25 (t : Fin 16384) (e : Fin 1024) : val_main_v25 (F := Ideal) x g w (ix2 t e) = gate (val_main_v24 (F := Ideal) x g w (ix2 t e)) := by
  unfold val_main_v25 val_main_call0_v5 val_main_call0_v4 val_main_call0_v3 val_main_call0_v2 val_main_call0_v1 val_main_call0_v0 val_main_call0_cst val_main_call0_cst_0 gate
  generalize val_main_v24 (F := Ideal) x g w = y
  pointwise
  rw [zero_sub]

theorem at_77 (b : Fin 2) (d : Fin 384) (l : Fin 128) : val_main_v77 (F := Ideal) x g w (ix3 b d l)
    = if l.val ≤ 31 then (∑ r : Fin 256, proj x g w (256 * (32 * b.val + l.val) + r.val) (1920 + d.val)) * tileth else 0 := by
  have h := proj_at x g w
  unfold val_main_v77 val_main_v30 val_main_v29 val_main_v28 val_main_v27 val_main_v26 val_main_v19 val_main_cst_2 val_main_cst_3 val_main_call1_v0 val_main_c
  revert h
  generalize val_main_v13 (F := Ideal) x g w = y
  intro h
  pointwise
  by_cases a : l.val < 32
  · rw [dif_pos a, if_pos (by omega), div_tile]
    congr 1
    refine Finset.sum_congr rfl fun r _ => ?_
    rw [h]
    congr 1
    simp only
    omega
  · rw [dif_neg a, if_neg (by omega)]
    show ((((0#32 : BitVec 32).toInt : ℝ)) : EReal) = 0
    simp

end Cert.Proof.PJ.Ref
-- ==== Proof.PJ.Same.lean ====
/- The projection's kernel computes what the plain projection does. -/
module

public import proofs.«01_k».proof.Defs
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.PJ.Out
public import proofs.«01_k».proof.Proof.PJ.Means
public import proofs.«01_k».proof.Proof.PJ.Ref

@[expose] public section

set_option maxRecDepth 16384

noncomputable section

namespace Cert.Proof.PJ

open Cert.Kernel2Ideal Cert.Kernel2Ideal.Gen
open Idealize.ShloMosaic Idealize.ShloMosaic.TcCoe Idealize.SL.Sem
open Cert.Reference2Ideal.Read

variable (m : (ℓ : Loc nD τ sig) → Buf (Elt Ideal) ℓ) (c : Dev nD)

theorem eq_4 : val_main_v37 (F := Ideal) (m ((c : Thread nD τ).loc main_arg0)) (m ((c : Thread nD τ).loc main_arg1)) (m ((c : Thread nD τ).loc main_arg2)) (m ((c : Thread nD τ).loc main_arg3)) = res_4 m c := by
  funext i
  revert i
  intro (i : S2x2x384x8192.Idx)
  have hi : i = ix4 (i 0) (i 1) (i 2) (i 3) := by
    funext a
    fin_cases a <;> rfl
  refine (congrArg _ hi).trans ((Ref.at_37 _ _ _ _ (i 0) (i 1) (i 2) (i 3)).trans ?_)
  unfold res_4
  by_cases z : (i 0).val = 0
  · exact (if_pos z).trans ((congrArg _ hi.symm).trans (if_pos z).symm)
  · exact (if_neg z).trans (if_neg z).symm

theorem eq_5 : val_main_v44 (F := Ideal) (m ((c : Thread nD τ).loc main_arg0)) (m ((c : Thread nD τ).loc main_arg1)) (m ((c : Thread nD τ).loc main_arg2)) (m ((c : Thread nD τ).loc main_arg4)) = res_5 m c := by
  funext i
  revert i
  intro (i : S2x2x384x8192.Idx)
  have hi : i = ix4 (i 0) (i 1) (i 2) (i 3) := by
    funext a
    fin_cases a <;> rfl
  refine (congrArg _ hi).trans ((Ref.at_44 _ _ _ _ (i 0) (i 1) (i 2) (i 3)).trans ?_)
  unfold res_5
  by_cases z : (i 0).val = 0
  · exact (if_pos z).trans ((congrArg _ hi.symm).trans (if_pos z).symm)
  · exact (if_neg z).trans (if_neg z).symm

theorem eq_6 : val_main_v51 (F := Ideal) (m ((c : Thread nD τ).loc main_arg0)) (m ((c : Thread nD τ).loc main_arg1)) (m ((c : Thread nD τ).loc main_arg2)) (m ((c : Thread nD τ).loc main_arg5)) = res_6 m c := by
  funext i
  revert i
  intro (i : S2x2x384x8192.Idx)
  have hi : i = ix4 (i 0) (i 1) (i 2) (i 3) := by
    funext a
    fin_cases a <;> rfl
  refine (congrArg _ hi).trans ((Ref.at_51 _ _ _ _ (i 0) (i 1) (i 2) (i 3)).trans ?_)
  unfold res_6
  by_cases z : (i 0).val = 0
  · exact (if_pos z).trans ((congrArg _ hi.symm).trans (if_pos z).symm)
  · exact (if_neg z).trans (if_neg z).symm

theorem eq_7 : val_main_v58 (F := Ideal) (m ((c : Thread nD τ).loc main_arg0)) (m ((c : Thread nD τ).loc main_arg1)) (m ((c : Thread nD τ).loc main_arg2)) (m ((c : Thread nD τ).loc main_arg6)) = res_7 m c := by
  funext i
  revert i
  intro (i : S2x2x384x8192.Idx)
  have hi : i = ix4 (i 0) (i 1) (i 2) (i 3) := by
    funext a
    fin_cases a <;> rfl
  refine (congrArg _ hi).trans ((Ref.at_58 _ _ _ _ (i 0) (i 1) (i 2) (i 3)).trans ?_)
  unfold res_7
  by_cases z : (i 0).val = 0
  · exact (if_pos z).trans ((congrArg _ hi.symm).trans (if_pos z).symm)
  · exact (if_neg z).trans (if_neg z).symm

theorem eq_8 : val_main_v61 (F := Ideal) (m ((c : Thread nD τ).loc main_arg0)) (m ((c : Thread nD τ).loc main_arg1)) (m ((c : Thread nD τ).loc main_arg2)) = res_8 m c := by
  funext i
  revert i
  intro (i : S64x384x256.Idx)
  have hi : i = ix3 (i 0) (i 1) (i 2) := by
    funext a
    fin_cases a <;> rfl
  exact (congrArg _ hi).trans (Ref.at_61 _ _ _ (i 0) (i 1) (i 2))

theorem eq_9 : val_main_v64 (F := Ideal) (m ((c : Thread nD τ).loc main_arg0)) (m ((c : Thread nD τ).loc main_arg1)) (m ((c : Thread nD τ).loc main_arg2)) = res_9 m c := by
  funext i
  revert i
  intro (i : S64x384x256.Idx)
  have hi : i = ix3 (i 0) (i 1) (i 2) := by
    funext a
    fin_cases a <;> rfl
  exact (congrArg _ hi).trans (Ref.at_64 _ _ _ (i 0) (i 1) (i 2))

theorem eq_10 : val_main_v67 (F := Ideal) (m ((c : Thread nD τ).loc main_arg0)) (m ((c : Thread nD τ).loc main_arg1)) (m ((c : Thread nD τ).loc main_arg2)) = res_10 m c := by
  funext i
  revert i
  intro (i : S64x384x256.Idx)
  have hi : i = ix3 (i 0) (i 1) (i 2) := by
    funext a
    fin_cases a <;> rfl
  exact (congrArg _ hi).trans (Ref.at_67 _ _ _ (i 0) (i 1) (i 2))

theorem eq_11 : val_main_v69 (F := Ideal) (m ((c : Thread nD τ).loc main_arg0)) (m ((c : Thread nD τ).loc main_arg1)) (m ((c : Thread nD τ).loc main_arg2)) = res_11 m c := by
  funext i
  revert i
  intro (i : S64x384x256.Idx)
  have hi : i = ix3 (i 0) (i 1) (i 2) := by
    funext a
    fin_cases a <;> rfl
  exact (congrArg _ hi).trans (Ref.at_69 _ _ _ (i 0) (i 1) (i 2))

theorem eq_12 : val_main_v70 (F := Ideal) (m ((c : Thread nD τ).loc main_arg0)) (m ((c : Thread nD τ).loc main_arg1)) (m ((c : Thread nD τ).loc main_arg2)) = res_12 m c := by
  funext i
  revert i
  intro (i : S16384x384.Idx)
  have hi : i = ix2 (i 0) (i 1) := by
    funext a
    fin_cases a <;> rfl
  exact (congrArg _ hi).trans (Ref.at_70 _ _ _ (i 0) (i 1))

theorem eq_13 : val_main_v73 (F := Ideal) (m ((c : Thread nD τ).loc main_arg0)) (m ((c : Thread nD τ).loc main_arg1)) (m ((c : Thread nD τ).loc main_arg2)) = res_13 m c := by
  funext i
  revert i
  intro (i : S16384x384.Idx)
  have hi : i = ix2 (i 0) (i 1) := by
    funext a
    fin_cases a <;> rfl
  exact (congrArg _ hi).trans (Ref.at_73 _ _ _ (i 0) (i 1))

theorem eq_14 : val_main_v76 (F := Ideal) (m ((c : Thread nD τ).loc main_arg0)) (m ((c : Thread nD τ).loc main_arg1)) (m ((c : Thread nD τ).loc main_arg2)) = res_14 m c := by
  funext i
  revert i
  intro (i : S16384x256.Idx)
  have hi : i = ix2 (i 0) (i 1) := by
    funext a
    fin_cases a <;> rfl
  exact (congrArg _ hi).trans (Ref.at_76 _ _ _ (i 0) (i 1))

theorem eq_15 : val_main_v25 (F := Ideal) (m ((c : Thread nD τ).loc main_arg0)) (m ((c : Thread nD τ).loc main_arg1)) (m ((c : Thread nD τ).loc main_arg2)) = res_15 m c := by
  funext i
  revert i
  intro (i : S16384x1024.Idx)
  have hi : i = ix2 (i 0) (i 1) := by
    funext a
    fin_cases a <;> rfl
  refine (congrArg _ hi).trans ((Ref.at_25 _ _ _ (i 0) (i 1)).trans ((congrArg gate (Ref.at_24 _ _ _ (i 0) (i 1))).trans ?_))
  unfold res_15 gateCol
  congr 1
  split_ifs <;> rfl

theorem eq_16 : val_main_v77 (F := Ideal) (m ((c : Thread nD τ).loc main_arg0)) (m ((c : Thread nD τ).loc main_arg1)) (m ((c : Thread nD τ).loc main_arg2)) = res_16 m c := by
  funext i
  revert i
  intro (i : S2x384x128.Idx)
  have hi : i = ix3 (i 0) (i 1) (i 2) := by
    funext a
    fin_cases a <;> rfl
  exact (congrArg _ hi).trans (Ref.at_77 _ _ _ (i 0) (i 1) (i 2))

theorem link_4 (x : FVec Ideal S16384x1024 .f32) (g : FVec Ideal S1024 .f32) (w : FVec Ideal S1024x3584 .f32) (x3 : FVec Ideal S2x2x384x8192 .f32)
    (a0 : x = m ((c : Thread nD τ).loc main_arg0)) (a1 : g = m ((c : Thread nD τ).loc main_arg1)) (a2 : w = m ((c : Thread nD τ).loc main_arg2)) (a3 : x3 = m ((c : Thread nD τ).loc main_arg3)) :
    val_main_v37 (F := Ideal) x g w x3 = res_4 m c := by
  rw [a0, a1, a2, a3]
  exact eq_4 m c

theorem link_5 (x : FVec Ideal S16384x1024 .f32) (g : FVec Ideal S1024 .f32) (w : FVec Ideal S1024x3584 .f32) (x4 : FVec Ideal S2x2x384x8192 .f32)
    (a0 : x = m ((c : Thread nD τ).loc main_arg0)) (a1 : g = m ((c : Thread nD τ).loc main_arg1)) (a2 : w = m ((c : Thread nD τ).loc main_arg2)) (a4 : x4 = m ((c : Thread nD τ).loc main_arg4)) :
    val_main_v44 (F := Ideal) x g w x4 = res_5 m c := by
  rw [a0, a1, a2, a4]
  exact eq_5 m c

theorem link_6 (x : FVec Ideal S16384x1024 .f32) (g : FVec Ideal S1024 .f32) (w : FVec Ideal S1024x3584 .f32) (x5 : FVec Ideal S2x2x384x8192 .f32)
    (a0 : x = m ((c : Thread nD τ).loc main_arg0)) (a1 : g = m ((c : Thread nD τ).loc main_arg1)) (a2 : w = m ((c : Thread nD τ).loc main_arg2)) (a5 : x5 = m ((c : Thread nD τ).loc main_arg5)) :
    val_main_v51 (F := Ideal) x g w x5 = res_6 m c := by
  rw [a0, a1, a2, a5]
  exact eq_6 m c

theorem link_7 (x : FVec Ideal S16384x1024 .f32) (g : FVec Ideal S1024 .f32) (w : FVec Ideal S1024x3584 .f32) (x6 : FVec Ideal S2x2x384x8192 .f32)
    (a0 : x = m ((c : Thread nD τ).loc main_arg0)) (a1 : g = m ((c : Thread nD τ).loc main_arg1)) (a2 : w = m ((c : Thread nD τ).loc main_arg2)) (a6 : x6 = m ((c : Thread nD τ).loc main_arg6)) :
    val_main_v58 (F := Ideal) x g w x6 = res_7 m c := by
  rw [a0, a1, a2, a6]
  exact eq_7 m c

theorem link_8 (x : FVec Ideal S16384x1024 .f32) (g : FVec Ideal S1024 .f32) (w : FVec Ideal S1024x3584 .f32)
    (a0 : x = m ((c : Thread nD τ).loc main_arg0)) (a1 : g = m ((c : Thread nD τ).loc main_arg1)) (a2 : w = m ((c : Thread nD τ).loc main_arg2)) :
    val_main_v61 (F := Ideal) x g w = res_8 m c := by
  rw [a0, a1, a2]
  exact eq_8 m c

theorem link_9 (x : FVec Ideal S16384x1024 .f32) (g : FVec Ideal S1024 .f32) (w : FVec Ideal S1024x3584 .f32)
    (a0 : x = m ((c : Thread nD τ).loc main_arg0)) (a1 : g = m ((c : Thread nD τ).loc main_arg1)) (a2 : w = m ((c : Thread nD τ).loc main_arg2)) :
    val_main_v64 (F := Ideal) x g w = res_9 m c := by
  rw [a0, a1, a2]
  exact eq_9 m c

theorem link_10 (x : FVec Ideal S16384x1024 .f32) (g : FVec Ideal S1024 .f32) (w : FVec Ideal S1024x3584 .f32)
    (a0 : x = m ((c : Thread nD τ).loc main_arg0)) (a1 : g = m ((c : Thread nD τ).loc main_arg1)) (a2 : w = m ((c : Thread nD τ).loc main_arg2)) :
    val_main_v67 (F := Ideal) x g w = res_10 m c := by
  rw [a0, a1, a2]
  exact eq_10 m c

theorem link_11 (x : FVec Ideal S16384x1024 .f32) (g : FVec Ideal S1024 .f32) (w : FVec Ideal S1024x3584 .f32)
    (a0 : x = m ((c : Thread nD τ).loc main_arg0)) (a1 : g = m ((c : Thread nD τ).loc main_arg1)) (a2 : w = m ((c : Thread nD τ).loc main_arg2)) :
    val_main_v69 (F := Ideal) x g w = res_11 m c := by
  rw [a0, a1, a2]
  exact eq_11 m c

theorem link_12 (x : FVec Ideal S16384x1024 .f32) (g : FVec Ideal S1024 .f32) (w : FVec Ideal S1024x3584 .f32)
    (a0 : x = m ((c : Thread nD τ).loc main_arg0)) (a1 : g = m ((c : Thread nD τ).loc main_arg1)) (a2 : w = m ((c : Thread nD τ).loc main_arg2)) :
    val_main_v70 (F := Ideal) x g w = res_12 m c := by
  rw [a0, a1, a2]
  exact eq_12 m c

theorem link_13 (x : FVec Ideal S16384x1024 .f32) (g : FVec Ideal S1024 .f32) (w : FVec Ideal S1024x3584 .f32)
    (a0 : x = m ((c : Thread nD τ).loc main_arg0)) (a1 : g = m ((c : Thread nD τ).loc main_arg1)) (a2 : w = m ((c : Thread nD τ).loc main_arg2)) :
    val_main_v73 (F := Ideal) x g w = res_13 m c := by
  rw [a0, a1, a2]
  exact eq_13 m c

theorem link_14 (x : FVec Ideal S16384x1024 .f32) (g : FVec Ideal S1024 .f32) (w : FVec Ideal S1024x3584 .f32)
    (a0 : x = m ((c : Thread nD τ).loc main_arg0)) (a1 : g = m ((c : Thread nD τ).loc main_arg1)) (a2 : w = m ((c : Thread nD τ).loc main_arg2)) :
    val_main_v76 (F := Ideal) x g w = res_14 m c := by
  rw [a0, a1, a2]
  exact eq_14 m c

theorem link_15 (x : FVec Ideal S16384x1024 .f32) (g : FVec Ideal S1024 .f32) (w : FVec Ideal S1024x3584 .f32)
    (a0 : x = m ((c : Thread nD τ).loc main_arg0)) (a1 : g = m ((c : Thread nD τ).loc main_arg1)) (a2 : w = m ((c : Thread nD τ).loc main_arg2)) :
    val_main_v25 (F := Ideal) x g w = res_15 m c := by
  rw [a0, a1, a2]
  exact eq_15 m c

theorem link_16 (x : FVec Ideal S16384x1024 .f32) (g : FVec Ideal S1024 .f32) (w : FVec Ideal S1024x3584 .f32)
    (a0 : x = m ((c : Thread nD τ).loc main_arg0)) (a1 : g = m ((c : Thread nD τ).loc main_arg1)) (a2 : w = m ((c : Thread nD τ).loc main_arg2)) :
    val_main_v77 (F := Ideal) x g w = res_16 m c := by
  rw [a0, a1, a2]
  exact eq_16 m c

set_option maxHeartbeats 4000000 in
/-- Every result of the kernel is the plain projection's. -/
theorem same : algebraic_Kernel2Ideal_Reference2Ideal := fun m g m' g' _ hag =>
  ⟨res_4 m, res_5 m, res_6 m, res_7 m, res_8 m, res_9 m, res_10 m, res_11 m, res_12 m, res_13 m, res_14 m, res_15 m, res_16 m,
    (θ_run _ _ _).mono (fun r h c => by
      obtain ⟨h4, h5, h6, h7, h8, h9, h10, h11, h12, h13, h14, h15, h16, hargs⟩ := h c
      exact ⟨h4.trans (array_4 m c), h5.trans (array_5 m c), h6.trans (array_6 m c), h7.trans (array_7 m c), h8.trans (array_8 m c), h9.trans (array_9 m c), h10.trans (array_10 m c), h11.trans (array_11 m c), h12.trans (array_12 m c), h13.trans (array_13 m c), h14.trans (array_14 m c), h15.trans (array_15 m c), h16.trans (array_16 m c), hargs⟩) (Cert.Kernel2Ideal.Value.run_blocks m g),
    (θ_run _ _ _).mono (fun r h c => by
      obtain ⟨h4, h5, h6, h7, h8, h9, h10, h11, h12, h13, h14, h15, h16, hargs⟩ := h c
      obtain ⟨a0, a1, a2, a3, a4, a5, a6⟩ := hag c
      exact ⟨(h4.trans (val_main_v37_eq _ _ _ _)).trans (link_4 m c _ _ _ _ a0 a1 a2 a3), (h5.trans (val_main_v44_eq _ _ _ _)).trans (link_5 m c _ _ _ _ a0 a1 a2 a4), (h6.trans (val_main_v51_eq _ _ _ _)).trans (link_6 m c _ _ _ _ a0 a1 a2 a5), (h7.trans (val_main_v58_eq _ _ _ _)).trans (link_7 m c _ _ _ _ a0 a1 a2 a6), (h8.trans (val_main_v61_eq _ _ _)).trans (link_8 m c _ _ _ a0 a1 a2), (h9.trans (val_main_v64_eq _ _ _)).trans (link_9 m c _ _ _ a0 a1 a2), (h10.trans (val_main_v67_eq _ _ _)).trans (link_10 m c _ _ _ a0 a1 a2), (h11.trans (val_main_v69_eq _ _ _)).trans (link_11 m c _ _ _ a0 a1 a2), (h12.trans (val_main_v70_eq _ _ _)).trans (link_12 m c _ _ _ a0 a1 a2), (h13.trans (val_main_v73_eq _ _ _)).trans (link_13 m c _ _ _ a0 a1 a2), (h14.trans (val_main_v76_eq _ _ _)).trans (link_14 m c _ _ _ a0 a1 a2), (h15.trans (val_main_v25_eq _ _)).trans (link_15 m c _ _ _ a0 a1 a2), (h16.trans (val_main_v77_eq _ _ _)).trans (link_16 m c _ _ _ a0 a1 a2), hargs⟩) (Cert.Reference2Ideal.Value.run (F := Ideal) m' g')⟩

end Cert.Proof.PJ
-- ==== Proof.MG.Read.lean ====
/- What the merge computes from a tile of tokens, read at an index over the extended reals. -/
module

public import proofs.«01_k».proof.Proof.Gen.Kernel3Ideal.Skeleton
public import proofs.«01_k».proof.Proof.PJ.Read

@[expose] public section

set_option maxRecDepth 16384

noncomputable section

namespace Cert.Proof.MG

open Cert.Kernel3Ideal Cert.Kernel3Ideal.Gen
open Idealize.ShloMosaic

/-- A token's output projection on column `d`: the three attentions' features, each with its own rows of the weight. -/
def out (a b : Fin 384 → EReal) (e : Fin 256 → EReal) (w : Fin 1024 → Fin 1024 → EReal) (d : Fin 1024) : EReal :=
  ∑ k : Fin 384, a k * w ⟨k.val, by omega⟩ d + ∑ k : Fin 384, b k * w ⟨384 + k.val, by omega⟩ d
    + ∑ k : Fin 256, e k * w ⟨768 + k.val, by omega⟩ d

/-- The projection normalised and weighted, beside the residual. -/
def merged (a b : Fin 384 → EReal) (e : Fin 256 → EReal) (x : Fin 1024 → EReal) (w : Fin 1024 → Fin 1024 → EReal)
    (g : Fin 1024 → EReal) (d : Fin 1024) : EReal :=
  x d + out a b e w d * PJ.scale (out a b e w) * g d

/-- A sum over the joined features is the sum over each part. -/
theorem sum_parts (f : Fin 1024 → EReal) :
    ∑ k, f k = ∑ k : Fin 384, f ⟨k.val, by omega⟩ + ∑ k : Fin 384, f ⟨384 + k.val, by omega⟩ + ∑ k : Fin 256, f ⟨768 + k.val, by omega⟩ := by
  have h := Fin.sum_univ_add (a := 384 + 384) (b := 256) f
  have h' := Fin.sum_univ_add (a := 384) (b := 384) fun i => f (Fin.castAdd 256 i)
  rw [h'] at h
  exact h

/-- The merge's result at a row and a column. -/
theorem merge_apply (a b : Vec Ideal S512x384 .bf16) (e : Vec Ideal S512x256 .bf16) (wa wb : Vec Ideal S384x1024 .bf16)
    (we : Vec Ideal S256x1024 .bf16) (x : Vec Ideal S512x1024 .f32) (g : Vec Ideal S1x1024 .f32)
    (w : Fin 1024 → Fin 1024 → EReal)
    (ha : ∀ (k : Fin 384) (d : Fin 1024), wa (ix2 k d) = w ⟨k.val, by omega⟩ d)
    (hb : ∀ (k : Fin 384) (d : Fin 1024), wb (ix2 k d) = w ⟨384 + k.val, by omega⟩ d)
    (he : ∀ (k : Fin 256) (d : Fin 1024), we (ix2 k d) = w ⟨768 + k.val, by omega⟩ d) (r : Fin 512) (d : Fin 1024) :
    k0_pay1 a wa b wb e we x g (ix2 r d)
      = merged (fun k => a (ix2 r k)) (fun k => b (ix2 r k)) (fun k => e (ix2 r k)) (fun k => x (ix2 r k)) w (fun k => g (ix2 0 k)) d := by
  unfold merged PJ.scale out
  simp only [← ha, ← hb, ← he]
  unfold k0_pay1
  pointwise
  try rfl

end Cert.Proof.MG
-- ==== Proof.MG.Out.lean ====
/- The merge's result array, in closed form. -/
module

public import proofs.«01_k».proof.Proof.MG.Read
public import proofs.«01_k».proof.Proof.Gen.Kernel3Ideal.Value
public import Idealize.ShloMosaic.Lib.Pipeline.ValueKit
public import Idealize.ShloMosaic.Lib.Claim

@[expose] public section

set_option maxRecDepth 16384

noncomputable section

namespace Cert.Proof.MG

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

theorem zeros : (![0, 0] : Fin 2 → ℕ) = fun _ => 0 := by decide

/-- The block each window names at a point: the tile of 512 tokens is the point's number. -/
theorem blocks : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![t.val, 0] := by
  decide +kernel

theorem pt_lt (t : Fin cfg0.N) : t.val < 32 := t.isLt

theorem entry_v0 (k d : Fin 1024) : V m c main_v0 (ix2 k d) = m ((c : Thread nD τ).loc main_arg4) (ix2 k d) := by
  entry_read
  pointwise

theorem entry_v1 (d : Fin 1024) : V m c main_v1 (ix2 0 d) = m ((c : Thread nD τ).loc main_arg5) (ix1 d) := by
  entry_read
  pointwise

/-- The token of a row of the point's tile. -/
def tok (t : Fin cfg0.N) (r : Fin 512) : Fin 16384 := ⟨512 * t.val + r.val, by have := pt_lt t; omega⟩

theorem part_a (t : Fin cfg0.N) (r : Fin 512) (k : Fin 384) :
    iblk m c 0 t (ix2 r k) = m ((c : Thread nD τ).loc main_arg0) (ix2 (tok t r) k) := by
  have e := (blocks t).1
  unfold iblk
  show V m c main_arg0 ((cfg0.win 0).blk t |>.view.emb (ix2 r k)) = _
  rw [show ((cfg0.win 0).blk t |>.view.emb (ix2 r k)) = ix2 (tok t r) k by unfold tok; blk_ext [e]]
  entry_read
  rfl

theorem part_b (t : Fin cfg0.N) (r : Fin 512) (k : Fin 384) :
    iblk m c 1 t (ix2 r k) = m ((c : Thread nD τ).loc main_arg1) (ix2 (tok t r) k) := by
  have e := (blocks t).2.1
  unfold iblk
  show V m c main_arg1 ((cfg0.win 1).blk t |>.view.emb (ix2 r k)) = _
  rw [show ((cfg0.win 1).blk t |>.view.emb (ix2 r k)) = ix2 (tok t r) k by unfold tok; blk_ext [e]]
  entry_read
  rfl

theorem part_e (t : Fin cfg0.N) (r : Fin 512) (k : Fin 256) :
    iblk m c 2 t (ix2 r k) = m ((c : Thread nD τ).loc main_arg2) (ix2 (tok t r) k) := by
  have e := (blocks t).2.2.1
  unfold iblk
  show V m c main_arg2 ((cfg0.win 2).blk t |>.view.emb (ix2 r k)) = _
  rw [show ((cfg0.win 2).blk t |>.view.emb (ix2 r k)) = ix2 (tok t r) k by unfold tok; blk_ext [e]]
  entry_read
  rfl

theorem part_x (t : Fin cfg0.N) (r : Fin 512) (k : Fin 1024) :
    iblk m c 3 t (ix2 r k) = m ((c : Thread nD τ).loc main_arg3) (ix2 (tok t r) k) := by
  have e := (blocks t).2.2.2.1
  unfold iblk
  show V m c main_arg3 ((cfg0.win 3).blk t |>.view.emb (ix2 r k)) = _
  rw [show ((cfg0.win 3).blk t |>.view.emb (ix2 r k)) = ix2 (tok t r) k by unfold tok; blk_ext [e]]
  entry_read
  rfl

theorem part_w (t : Fin cfg0.N) (k d : Fin 1024) :
    iblk m c 4 t (ix2 k d) = m ((c : Thread nD τ).loc main_arg4) (ix2 k d) := by
  have e := (blocks t).2.2.2.2.1
  unfold iblk
  show V m c main_v0 ((cfg0.win 4).blk t |>.view.emb (ix2 k d)) = _
  rw [show ((cfg0.win 4).blk t |>.view.emb (ix2 k d)) = ix2 k d by blk_ext [e]]
  exact entry_v0 m c k d

theorem part_g (t : Fin cfg0.N) (d : Fin 1024) :
    iblk m c 5 t (ix2 0 d) = m ((c : Thread nD τ).loc main_arg5) (ix1 d) := by
  have e := (blocks t).2.2.2.2.2.1
  unfold iblk
  show V m c main_v1 ((cfg0.win 5).blk t |>.view.emb (ix2 0 d)) = _
  rw [show ((cfg0.win 5).blk t |>.view.emb (ix2 0 d)) = ix2 0 d by blk_ext [e]]
  exact entry_v1 m c d

/-- The rows of the weight that each attention's features meet. -/
abbrev rows_a (y : Vec Ideal S1024x1024 .bf16) : Vec Ideal S384x1024 .bf16 := View.ld y r0_1
abbrev rows_b (y : Vec Ideal S1024x1024 .bf16) : Vec Ideal S384x1024 .bf16 := View.ld y r0_2
abbrev rows_e (y : Vec Ideal S1024x1024 .bf16) : Vec Ideal S256x1024 .bf16 := View.ld y r0_4

theorem rows_a_at (y : Vec Ideal S1024x1024 .bf16) (k : Fin 384) (d : Fin 1024) : rows_a y (ix2 k d) = y (ix2 ⟨k.val, by omega⟩ d) := by
  refine congrArg y ?_
  funext a
  fin_cases a <;> exact Fin.ext (by simp [r0_1, ix2])

theorem rows_b_at (y : Vec Ideal S1024x1024 .bf16) (k : Fin 384) (d : Fin 1024) : rows_b y (ix2 k d) = y (ix2 ⟨384 + k.val, by omega⟩ d) := by
  refine congrArg y ?_
  funext a
  fin_cases a <;> exact Fin.ext (by simp [r0_2, ix2])

theorem rows_e_at (y : Vec Ideal S1024x1024 .bf16) (k : Fin 256) (d : Fin 1024) : rows_e y (ix2 k d) = y (ix2 ⟨768 + k.val, by omega⟩ d) := by
  refine congrArg y ?_
  funext a
  fin_cases a <;> exact Fin.ext (by simp [r0_4, ix2])

/-- What a point leaves in the result's block. -/
theorem left_6 (t : Fin cfg0.N) : (dats m 0 c).after 6 t
    = k0_pay1 (iblk m c 0 t) (rows_a (iblk m c 4 t)) (iblk m c 1 t) (rows_b (iblk m c 4 t)) (iblk m c 2 t) (rows_e (iblk m c 4 t))
        (iblk m c 3 t) (iblk m c 5 t) := by
  rw [after0_6]
  unfold out0_6
  rw [View.canon_cons_unit_zero (S := S512x1024) zeros]
  simp only [View.ld_unit_zero (S := S512x384) zeros, View.ld_unit_zero (S := S512x256) zeros,
    View.ld_unit_zero (S := S512x1024) zeros, View.ld_unit_zero (S := S1x1024) zeros]

/-- The merge of the call's own arguments, at a token and a column. -/
def mrg (t : Fin 16384) (d : Fin 1024) : EReal :=
  merged (fun k => m ((c : Thread nD τ).loc main_arg0) (ix2 t k)) (fun k => m ((c : Thread nD τ).loc main_arg1) (ix2 t k))
    (fun k => m ((c : Thread nD τ).loc main_arg2) (ix2 t k)) (fun k => m ((c : Thread nD τ).loc main_arg3) (ix2 t k))
    (fun k d => m ((c : Thread nD τ).loc main_arg4) (ix2 k d)) (fun k => m ((c : Thread nD τ).loc main_arg5) (ix1 k)) d

/-- What a point computes is its tile of the merge. -/
theorem tile_at (t : Fin cfg0.N) (r : Fin 512) (d : Fin 1024) :
    k0_pay1 (iblk m c 0 t) (rows_a (iblk m c 4 t)) (iblk m c 1 t) (rows_b (iblk m c 4 t)) (iblk m c 2 t) (rows_e (iblk m c 4 t))
        (iblk m c 3 t) (iblk m c 5 t) (ix2 r d) = mrg m c (tok t r) d := by
  refine (merge_apply _ _ _ _ _ _ _ _ (fun k d => m ((c : Thread nD τ).loc main_arg4) (ix2 k d))
    (fun k d => (rows_a_at _ k d).trans (part_w m c t _ d)) (fun k d => (rows_b_at _ k d).trans (part_w m c t _ d))
    (fun k d => (rows_e_at _ k d).trans (part_w m c t _ d)) r d).trans ?_
  unfold mrg
  simp only [part_a, part_b, part_e, part_x, part_g]

/-- The result. -/
def res_6 (c : Dev nD) : Buf (Elt Ideal) ((c.tc : Thread nD τ).loc main_v2) := fun i => mrg m c (i 0) (i 1)

theorem array_6 : (dats m 0 c).arrAt 6 cfg0.N = res_6 m c := by
  refine (dats m 0 c).arrAt_eq_of_covers 6 _ (by decide +kernel) fun t hf y => ?_
  have e : win0_6.index t = ![t.val, 0] := (blocks t).2.2.2.2.2.2
  blk_simp [e]
  rw [left_6]
  revert y
  intro (y : S512x1024.Idx)
  have hy : y = ix2 (y 0) (y 1) := by
    funext a
    fin_cases a <;> rfl
  refine (congrArg _ hy).trans ((tile_at m c t (y 0) (y 1)).trans ?_)
  have e0 : (win0_6.blk t).view.emb y 0 = tok t (y 0) := Fin.ext (by unfold tok; blk_simp [e]; ring)
  have e1 : (win0_6.blk t).view.emb y 1 = y 1 := Fin.ext (by blk_simp [e])
  unfold res_6
  rw [e0, e1]

end Cert.Proof.MG
-- ==== Proof.MG.Ref.lean ====
/- The plain merge's result, read at an index. -/
module

public import proofs.«01_k».proof.Proof.MG.Read
public import proofs.«01_k».proof.Proof.Gen.Reference3Ideal.Read
public import Idealize.ShloMosaic.Lib.Pointwise

@[expose] public section

set_option maxRecDepth 16384

noncomputable section

namespace Cert.Proof.MG.Ref

open Cert.Reference3Ideal Cert.Reference3Ideal.Read
open Idealize.ShloMosaic

variable (a b : FVec Ideal S16384x384 .bf16) (e : FVec Ideal S16384x256 .bf16) (x : FVec Ideal S16384x1024 .f32)
  (w : FVec Ideal S1024x1024 .f32) (g : FVec Ideal S1024 .f32)

/-- The joined features, part by part. -/
theorem joined_0 (t : Fin 16384) (k : Fin 384) : val_main_v3 (F := Ideal) a b e (ix2 t ⟨k.val, by omega⟩) = a (ix2 t k) := by
  unfold val_main_v3 val_main_v2 val_main_v1 val_main_v0
  pointwise

theorem joined_1 (t : Fin 16384) (k : Fin 384) : val_main_v3 (F := Ideal) a b e (ix2 t ⟨384 + k.val, by omega⟩) = b (ix2 t k) := by
  unfold val_main_v3 val_main_v2 val_main_v1 val_main_v0
  pointwise

theorem joined_2 (t : Fin 16384) (k : Fin 256) : val_main_v3 (F := Ideal) a b e (ix2 t ⟨768 + k.val, by omega⟩) = e (ix2 t k) := by
  unfold val_main_v3 val_main_v2 val_main_v1 val_main_v0
  pointwise
  rw [dif_neg (by omega), dif_neg (by omega)]
  exact congrArg (fun z => e (ix2 t z)) (Fin.ext (by simp only; omega))

/-- A token's output projection. -/
theorem out_at (t : Fin 16384) (d : Fin 1024) : val_main_v4 (F := Ideal) a b e w (ix2 t d)
    = out (fun k => a (ix2 t k)) (fun k => b (ix2 t k)) (fun k => e (ix2 t k)) (fun k d => w (ix2 k d)) d := by
  have h : val_main_v4 (F := Ideal) a b e w (ix2 t d) = ∑ k : Fin 1024, val_main_v3 (F := Ideal) a b e (ix2 t k) * w (ix2 k d) := by
    unfold val_main_v4
    generalize val_main_v3 (F := Ideal) a b e = y
    pointwise
  rw [h, sum_parts]
  unfold out
  simp only [joined_0, joined_1, joined_2]

/-- The result, normalised, weighted and added to the residual. -/
theorem merged_at (t : Fin 16384) (d : Fin 1024) : val_main_v18 (F := Ideal) a b e x w g (ix2 t d)
    = merged (fun k => a (ix2 t k)) (fun k => b (ix2 t k)) (fun k => e (ix2 t k)) (fun k => x (ix2 t k)) (fun k d => w (ix2 k d)) (fun k => g (ix1 k)) d := by
  have h : ∀ d, out (fun k => a (ix2 t k)) (fun k => b (ix2 t k)) (fun k => e (ix2 t k)) (fun k d => w (ix2 k d)) d
      = val_main_v4 (F := Ideal) a b e w (ix2 t d) := fun d => (out_at a b e w t d).symm
  unfold merged PJ.scale
  simp only [h]
  unfold val_main_v18 val_main_v17 val_main_v16 val_main_v15 val_main_v14 val_main_v13 val_main_v12 val_main_v11 val_main_v10 val_main_v9 val_main_v8 val_main_v7 val_main_v6 val_main_v5 val_main_cst val_main_cst_0 val_main_cst_1
  generalize val_main_v4 (F := Ideal) a b e w = y
  pointwise

end Cert.Proof.MG.Ref
-- ==== Proof.MG.Same.lean ====
/- The merge's result is the plain merge's. -/
module

public import proofs.«01_k».proof.Defs
public import proofs.«01_k».proof.Proof.MG.Out
public import proofs.«01_k».proof.Proof.MG.Ref
public import proofs.«01_k».proof.Proof.Gen.Reference3Ideal.Run

@[expose] public section

noncomputable section

namespace Cert.Proof.MG

open Cert.Kernel3Ideal Cert.Kernel3Ideal.Gen
open Idealize.ShloMosaic Idealize.ShloMosaic.TcCoe Idealize.SL.Sem
open Cert.Reference3Ideal.Read

variable (m : (ℓ : Loc nD τ sig) → Buf (Elt Ideal) ℓ) (c : Dev nD)

theorem link (a b : FVec Ideal S16384x384 .bf16) (e : FVec Ideal S16384x256 .bf16) (x : FVec Ideal S16384x1024 .f32)
    (w : FVec Ideal S1024x1024 .f32) (g : FVec Ideal S1024 .f32)
    (a0 : a = m ((c : Thread nD τ).loc main_arg0)) (a1 : b = m ((c : Thread nD τ).loc main_arg1))
    (a2 : e = m ((c : Thread nD τ).loc main_arg2)) (a3 : x = m ((c : Thread nD τ).loc main_arg3))
    (a4 : w = m ((c : Thread nD τ).loc main_arg4)) (a5 : g = m ((c : Thread nD τ).loc main_arg5)) :
    val_main_v18 (F := Ideal) a b e x w g = res_6 m c := by
  rw [a0, a1, a2, a3, a4, a5]
  funext (i : S16384x1024.Idx)
  have hi : i = ix2 (i 0) (i 1) := by
    funext a
    fin_cases a <;> rfl
  exact (congrArg _ hi).trans (Ref.merged_at _ _ _ _ _ _ (i 0) (i 1))

/-- The result of the kernel is the plain merge's. -/
theorem same : algebraic_Kernel3Ideal_Reference3Ideal := fun m g m' g' _ hag =>
  ⟨res_6 m,
    (θ_run _ _ _).mono (fun r h c => ⟨(h c).1.trans (array_6 m c), (h c).2⟩) (Cert.Kernel3Ideal.Value.run_blocks (F := Ideal) m g),
    (θ_run _ _ _).mono (fun r h c => by
      obtain ⟨a0, a1, a2, a3, a4, a5⟩ := hag c
      exact ⟨((h c).1.trans (val_main_v18_eq _ _ _ _ _ _)).trans (link m c _ _ _ _ _ _ a0 a1 a2 a3 a4 a5), (h c).2⟩)
      (Cert.Reference3Ideal.Value.run (F := Ideal) m' g')⟩

end Cert.Proof.MG
-- ==== Proof.MG.SampleOut.lean ====
/- The merge of the sampled tokens: what its one tile computes, and its result array in closed form. -/
module

public import proofs.«01_k».proof.Proof.MG.Read
public import proofs.«01_k».proof.Proof.Gen.Kernel4Ideal.Value
public import Idealize.ShloMosaic.Lib.Pipeline.ValueKit
public import Idealize.ShloMosaic.Lib.Claim

@[expose] public section

set_option maxRecDepth 16384

noncomputable section

namespace Cert.Proof.MG.Sample

open Cert.Kernel4Ideal Cert.Kernel4Ideal.Gen
open Idealize.ShloMosaic Idealize.ShloMosaic.TcCoe Idealize.SL.Sem

variable (m : (ℓ : Loc nD τ sig) → Buf (Elt Ideal) ℓ) (c : Dev nD)

/-- The merge's result at a row and a column. -/
theorem merge_apply (a b : Vec Ideal S128x384 .bf16) (e : Vec Ideal S128x256 .bf16) (wa wb : Vec Ideal S384x1024 .bf16)
    (we : Vec Ideal S256x1024 .bf16) (x : Vec Ideal S128x1024 .f32) (g : Vec Ideal S1x1024 .f32)
    (w : Fin 1024 → Fin 1024 → EReal)
    (ha : ∀ (k : Fin 384) (d : Fin 1024), wa (ix2 k d) = w ⟨k.val, by omega⟩ d)
    (hb : ∀ (k : Fin 384) (d : Fin 1024), wb (ix2 k d) = w ⟨384 + k.val, by omega⟩ d)
    (he : ∀ (k : Fin 256) (d : Fin 1024), we (ix2 k d) = w ⟨768 + k.val, by omega⟩ d) (r : Fin 128) (d : Fin 1024) :
    k0_pay1 a wa b wb e we x g (ix2 r d)
      = merged (fun k => a (ix2 r k)) (fun k => b (ix2 r k)) (fun k => e (ix2 r k)) (fun k => x (ix2 r k)) w (fun k => g (ix2 0 k)) d := by
  unfold merged PJ.scale out
  simp only [← ha, ← hb, ← he]
  unfold k0_pay1
  pointwise
  try rfl

theorem zeros : (![0, 0] : Fin 2 → ℕ) = fun _ => 0 := by decide

/-- The block each window names at a point: the tile of 512 tokens is the point's number. -/
theorem blocks : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![t.val, 0] := by
  decide +kernel

theorem pt_lt (t : Fin cfg0.N) : t.val < 1 := t.isLt

theorem entry_v0 (k d : Fin 1024) : V m c main_v0 (ix2 k d) = m ((c : Thread nD τ).loc main_arg4) (ix2 k d) := by
  entry_read
  pointwise

theorem entry_v1 (d : Fin 1024) : V m c main_v1 (ix2 0 d) = m ((c : Thread nD τ).loc main_arg5) (ix1 d) := by
  entry_read
  pointwise

/-- The token of a row of the point's tile. -/
def tok (t : Fin cfg0.N) (r : Fin 128) : Fin 128 := ⟨128 * t.val + r.val, by have := pt_lt t; omega⟩

theorem part_a (t : Fin cfg0.N) (r : Fin 128) (k : Fin 384) :
    iblk m c 0 t (ix2 r k) = m ((c : Thread nD τ).loc main_arg0) (ix2 (tok t r) k) := by
  have e := (blocks t).1
  unfold iblk
  show V m c main_arg0 ((cfg0.win 0).blk t |>.view.emb (ix2 r k)) = _
  rw [show ((cfg0.win 0).blk t |>.view.emb (ix2 r k)) = ix2 (tok t r) k by unfold tok; blk_ext [e]]
  entry_read
  rfl

theorem part_b (t : Fin cfg0.N) (r : Fin 128) (k : Fin 384) :
    iblk m c 1 t (ix2 r k) = m ((c : Thread nD τ).loc main_arg1) (ix2 (tok t r) k) := by
  have e := (blocks t).2.1
  unfold iblk
  show V m c main_arg1 ((cfg0.win 1).blk t |>.view.emb (ix2 r k)) = _
  rw [show ((cfg0.win 1).blk t |>.view.emb (ix2 r k)) = ix2 (tok t r) k by unfold tok; blk_ext [e]]
  entry_read
  rfl

theorem part_e (t : Fin cfg0.N) (r : Fin 128) (k : Fin 256) :
    iblk m c 2 t (ix2 r k) = m ((c : Thread nD τ).loc main_arg2) (ix2 (tok t r) k) := by
  have e := (blocks t).2.2.1
  unfold iblk
  show V m c main_arg2 ((cfg0.win 2).blk t |>.view.emb (ix2 r k)) = _
  rw [show ((cfg0.win 2).blk t |>.view.emb (ix2 r k)) = ix2 (tok t r) k by unfold tok; blk_ext [e]]
  entry_read
  rfl

theorem part_x (t : Fin cfg0.N) (r : Fin 128) (k : Fin 1024) :
    iblk m c 3 t (ix2 r k) = m ((c : Thread nD τ).loc main_arg3) (ix2 (tok t r) k) := by
  have e := (blocks t).2.2.2.1
  unfold iblk
  show V m c main_arg3 ((cfg0.win 3).blk t |>.view.emb (ix2 r k)) = _
  rw [show ((cfg0.win 3).blk t |>.view.emb (ix2 r k)) = ix2 (tok t r) k by unfold tok; blk_ext [e]]
  entry_read
  rfl

theorem part_w (t : Fin cfg0.N) (k d : Fin 1024) :
    iblk m c 4 t (ix2 k d) = m ((c : Thread nD τ).loc main_arg4) (ix2 k d) := by
  have e := (blocks t).2.2.2.2.1
  unfold iblk
  show V m c main_v0 ((cfg0.win 4).blk t |>.view.emb (ix2 k d)) = _
  rw [show ((cfg0.win 4).blk t |>.view.emb (ix2 k d)) = ix2 k d by blk_ext [e]]
  exact entry_v0 m c k d

theorem part_g (t : Fin cfg0.N) (d : Fin 1024) :
    iblk m c 5 t (ix2 0 d) = m ((c : Thread nD τ).loc main_arg5) (ix1 d) := by
  have e := (blocks t).2.2.2.2.2.1
  unfold iblk
  show V m c main_v1 ((cfg0.win 5).blk t |>.view.emb (ix2 0 d)) = _
  rw [show ((cfg0.win 5).blk t |>.view.emb (ix2 0 d)) = ix2 0 d by blk_ext [e]]
  exact entry_v1 m c d

/-- The rows of the weight that each attention's features meet. -/
abbrev rows_a (y : Vec Ideal S1024x1024 .bf16) : Vec Ideal S384x1024 .bf16 := View.ld y r0_1
abbrev rows_b (y : Vec Ideal S1024x1024 .bf16) : Vec Ideal S384x1024 .bf16 := View.ld y r0_2
abbrev rows_e (y : Vec Ideal S1024x1024 .bf16) : Vec Ideal S256x1024 .bf16 := View.ld y r0_4

theorem rows_a_at (y : Vec Ideal S1024x1024 .bf16) (k : Fin 384) (d : Fin 1024) : rows_a y (ix2 k d) = y (ix2 ⟨k.val, by omega⟩ d) := by
  refine congrArg y ?_
  funext a
  fin_cases a <;> exact Fin.ext (by simp [r0_1, ix2])

theorem rows_b_at (y : Vec Ideal S1024x1024 .bf16) (k : Fin 384) (d : Fin 1024) : rows_b y (ix2 k d) = y (ix2 ⟨384 + k.val, by omega⟩ d) := by
  refine congrArg y ?_
  funext a
  fin_cases a <;> exact Fin.ext (by simp [r0_2, ix2])

theorem rows_e_at (y : Vec Ideal S1024x1024 .bf16) (k : Fin 256) (d : Fin 1024) : rows_e y (ix2 k d) = y (ix2 ⟨768 + k.val, by omega⟩ d) := by
  refine congrArg y ?_
  funext a
  fin_cases a <;> exact Fin.ext (by simp [r0_4, ix2])

/-- What a point leaves in the result's block. -/
theorem left_6 (t : Fin cfg0.N) : (dats m 0 c).after 6 t
    = k0_pay1 (iblk m c 0 t) (rows_a (iblk m c 4 t)) (iblk m c 1 t) (rows_b (iblk m c 4 t)) (iblk m c 2 t) (rows_e (iblk m c 4 t))
        (iblk m c 3 t) (iblk m c 5 t) := by
  rw [after0_6]
  unfold out0_6
  rw [View.canon_cons_unit_zero (S := S128x1024) zeros]
  simp only [View.ld_unit_zero (S := S128x384) zeros, View.ld_unit_zero (S := S128x256) zeros,
    View.ld_unit_zero (S := S128x1024) zeros, View.ld_unit_zero (S := S1x1024) zeros]

/-- The merge of the call's own arguments, at a token and a column. -/
def mrg (t : Fin 128) (d : Fin 1024) : EReal :=
  merged (fun k => m ((c : Thread nD τ).loc main_arg0) (ix2 t k)) (fun k => m ((c : Thread nD τ).loc main_arg1) (ix2 t k))
    (fun k => m ((c : Thread nD τ).loc main_arg2) (ix2 t k)) (fun k => m ((c : Thread nD τ).loc main_arg3) (ix2 t k))
    (fun k d => m ((c : Thread nD τ).loc main_arg4) (ix2 k d)) (fun k => m ((c : Thread nD τ).loc main_arg5) (ix1 k)) d

/-- What a point computes is its tile of the merge. -/
theorem tile_at (t : Fin cfg0.N) (r : Fin 128) (d : Fin 1024) :
    k0_pay1 (iblk m c 0 t) (rows_a (iblk m c 4 t)) (iblk m c 1 t) (rows_b (iblk m c 4 t)) (iblk m c 2 t) (rows_e (iblk m c 4 t))
        (iblk m c 3 t) (iblk m c 5 t) (ix2 r d) = mrg m c (tok t r) d := by
  refine (merge_apply _ _ _ _ _ _ _ _ (fun k d => m ((c : Thread nD τ).loc main_arg4) (ix2 k d))
    (fun k d => (rows_a_at _ k d).trans (part_w m c t _ d)) (fun k d => (rows_b_at _ k d).trans (part_w m c t _ d))
    (fun k d => (rows_e_at _ k d).trans (part_w m c t _ d)) r d).trans ?_
  unfold mrg
  simp only [part_a, part_b, part_e, part_x, part_g]

/-- The result. -/
def res_6 (c : Dev nD) : Buf (Elt Ideal) ((c.tc : Thread nD τ).loc main_v2) := fun i => mrg m c (i 0) (i 1)

theorem array_6 : (dats m 0 c).arrAt 6 cfg0.N = res_6 m c := by
  refine (dats m 0 c).arrAt_eq_of_covers 6 _ (by decide +kernel) fun t hf y => ?_
  have e : win0_6.index t = ![t.val, 0] := (blocks t).2.2.2.2.2.2
  blk_simp [e]
  rw [left_6]
  revert y
  intro (y : S128x1024.Idx)
  have hy : y = ix2 (y 0) (y 1) := by
    funext a
    fin_cases a <;> rfl
  refine (congrArg _ hy).trans ((tile_at m c t (y 0) (y 1)).trans ?_)
  have e0 : (win0_6.blk t).view.emb y 0 = tok t (y 0) := Fin.ext (by unfold tok; blk_simp [e]; ring)
  have e1 : (win0_6.blk t).view.emb y 1 = y 1 := Fin.ext (by blk_simp [e])
  unfold res_6
  rw [e0, e1]

end Cert.Proof.MG.Sample
-- ==== Proof.MG.SampleRef.lean ====
/- The plain merge's result for the sampled tokens, read at an index. -/
module

public import proofs.«01_k».proof.Proof.MG.Read
public import proofs.«01_k».proof.Proof.Gen.Reference4Ideal.Read
public import Idealize.ShloMosaic.Lib.Pointwise

@[expose] public section

set_option maxRecDepth 16384

noncomputable section

namespace Cert.Proof.MG.Sample.Ref

open Cert.Reference4Ideal Cert.Reference4Ideal.Read
open Idealize.ShloMosaic

variable (a b : FVec Ideal S128x384 .bf16) (e : FVec Ideal S128x256 .bf16) (x : FVec Ideal S128x1024 .f32)
  (w : FVec Ideal S1024x1024 .f32) (g : FVec Ideal S1024 .f32)

/-- The joined features, part by part. -/
theorem joined_0 (t : Fin 128) (k : Fin 384) : val_main_v3 (F := Ideal) a b e (ix2 t ⟨k.val, by omega⟩) = a (ix2 t k) := by
  unfold val_main_v3 val_main_v2 val_main_v1 val_main_v0
  pointwise

theorem joined_1 (t : Fin 128) (k : Fin 384) : val_main_v3 (F := Ideal) a b e (ix2 t ⟨384 + k.val, by omega⟩) = b (ix2 t k) := by
  unfold val_main_v3 val_main_v2 val_main_v1 val_main_v0
  pointwise

theorem joined_2 (t : Fin 128) (k : Fin 256) : val_main_v3 (F := Ideal) a b e (ix2 t ⟨768 + k.val, by omega⟩) = e (ix2 t k) := by
  unfold val_main_v3 val_main_v2 val_main_v1 val_main_v0
  pointwise
  rw [dif_neg (by omega), dif_neg (by omega)]
  exact congrArg (fun z => e (ix2 t z)) (Fin.ext (by simp only; omega))

/-- A token's output projection. -/
theorem out_at (t : Fin 128) (d : Fin 1024) : val_main_v4 (F := Ideal) a b e w (ix2 t d)
    = out (fun k => a (ix2 t k)) (fun k => b (ix2 t k)) (fun k => e (ix2 t k)) (fun k d => w (ix2 k d)) d := by
  have h : val_main_v4 (F := Ideal) a b e w (ix2 t d) = ∑ k : Fin 1024, val_main_v3 (F := Ideal) a b e (ix2 t k) * w (ix2 k d) := by
    unfold val_main_v4
    generalize val_main_v3 (F := Ideal) a b e = y
    pointwise
  rw [h, sum_parts]
  unfold out
  simp only [joined_0, joined_1, joined_2]

/-- The result, normalised, weighted and added to the residual. -/
theorem merged_at (t : Fin 128) (d : Fin 1024) : val_main_v18 (F := Ideal) a b e x w g (ix2 t d)
    = merged (fun k => a (ix2 t k)) (fun k => b (ix2 t k)) (fun k => e (ix2 t k)) (fun k => x (ix2 t k)) (fun k d => w (ix2 k d)) (fun k => g (ix1 k)) d := by
  have h : ∀ d, out (fun k => a (ix2 t k)) (fun k => b (ix2 t k)) (fun k => e (ix2 t k)) (fun k d => w (ix2 k d)) d
      = val_main_v4 (F := Ideal) a b e w (ix2 t d) := fun d => (out_at a b e w t d).symm
  unfold merged PJ.scale
  simp only [h]
  unfold val_main_v18 val_main_v17 val_main_v16 val_main_v15 val_main_v14 val_main_v13 val_main_v12 val_main_v11 val_main_v10 val_main_v9 val_main_v8 val_main_v7 val_main_v6 val_main_v5 val_main_cst val_main_cst_0 val_main_cst_1
  generalize val_main_v4 (F := Ideal) a b e w = y
  pointwise

end Cert.Proof.MG.Sample.Ref
-- ==== Proof.MG.SampleSame.lean ====
/- The merge's result for the sampled tokens is the plain merge's. -/
module

public import proofs.«01_k».proof.Defs
public import proofs.«01_k».proof.Proof.MG.SampleOut
public import proofs.«01_k».proof.Proof.MG.SampleRef
public import proofs.«01_k».proof.Proof.Gen.Reference4Ideal.Run

@[expose] public section

noncomputable section

namespace Cert.Proof.MG.Sample

open Cert.Kernel4Ideal Cert.Kernel4Ideal.Gen
open Idealize.ShloMosaic Idealize.ShloMosaic.TcCoe Idealize.SL.Sem
open Cert.Reference4Ideal.Read

variable (m : (ℓ : Loc nD τ sig) → Buf (Elt Ideal) ℓ) (c : Dev nD)

theorem link (a b : FVec Ideal S128x384 .bf16) (e : FVec Ideal S128x256 .bf16) (x : FVec Ideal S128x1024 .f32)
    (w : FVec Ideal S1024x1024 .f32) (g : FVec Ideal S1024 .f32)
    (a0 : a = m ((c : Thread nD τ).loc main_arg0)) (a1 : b = m ((c : Thread nD τ).loc main_arg1))
    (a2 : e = m ((c : Thread nD τ).loc main_arg2)) (a3 : x = m ((c : Thread nD τ).loc main_arg3))
    (a4 : w = m ((c : Thread nD τ).loc main_arg4)) (a5 : g = m ((c : Thread nD τ).loc main_arg5)) :
    val_main_v18 (F := Ideal) a b e x w g = res_6 m c := by
  rw [a0, a1, a2, a3, a4, a5]
  funext (i : S128x1024.Idx)
  have hi : i = ix2 (i 0) (i 1) := by
    funext a
    fin_cases a <;> rfl
  exact (congrArg _ hi).trans (Ref.merged_at _ _ _ _ _ _ (i 0) (i 1))

/-- The result of the kernel is the plain merge's. -/
theorem same : algebraic_Kernel4Ideal_Reference4Ideal := fun m g m' g' _ hag =>
  ⟨res_6 m,
    (θ_run _ _ _).mono (fun r h c => ⟨(h c).1.trans (array_6 m c), (h c).2⟩) (Cert.Kernel4Ideal.Value.run_blocks (F := Ideal) m g),
    (θ_run _ _ _).mono (fun r h c => by
      obtain ⟨a0, a1, a2, a3, a4, a5⟩ := hag c
      exact ⟨((h c).1.trans (val_main_v18_eq _ _ _ _ _ _)).trans (link m c _ _ _ _ _ _ a0 a1 a2 a3 a4 a5), (h c).2⟩)
      (Cert.Reference4Ideal.Value.run (F := Ideal) m' g')⟩

end Cert.Proof.MG.Sample
-- ==== Proof.MK.Read.lean ====
/- What the projection of the memory's tokens computes from a tile, read at an index over the extended reals. -/
module

public import proofs.«01_k».proof.Proof.Gen.Kernel5Ideal.Skeleton
public import proofs.«01_k».proof.Proof.PJ.Read

@[expose] public section

set_option maxRecDepth 16384

noncomputable section

namespace Cert.Proof.MK

open Cert.Kernel5Ideal Cert.Kernel5Ideal.Gen
open Idealize.ShloMosaic

/-- A token's row, normalised and weighted, against one column of the weights. -/
def proj (x g w : Fin 1024 → EReal) : EReal := ∑ k, x k * PJ.scale x * g k * w k

theorem hidden_apply (x : Vec Ideal S256x1024 .f32) (g : Vec Ideal S1x1024 .f32) (r : Fin 256) (k : Fin 1024) :
    k0_pay2 x g (ix2 r k) = x (ix2 r k) * PJ.scale (fun j => x (ix2 r j)) * g (ix2 0 k) := by
  unfold k0_pay2
  pointwise
  rfl

theorem cols_apply (x : Vec Ideal S256x1024 .f32) (g : Vec Ideal S1x1024 .f32) (w : Vec Ideal S256x1024 .bf16) (d r : Fin 256) :
    k0_pay3 x g w (ix2 d r) = proj (fun j => x (ix2 r j)) (fun j => g (ix2 0 j)) (fun j => w (ix2 d j)) := by
  have h : k0_pay3 x g w (ix2 d r) = ∑ k : Fin 1024, w (ix2 d k) * k0_pay2 x g (ix2 r k) := by
    unfold k0_pay3
    generalize k0_pay2 x g = y
    pointwise
  rw [h]
  unfold proj
  refine Finset.sum_congr rfl fun k _ => ?_
  rw [hidden_apply, mul_comm]

theorem cols_apply' (x : Vec Ideal S256x1024 .f32) (g : Vec Ideal S1x1024 .f32) (w : Vec Ideal S256x1024 .bf16) (d r : Fin 256) :
    k0_pay6 x g w (ix2 d r) = proj (fun j => x (ix2 r j)) (fun j => g (ix2 0 j)) (fun j => w (ix2 d j)) := by
  have h : k0_pay6 x g w (ix2 d r) = ∑ k : Fin 1024, w (ix2 d k) * k0_pay2 x g (ix2 r k) := by
    unfold k0_pay6
    generalize k0_pay2 x g = y
    pointwise
  rw [h]
  unfold proj
  refine Finset.sum_congr rfl fun k _ => ?_
  rw [hidden_apply, mul_comm]

theorem stored_3 (x : Vec Ideal S256x1024 .f32) (g : Vec Ideal S1x1024 .f32) (w : Vec Ideal S256x1024 .bf16) (u : Fin 1) (d r : Fin 256) :
    k0_pay4 x g w (ix3 u d r) = proj (fun j => x (ix2 r j)) (fun j => g (ix2 0 j)) (fun j => w (ix2 d j)) := by
  rw [← cols_apply]
  unfold k0_pay4
  generalize k0_pay3 x g w = y
  pointwise

theorem stored_4 (x : Vec Ideal S256x1024 .f32) (g : Vec Ideal S1x1024 .f32) (w : Vec Ideal S256x1024 .bf16) (u : Fin 1) (d r : Fin 256) :
    k0_pay7 x g w (ix3 u d r) = proj (fun j => x (ix2 r j)) (fun j => g (ix2 0 j)) (fun j => w (ix2 d j)) := by
  rw [← cols_apply']
  unfold k0_pay7
  generalize k0_pay6 x g w = y
  pointwise

theorem stored_5 (x : Vec Ideal S256x1024 .f32) (g : Vec Ideal S1x1024 .f32) (w : Vec Ideal S256x1024 .bf16) (u : Fin 1) (d r : Fin 256) :
    k0_pay5 x g w (ix3 u d r) = proj (fun j => x (ix2 r j)) (fun j => g (ix2 0 j)) (fun j => w (ix2 d j)) := by
  rw [← cols_apply]
  unfold k0_pay5
  generalize k0_pay3 x g w = y
  pointwise

theorem stored_6 (x : Vec Ideal S256x1024 .f32) (g : Vec Ideal S1x1024 .f32) (w : Vec Ideal S256x1024 .bf16) (u : Fin 1) (d r : Fin 256) :
    k0_pay1 (k0_pay8 x g w) (ix3 u d r) = proj (fun j => x (ix2 r j)) (fun j => g (ix2 0 j)) (fun j => w (ix2 d j)) := by
  rw [← cols_apply']
  unfold k0_pay1 k0_pay8
  generalize k0_pay6 x g w = y
  pointwise

end Cert.Proof.MK
-- ==== Proof.MK.Out.lean ====
/- The result arrays of the memory's projection, in closed form. -/
module

public import proofs.«01_k».proof.Proof.MK.Read
public import proofs.«01_k».proof.Proof.Gen.Kernel5Ideal.Value
public import Idealize.ShloMosaic.Lib.Pipeline.ValueKit
public import Idealize.ShloMosaic.Lib.Claim

@[expose] public section

set_option maxRecDepth 16384

noncomputable section

namespace Cert.Proof.MK

open Cert.Kernel5Ideal Cert.Kernel5Ideal.Gen
open Idealize.ShloMosaic Idealize.ShloMosaic.TcCoe Idealize.SL.Sem

variable (m : (ℓ : Loc nD τ sig) → Buf (Elt Ideal) ℓ) (c : Dev nD)

theorem zeros : (![0, 0] : Fin 2 → ℕ) = fun _ => 0 := by decide
theorem zeros3 : (![0, 0, 0] : Fin 3 → ℕ) = fun _ => 0 := by decide

/-- The block each window names at a point: the tile of 256 tokens is the point's number. -/
theorem blocks : ∀ t : Fin cfg0.N,
    win0_0.index t = ![t.val, 0] ∧ win0_1.index t = ![0, 0] ∧ win0_2.index t = ![0, 0] ∧ win0_3.index t = ![t.val, 0, 0]
    ∧ win0_4.index t = ![t.val, 0, 0] ∧ win0_5.index t = ![t.val, 0, 0] ∧ win0_6.index t = ![t.val, 0, 0] := by
  decide +kernel

theorem pt_lt (t : Fin cfg0.N) : t.val < 2 := t.isLt

theorem entry_v1 (k : Fin 1024) (d : Fin 512) : V m c main_v1 (ix2 d k) = m ((c : Thread nD τ).loc main_arg2) (ix2 k d) := by
  entry_read
  pointwise

theorem entry_v2 (k : Fin 1024) : V m c main_v2 (ix2 0 k) = m ((c : Thread nD τ).loc main_arg1) (ix1 k) := by
  entry_read
  pointwise

theorem part_x (t : Fin cfg0.N) (r : Fin 256) (k : Fin 1024) :
    iblk m c 0 t (ix2 r k) = m ((c : Thread nD τ).loc main_arg0) (ix2 (Fin.ofNat 512 (256 * t.val + r.val)) k) := by
  have e := (blocks t).1
  have ht := pt_lt t
  unfold iblk
  show V m c main_arg0 ((cfg0.win 0).blk t |>.view.emb (ix2 r k)) = _
  rw [show ((cfg0.win 0).blk t |>.view.emb (ix2 r k)) = ix2 ⟨256 * t.val + r.val, by omega⟩ k by blk_ext [e]]
  rw [show (⟨256 * t.val + r.val, by omega⟩ : Fin 512) = Fin.ofNat 512 (256 * t.val + r.val) from Fin.ext (Nat.mod_eq_of_lt (by omega)).symm]
  entry_read
  rfl

theorem part_g (t : Fin cfg0.N) (k : Fin 1024) : iblk m c 1 t (ix2 0 k) = m ((c : Thread nD τ).loc main_arg1) (ix1 k) := by
  have e := (blocks t).2.1
  unfold iblk
  show V m c main_v2 ((cfg0.win 1).blk t |>.view.emb (ix2 0 k)) = _
  rw [show ((cfg0.win 1).blk t |>.view.emb (ix2 0 k)) = ix2 0 k by blk_ext [e]]
  exact entry_v2 m c k

theorem part_w (t : Fin cfg0.N) (k : Fin 1024) (d : Fin 512) : iblk m c 2 t (ix2 d k) = m ((c : Thread nD τ).loc main_arg2) (ix2 k d) := by
  have e := (blocks t).2.2.1
  unfold iblk
  show V m c main_v1 ((cfg0.win 2).blk t |>.view.emb (ix2 d k)) = _
  rw [show ((cfg0.win 2).blk t |>.view.emb (ix2 d k)) = ix2 d k by blk_ext [e]]
  exact entry_v1 m c k d

/-- The columns of the keys and of the values, a row each. -/
abbrev rows_k (y : Vec Ideal S512x1024 .bf16) : Vec Ideal S256x1024 .bf16 := View.ld y r0_2
abbrev rows_v (y : Vec Ideal S512x1024 .bf16) : Vec Ideal S256x1024 .bf16 := View.ld y r0_4

theorem rows_k_at (y : Vec Ideal S512x1024 .bf16) (d : Fin 256) (k : Fin 1024) : rows_k y (ix2 d k) = y (ix2 ⟨d.val, by omega⟩ k) := by
  refine congrArg y ?_
  funext a
  fin_cases a <;> exact Fin.ext (by simp [r0_2, ix2])

theorem rows_v_at (y : Vec Ideal S512x1024 .bf16) (d : Fin 256) (k : Fin 1024) : rows_v y (ix2 d k) = y (ix2 ⟨256 + d.val, by omega⟩ k) := by
  refine congrArg y ?_
  funext a
  fin_cases a <;> exact Fin.ext (by simp [r0_4, ix2])

/-- The projection of the call's own arguments: a token on a column. -/
def prj (t : ℕ) (e : Fin 512) : EReal :=
  proj (fun k => m ((c : Thread nD τ).loc main_arg0) (ix2 (Fin.ofNat 512 t) k)) (fun k => m ((c : Thread nD τ).loc main_arg1) (ix1 k))
    (fun k => m ((c : Thread nD τ).loc main_arg2) (ix2 k e))

theorem keys_at (t : Fin cfg0.N) (d r : Fin 256) :
    proj (fun j => iblk m c 0 t (ix2 r j)) (fun j => iblk m c 1 t (ix2 0 j)) (fun j => rows_k (iblk m c 2 t) (ix2 d j))
      = prj m c (256 * t.val + r.val) ⟨d.val, by omega⟩ := by
  unfold prj
  simp only [part_x, part_g]
  exact congrArg _ (funext fun j => (rows_k_at _ d j).trans (part_w m c t j _))

theorem values_at (t : Fin cfg0.N) (d r : Fin 256) :
    proj (fun j => iblk m c 0 t (ix2 r j)) (fun j => iblk m c 1 t (ix2 0 j)) (fun j => rows_v (iblk m c 2 t) (ix2 d j))
      = prj m c (256 * t.val + r.val) ⟨256 + d.val, by omega⟩ := by
  unfold prj
  simp only [part_x, part_g]
  exact congrArg _ (funext fun j => (rows_v_at _ d j).trans (part_w m c t j _))

theorem left_3 (t : Fin cfg0.N) : (dats m 0 c).after 3 t = k0_pay4 (iblk m c 0 t) (iblk m c 1 t) (rows_k (iblk m c 2 t)) := by
  rw [after0_3]
  unfold out0_3
  rw [View.canon_cons_unit_zero (S := S1x256x256) zeros3]
  simp only [View.ld_unit_zero (S := S256x1024) zeros, View.ld_unit_zero (S := S1x1024) zeros]

/-- The keys: features by tokens. -/
def res_3 (c : Dev nD) : Buf (Elt Ideal) ((c.tc : Thread nD τ).loc main_v3_0) := fun (i : S2x256x256.Idx) =>
  prj m c (256 * (i 0).val + (i 2).val) ⟨(i 1).val, by have : (i 1).val < 256 := (i 1).isLt; omega⟩

theorem array_3 : (dats m 0 c).arrAt 3 cfg0.N = res_3 m c := by
  refine (dats m 0 c).arrAt_eq_of_covers 3 _ (by decide +kernel) fun t hf y => ?_
  have e : win0_3.index t = ![t.val, 0, 0] := (blocks t).2.2.2.1
  blk_simp [e]
  rw [left_3]
  revert y
  intro (y : S1x256x256.Idx)
  have hy : y = ix3 (y 0) (y 1) (y 2) := by
    funext a
    fin_cases a <;> rfl
  refine (congrArg _ hy).trans ((stored_3 _ _ _ _ _ _).trans ((keys_at m c t (y 1) (y 2)).trans ?_))
  have e0 : ((win0_3.blk t).view.emb y 0).val = t.val := by blk_simp [e]
  have e1 : ((win0_3.blk t).view.emb y 1).val = (y 1).val := by blk_simp [e]
  have e2 : ((win0_3.blk t).view.emb y 2).val = (y 2).val := by blk_simp [e]
  unfold res_3
  simp only [e0, e1, e2]

theorem left_4 (t : Fin cfg0.N) : (dats m 0 c).after 4 t = k0_pay7 (iblk m c 0 t) (iblk m c 1 t) (rows_v (iblk m c 2 t)) := by
  rw [after0_4]
  unfold out0_4
  rw [View.canon_cons_unit_zero (S := S1x256x256) zeros3]
  simp only [View.ld_unit_zero (S := S256x1024) zeros, View.ld_unit_zero (S := S1x1024) zeros]

/-- The values: features by tokens. -/
def res_4 (c : Dev nD) : Buf (Elt Ideal) ((c.tc : Thread nD τ).loc main_v3_1) := fun (i : S2x256x256.Idx) =>
  prj m c (256 * (i 0).val + (i 2).val) ⟨256 + (i 1).val, by have : (i 1).val < 256 := (i 1).isLt; omega⟩

theorem array_4 : (dats m 0 c).arrAt 4 cfg0.N = res_4 m c := by
  refine (dats m 0 c).arrAt_eq_of_covers 4 _ (by decide +kernel) fun t hf y => ?_
  have e : win0_4.index t = ![t.val, 0, 0] := (blocks t).2.2.2.2.1
  blk_simp [e]
  rw [left_4]
  revert y
  intro (y : S1x256x256.Idx)
  have hy : y = ix3 (y 0) (y 1) (y 2) := by
    funext a
    fin_cases a <;> rfl
  refine (congrArg _ hy).trans ((stored_4 _ _ _ _ _ _).trans ((values_at m c t (y 1) (y 2)).trans ?_))
  have e0 : ((win0_4.blk t).view.emb y 0).val = t.val := by blk_simp [e]
  have e1 : ((win0_4.blk t).view.emb y 1).val = (y 1).val := by blk_simp [e]
  have e2 : ((win0_4.blk t).view.emb y 2).val = (y 2).val := by blk_simp [e]
  unfold res_4
  simp only [e0, e1, e2]

theorem left_5 (t : Fin cfg0.N) : (dats m 0 c).after 5 t = k0_pay5 (iblk m c 0 t) (iblk m c 1 t) (rows_k (iblk m c 2 t)) := by
  rw [after0_5]
  unfold out0_5
  rw [View.canon_cons_unit_zero (S := S1x256x256) zeros3]
  simp only [View.ld_unit_zero (S := S256x1024) zeros, View.ld_unit_zero (S := S1x1024) zeros]

/-- The keys again, in the narrow type: features by tokens. -/
def res_5 (c : Dev nD) : Buf (Elt Ideal) ((c.tc : Thread nD τ).loc main_v3_2) := fun (i : S2x256x256.Idx) =>
  prj m c (256 * (i 0).val + (i 2).val) ⟨(i 1).val, by have : (i 1).val < 256 := (i 1).isLt; omega⟩

theorem array_5 : (dats m 0 c).arrAt 5 cfg0.N = res_5 m c := by
  refine (dats m 0 c).arrAt_eq_of_covers 5 _ (by decide +kernel) fun t hf y => ?_
  have e : win0_5.index t = ![t.val, 0, 0] := (blocks t).2.2.2.2.2.1
  blk_simp [e]
  rw [left_5]
  revert y
  intro (y : S1x256x256.Idx)
  have hy : y = ix3 (y 0) (y 1) (y 2) := by
    funext a
    fin_cases a <;> rfl
  refine (congrArg _ hy).trans ((stored_5 _ _ _ _ _ _).trans ((keys_at m c t (y 1) (y 2)).trans ?_))
  have e0 : ((win0_5.blk t).view.emb y 0).val = t.val := by blk_simp [e]
  have e1 : ((win0_5.blk t).view.emb y 1).val = (y 1).val := by blk_simp [e]
  have e2 : ((win0_5.blk t).view.emb y 2).val = (y 2).val := by blk_simp [e]
  unfold res_5
  simp only [e0, e1, e2]

theorem left_6 (t : Fin cfg0.N) : (dats m 0 c).after 6 t = k0_pay1 (k0_pay8 (iblk m c 0 t) (iblk m c 1 t) (rows_v (iblk m c 2 t))) := by
  rw [after0_6]
  unfold out0_6
  rw [View.canon_cons_unit_zero (S := S1x256x256) zeros3]
  simp only [View.ld_unit_zero (S := S256x1024) zeros, View.ld_unit_zero (S := S1x1024) zeros]

/-- The values again, in the narrow type: features by tokens. -/
def res_6 (c : Dev nD) : Buf (Elt Ideal) ((c.tc : Thread nD τ).loc main_v3_3) := fun (i : S2x256x256.Idx) =>
  prj m c (256 * (i 0).val + (i 2).val) ⟨256 + (i 1).val, by have : (i 1).val < 256 := (i 1).isLt; omega⟩

theorem array_6 : (dats m 0 c).arrAt 6 cfg0.N = res_6 m c := by
  refine (dats m 0 c).arrAt_eq_of_covers 6 _ (by decide +kernel) fun t hf y => ?_
  have e : win0_6.index t = ![t.val, 0, 0] := (blocks t).2.2.2.2.2.2
  blk_simp [e]
  rw [left_6]
  revert y
  intro (y : S1x256x256.Idx)
  have hy : y = ix3 (y 0) (y 1) (y 2) := by
    funext a
    fin_cases a <;> rfl
  refine (congrArg _ hy).trans ((stored_6 _ _ _ _ _ _).trans ((values_at m c t (y 1) (y 2)).trans ?_))
  have e0 : ((win0_6.blk t).view.emb y 0).val = t.val := by blk_simp [e]
  have e1 : ((win0_6.blk t).view.emb y 1).val = (y 1).val := by blk_simp [e]
  have e2 : ((win0_6.blk t).view.emb y 2).val = (y 2).val := by blk_simp [e]
  unfold res_6
  simp only [e0, e1, e2]

end Cert.Proof.MK
-- ==== Proof.MK.Ref.lean ====
/- The plain projection of the memory's tokens, read at an index. -/
module

public import proofs.«01_k».proof.Proof.MK.Read
public import proofs.«01_k».proof.Proof.Gen.Reference5Ideal.Read
public import Idealize.ShloMosaic.Lib.Pointwise

@[expose] public section

set_option maxRecDepth 16384

noncomputable section

namespace Cert.Proof.MK.Ref

open Cert.Reference5Ideal Cert.Reference5Ideal.Read
open Idealize.ShloMosaic

variable (x : FVec Ideal S512x1024 .f32) (g : FVec Ideal S1024 .f32) (w : FVec Ideal S1024x512 .f32)

theorem hid_at (t : Fin 512) (k : Fin 1024) : val_main_v12 (F := Ideal) x g (ix2 t k)
    = x (ix2 t k) * PJ.scale (fun j => x (ix2 t j)) * g (ix1 k) := by
  unfold PJ.scale
  unfold val_main_v12 val_main_v11 val_main_v10 val_main_v9 val_main_v8 val_main_v7 val_main_v6 val_main_v5 val_main_v4 val_main_v3 val_main_v2 val_main_v1 val_main_v0 val_main_cst val_main_cst_0 val_main_cst_1
  pointwise

theorem proj_at (t : Fin 512) (e : Fin 512) : val_main_v13 (F := Ideal) x g w (ix2 t e)
    = proj (fun k => x (ix2 t k)) (fun k => g (ix1 k)) (fun k => w (ix2 k e)) := by
  unfold proj val_main_v13
  simp only [← hid_at]
  generalize val_main_v12 (F := Ideal) x g = h
  pointwise

/-- A token's number, from its batch and its place. -/
def tok (b : Fin 2) (s : Fin 256) : Fin 512 := ⟨b.val * 256 + s.val, by omega⟩

theorem at_17 (b : Fin 2) (d s : Fin 256) : val_main_v17 (F := Ideal) x g w (ix3 b d s)
    = proj (fun k => x (ix2 (tok b s) k)) (fun k => g (ix1 k)) (fun k => w (ix2 k ⟨d.val, by omega⟩)) := by
  refine Eq.trans ?_ (proj_at x g w (tok b s) ⟨d.val, by omega⟩)
  unfold tok val_main_v17 val_main_v16 val_main_v14
  generalize val_main_v13 (F := Ideal) x g w = y
  pointwise

theorem at_19 (b : Fin 2) (d s : Fin 256) : val_main_v19 (F := Ideal) x g w (ix3 b d s)
    = proj (fun k => x (ix2 (tok b s) k)) (fun k => g (ix1 k)) (fun k => w (ix2 k ⟨256 + d.val, by omega⟩)) := by
  refine Eq.trans ?_ (proj_at x g w (tok b s) ⟨256 + d.val, by omega⟩)
  unfold tok val_main_v19 val_main_v18 val_main_v15
  generalize val_main_v13 (F := Ideal) x g w = y
  pointwise

theorem at_20 (b : Fin 2) (d s : Fin 256) : val_main_v20 (F := Ideal) x g w (ix3 b d s)
    = proj (fun k => x (ix2 (tok b s) k)) (fun k => g (ix1 k)) (fun k => w (ix2 k ⟨d.val, by omega⟩)) := by
  refine Eq.trans ?_ (proj_at x g w (tok b s) ⟨d.val, by omega⟩)
  unfold tok val_main_v20 val_main_v17 val_main_v16 val_main_v14
  generalize val_main_v13 (F := Ideal) x g w = y
  pointwise

theorem at_21 (b : Fin 2) (d s : Fin 256) : val_main_v21 (F := Ideal) x g w (ix3 b d s)
    = proj (fun k => x (ix2 (tok b s) k)) (fun k => g (ix1 k)) (fun k => w (ix2 k ⟨256 + d.val, by omega⟩)) := by
  refine Eq.trans ?_ (proj_at x g w (tok b s) ⟨256 + d.val, by omega⟩)
  unfold tok val_main_v21 val_main_v19 val_main_v18 val_main_v15
  generalize val_main_v13 (F := Ideal) x g w = y
  pointwise

end Cert.Proof.MK.Ref
-- ==== Proof.MK.Same.lean ====
/- The results of the memory's projection are the plain projection's. -/
module

public import proofs.«01_k».proof.Defs
public import proofs.«01_k».proof.Proof.MK.Out
public import proofs.«01_k».proof.Proof.MK.Ref
public import proofs.«01_k».proof.Proof.Gen.Reference5Ideal.Run

@[expose] public section

noncomputable section

namespace Cert.Proof.MK

open Cert.Kernel5Ideal Cert.Kernel5Ideal.Gen
open Idealize.ShloMosaic Idealize.ShloMosaic.TcCoe Idealize.SL.Sem
open Cert.Reference5Ideal.Read

variable (m : (ℓ : Loc nD τ sig) → Buf (Elt Ideal) ℓ) (c : Dev nD)

theorem tok_eq (b : Fin 2) (s : Fin 256) : Ref.tok b s = Fin.ofNat 512 (256 * b.val + s.val) :=
  Fin.ext (by
    show b.val * 256 + s.val = (256 * b.val + s.val) % 512
    rw [Nat.mod_eq_of_lt (by omega)]
    omega)

theorem link_3 (x : FVec Ideal S512x1024 .f32) (g : FVec Ideal S1024 .f32) (w : FVec Ideal S1024x512 .f32)
    (a0 : x = m ((c : Thread nD τ).loc main_arg0)) (a1 : g = m ((c : Thread nD τ).loc main_arg1)) (a2 : w = m ((c : Thread nD τ).loc main_arg2)) :
    val_main_v17 (F := Ideal) x g w = res_3 m c := by
  rw [a0, a1, a2]
  funext (i : S2x256x256.Idx)
  have hi : i = ix3 (i 0) (i 1) (i 2) := by
    funext a
    fin_cases a <;> rfl
  refine (congrArg _ hi).trans ((Ref.at_17 _ _ _ (i 0) (i 1) (i 2)).trans ?_)
  exact congrArg (fun z : Fin 512 => proj (fun k => m ((c : Thread nD τ).loc main_arg0) (ix2 z k)) _ _) (tok_eq (i 0) (i 2))

theorem link_4 (x : FVec Ideal S512x1024 .f32) (g : FVec Ideal S1024 .f32) (w : FVec Ideal S1024x512 .f32)
    (a0 : x = m ((c : Thread nD τ).loc main_arg0)) (a1 : g = m ((c : Thread nD τ).loc main_arg1)) (a2 : w = m ((c : Thread nD τ).loc main_arg2)) :
    val_main_v19 (F := Ideal) x g w = res_4 m c := by
  rw [a0, a1, a2]
  funext (i : S2x256x256.Idx)
  have hi : i = ix3 (i 0) (i 1) (i 2) := by
    funext a
    fin_cases a <;> rfl
  refine (congrArg _ hi).trans ((Ref.at_19 _ _ _ (i 0) (i 1) (i 2)).trans ?_)
  exact congrArg (fun z : Fin 512 => proj (fun k => m ((c : Thread nD τ).loc main_arg0) (ix2 z k)) _ _) (tok_eq (i 0) (i 2))

theorem link_5 (x : FVec Ideal S512x1024 .f32) (g : FVec Ideal S1024 .f32) (w : FVec Ideal S1024x512 .f32)
    (a0 : x = m ((c : Thread nD τ).loc main_arg0)) (a1 : g = m ((c : Thread nD τ).loc main_arg1)) (a2 : w = m ((c : Thread nD τ).loc main_arg2)) :
    val_main_v20 (F := Ideal) x g w = res_5 m c := by
  rw [a0, a1, a2]
  funext (i : S2x256x256.Idx)
  have hi : i = ix3 (i 0) (i 1) (i 2) := by
    funext a
    fin_cases a <;> rfl
  refine (congrArg _ hi).trans ((Ref.at_20 _ _ _ (i 0) (i 1) (i 2)).trans ?_)
  exact congrArg (fun z : Fin 512 => proj (fun k => m ((c : Thread nD τ).loc main_arg0) (ix2 z k)) _ _) (tok_eq (i 0) (i 2))

theorem link_6 (x : FVec Ideal S512x1024 .f32) (g : FVec Ideal S1024 .f32) (w : FVec Ideal S1024x512 .f32)
    (a0 : x = m ((c : Thread nD τ).loc main_arg0)) (a1 : g = m ((c : Thread nD τ).loc main_arg1)) (a2 : w = m ((c : Thread nD τ).loc main_arg2)) :
    val_main_v21 (F := Ideal) x g w = res_6 m c := by
  rw [a0, a1, a2]
  funext (i : S2x256x256.Idx)
  have hi : i = ix3 (i 0) (i 1) (i 2) := by
    funext a
    fin_cases a <;> rfl
  refine (congrArg _ hi).trans ((Ref.at_21 _ _ _ (i 0) (i 1) (i 2)).trans ?_)
  exact congrArg (fun z : Fin 512 => proj (fun k => m ((c : Thread nD τ).loc main_arg0) (ix2 z k)) _ _) (tok_eq (i 0) (i 2))

/-- Every result of the kernel is the plain projection's. -/
theorem same : algebraic_Kernel5Ideal_Reference5Ideal := fun m g m' g' _ hag =>
  ⟨res_3 m, res_4 m, res_5 m, res_6 m,
    (θ_run _ _ _).mono (fun r h c => by
      obtain ⟨h3, h4, h5, h6, hargs⟩ := h c
      exact ⟨h3.trans (array_3 m c), h4.trans (array_4 m c), h5.trans (array_5 m c), h6.trans (array_6 m c), hargs⟩)
      (Cert.Kernel5Ideal.Value.run_blocks (F := Ideal) m g),
    (θ_run _ _ _).mono (fun r h c => by
      obtain ⟨h3, h4, h5, h6, hargs⟩ := h c
      obtain ⟨a0, a1, a2⟩ := hag c
      exact ⟨(h3.trans (val_main_v17_eq _ _ _)).trans (link_3 m c _ _ _ a0 a1 a2), (h4.trans (val_main_v19_eq _ _ _)).trans (link_4 m c _ _ _ a0 a1 a2),
        (h5.trans (val_main_v20_eq _ _ _)).trans (link_5 m c _ _ _ a0 a1 a2), (h6.trans (val_main_v21_eq _ _ _)).trans (link_6 m c _ _ _ a0 a1 a2), hargs⟩)
      (Cert.Reference5Ideal.Value.run (F := Ideal) m' g')⟩

end Cert.Proof.MK
-- ==== Proof.SP.Stores.lean ====
/- What the point of the projection of the sampled tokens leaves in each output's block. -/
module

public import proofs.«01_k».proof.Proof.Gen.Kernel6Ideal.Frame
public import Idealize.ShloMosaic.Lib.Pipeline.ValueKit

@[expose] public section

set_option maxRecDepth 16384

noncomputable section

namespace Cert.Proof.SP

open Cert.Kernel6Ideal Cert.Kernel6Ideal.Gen
open Idealize.ShloMosaic Idealize.ShloMosaic.TcCoe Idealize.SL.Sem

variable (m : (ℓ : Loc nD τ sig) → Buf (Elt Ideal) ℓ) (c : Dev nD) (t : Fin cfg0.N)

theorem hz2 : (![0, 0] : Fin 2 → ℕ) = fun _ => 0 := by decide
theorem hz3 : (![0, 0, 0] : Fin 3 → ℕ) = fun _ => 0 := by decide

theorem left_4 : (dats m 0 c).after 4 t = k0_pay3 (iblk m c 0 t) (iblk m c 1 t) (View.ld (iblk m c 3 t) (Rect.unit (s := S1920x1024) ![0, 0] S384x1024.size inb_S1920x1024_S384x1024_0_0)) := by
  rw [after0_4]
  unfold outsAt0
  dsimp only
  unfold out0_A_4
  rw [View.read_writes_eq_canon _ _ _ (cover0_A_4 _ _ _ _ _ _ _ _ _ _ _ _ _ _ _ _ _ _ _ _ _ _ _ _ _ _ _ _ _ _ _ _ _ _)]
  unfold kernelRun0_A
  dsimp only
  sl_unfold_words
  rw [View.canon_cons_unit_zero (S := S1x384x128) hz3]
  simp only [View.readAt_eq_ld, (hs0_0 t).read_unread, (hs0_1 t).read_unread, (hs0_2 t).read_unread, (hs0_3 t).read_unread,
    View.ld_unit_zero (S := S128x1024) hz2, View.ld_unit_zero (S := S1x1024) hz2]
  rfl

theorem left_5 : (dats m 0 c).after 5 t = k0_pay4 (iblk m c 0 t) (iblk m c 1 t) (View.ld (iblk m c 3 t) (Rect.unit (s := S1920x1024) ![384, 0] S384x1024.size inb_S1920x1024_S384x1024_384_0)) := by
  rw [after0_5]
  unfold outsAt0
  dsimp only
  unfold out0_A_5
  rw [View.read_writes_eq_canon _ _ _ (cover0_A_5 _ _ _ _ _ _ _ _ _ _ _ _ _ _ _ _ _ _ _ _ _ _ _ _ _ _ _ _ _ _ _ _ _ _)]
  unfold kernelRun0_A
  dsimp only
  sl_unfold_words
  rw [View.canon_cons_unit_zero (S := S1x384x128) hz3]
  simp only [View.readAt_eq_ld, (hs0_0 t).read_unread, (hs0_1 t).read_unread, (hs0_2 t).read_unread, (hs0_3 t).read_unread,
    View.ld_unit_zero (S := S128x1024) hz2, View.ld_unit_zero (S := S1x1024) hz2]
  rfl

theorem left_6 : (dats m 0 c).after 6 t = k0_pay6 (k0_pay5 (iblk m c 0 t) (iblk m c 1 t) (View.ld (iblk m c 3 t) (Rect.unit (s := S1920x1024) ![768, 0] S384x1024.size inb_S1920x1024_S384x1024_768_0))) := by
  rw [after0_6]
  unfold outsAt0
  dsimp only
  unfold out0_A_6
  rw [View.read_writes_eq_canon _ _ _ (cover0_A_6 _ _ _ _ _ _ _ _ _ _ _ _ _ _ _ _ _ _ _ _ _ _ _ _ _ _ _ _ _ _ _ _ _ _)]
  unfold kernelRun0_A
  dsimp only
  sl_unfold_words
  rw [View.canon_cons_unit_zero (S := S1x384x128) hz3]
  simp only [View.readAt_eq_ld, (hs0_0 t).read_unread, (hs0_1 t).read_unread, (hs0_2 t).read_unread, (hs0_3 t).read_unread,
    View.ld_unit_zero (S := S128x1024) hz2, View.ld_unit_zero (S := S1x1024) hz2]
  rfl

theorem left_7 : (dats m 0 c).after 7 t = k0_pay7 (k0_pay2 (iblk m c 0 t) (iblk m c 1 t)) (View.ld (iblk m c 3 t) (Rect.unit (s := S1920x1024) ![1152, 0] S384x1024.size inb_S1920x1024_S384x1024_1152_0)) := by
  rw [after0_7]
  unfold outsAt0
  dsimp only
  unfold out0_A_7
  rw [View.read_writes_eq_canon _ _ _ (cover0_A_7 _ _ _ _ _ _ _ _ _ _ _ _ _ _ _ _ _ _ _ _ _ _ _ _ _ _ _ _ _ _ _ _ _ _)]
  unfold kernelRun0_A
  dsimp only
  sl_unfold_words
  rw [View.canon_cons_unit_zero (S := S1x384x128) hz3]
  simp only [View.readAt_eq_ld, (hs0_0 t).read_unread, (hs0_1 t).read_unread, (hs0_2 t).read_unread, (hs0_3 t).read_unread,
    View.ld_unit_zero (S := S128x1024) hz2, View.ld_unit_zero (S := S1x1024) hz2]
  rfl

theorem left_8 : (dats m 0 c).after 8 t = k0_pay8 (k0_pay2 (iblk m c 0 t) (iblk m c 1 t)) (View.ld (iblk m c 2 t) (Rect.unit (s := S1024x3584) ![0, 1920] S1024x384.size inb_S1024x3584_S1024x384_0_1920)) := by
  rw [after0_8]
  unfold outsAt0
  dsimp only
  unfold out0_A_8
  rw [View.read_writes_eq_canon _ _ _ (cover0_A_8 _ _ _ _ _ _ _ _ _ _ _ _ _ _ _ _ _ _ _ _ _ _ _ _ _ _ _ _ _ _ _ _ _ _)]
  unfold kernelRun0_A
  dsimp only
  sl_unfold_words
  rw [View.canon_cons_unit_zero (S := S128x384) hz2]
  simp only [View.readAt_eq_ld, (hs0_0 t).read_unread, (hs0_1 t).read_unread, (hs0_2 t).read_unread, (hs0_3 t).read_unread,
    View.ld_unit_zero (S := S128x1024) hz2, View.ld_unit_zero (S := S1x1024) hz2]
  rfl

theorem left_9 : (dats m 0 c).after 9 t = k0_pay9 (k0_pay2 (iblk m c 0 t) (iblk m c 1 t)) (View.ld (iblk m c 2 t) (Rect.unit (s := S1024x3584) ![0, 2304] S1024x384.size inb_S1024x3584_S1024x384_0_2304)) := by
  rw [after0_9]
  unfold outsAt0
  dsimp only
  unfold out0_A_9
  rw [View.read_writes_eq_canon _ _ _ (cover0_A_9 _ _ _ _ _ _ _ _ _ _ _ _ _ _ _ _ _ _ _ _ _ _ _ _ _ _ _ _ _ _ _ _ _ _)]
  unfold kernelRun0_A
  dsimp only
  sl_unfold_words
  rw [View.canon_cons_unit_zero (S := S128x384) hz2]
  simp only [View.readAt_eq_ld, (hs0_0 t).read_unread, (hs0_1 t).read_unread, (hs0_2 t).read_unread, (hs0_3 t).read_unread,
    View.ld_unit_zero (S := S128x1024) hz2, View.ld_unit_zero (S := S1x1024) hz2]
  rfl

theorem left_10 : (dats m 0 c).after 10 t = k0_pay10 (k0_pay2 (iblk m c 0 t) (iblk m c 1 t)) (View.ld (iblk m c 2 t) (Rect.unit (s := S1024x3584) ![0, 0] S1024x384.size inb_S1024x3584_S1024x384_0_0)) := by
  rw [after0_10]
  unfold outsAt0
  dsimp only
  unfold out0_A_10
  rw [View.read_writes_eq_canon _ _ _ (cover0_A_10 _ _ _ _ _ _ _ _ _ _ _ _ _ _ _ _ _ _ _ _ _ _ _ _ _ _ _ _ _ _ _ _ _ _)]
  unfold kernelRun0_A
  dsimp only
  sl_unfold_words
  rw [View.canon_cons_unit_zero (S := S128x384) hz2]
  simp only [View.readAt_eq_ld, (hs0_0 t).read_unread, (hs0_1 t).read_unread, (hs0_2 t).read_unread, (hs0_3 t).read_unread,
    View.ld_unit_zero (S := S128x1024) hz2, View.ld_unit_zero (S := S1x1024) hz2]
  rfl

theorem left_11 : (dats m 0 c).after 11 t = k0_pay11 (k0_pay2 (iblk m c 0 t) (iblk m c 1 t)) (View.ld (iblk m c 2 t) (Rect.unit (s := S1024x3584) ![0, 1536] S1024x384.size inb_S1024x3584_S1024x384_0_1536)) := by
  rw [after0_11]
  unfold outsAt0
  dsimp only
  unfold out0_A_11
  rw [View.read_writes_eq_canon _ _ _ (cover0_A_11 _ _ _ _ _ _ _ _ _ _ _ _ _ _ _ _ _ _ _ _ _ _ _ _ _ _ _ _ _ _ _ _ _ _)]
  unfold kernelRun0_A
  dsimp only
  sl_unfold_words
  rw [View.canon_cons_unit_zero (S := S128x384) hz2]
  simp only [View.readAt_eq_ld, (hs0_0 t).read_unread, (hs0_1 t).read_unread, (hs0_2 t).read_unread, (hs0_3 t).read_unread,
    View.ld_unit_zero (S := S128x1024) hz2, View.ld_unit_zero (S := S1x1024) hz2]
  rfl

theorem left_12 : (dats m 0 c).after 12 t = k0_pay12 (k0_pay2 (iblk m c 0 t) (iblk m c 1 t)) (View.ld (iblk m c 2 t) (Rect.unit (s := S1024x3584) ![0, 3072] S1024x256.size inb_S1024x3584_S1024x256_0_3072)) := by
  rw [after0_12]
  unfold outsAt0
  dsimp only
  unfold out0_A_12
  rw [View.read_writes_eq_canon _ _ _ (cover0_A_12 _ _ _ _ _ _ _ _ _ _ _ _ _ _ _ _ _ _ _ _ _ _ _ _ _ _ _ _ _ _ _ _ _ _)]
  unfold kernelRun0_A
  dsimp only
  sl_unfold_words
  rw [View.canon_cons_unit_zero (S := S128x256) hz2]
  simp only [View.readAt_eq_ld, (hs0_0 t).read_unread, (hs0_1 t).read_unread, (hs0_2 t).read_unread, (hs0_3 t).read_unread,
    View.ld_unit_zero (S := S128x1024) hz2, View.ld_unit_zero (S := S1x1024) hz2]
  rfl

theorem left_13 : (dats m 0 c).after 13 t = View.canon
    [(⟨Rect.unit (s := S128x1024) ![0, 768] S128x256.size inb_S128x1024_S128x256_0_768, k0_pay1 (k0_pay2 (iblk m c 0 t) (iblk m c 1 t)) (k0_pay15 (View.ld (iblk m c 2 t) (Rect.unit (s := S1024x3584) ![0, 3328] S1024x256.size inb_S1024x3584_S1024x256_0_3328)))⟩ : View.Piece (Elt Ideal) S128x1024 .f32),
     ⟨Rect.unit (s := S128x1024) ![0, 384] S128x384.size inb_S128x1024_S128x384_0_384, k0_pay14 (k0_pay2 (iblk m c 0 t) (iblk m c 1 t)) (View.ld (iblk m c 2 t) (Rect.unit (s := S1024x3584) ![0, 2688] S1024x384.size inb_S1024x3584_S1024x384_0_2688))⟩,
     ⟨Rect.unit (s := S128x1024) ![0, 0] S128x384.size inb_S128x1024_S128x384_0_0, k0_pay13 (k0_pay2 (iblk m c 0 t) (iblk m c 1 t)) (View.ld (iblk m c 2 t) (Rect.unit (s := S1024x3584) ![0, 1152] S1024x384.size inb_S1024x3584_S1024x384_0_1152))⟩] := by
  rw [after0_13]
  unfold outsAt0
  dsimp only
  unfold out0_A_13
  rw [View.read_writes_eq_canon _ _ _ (cover0_A_13 _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    View.ld_unit_zero (S := S128x1024) hz2, View.ld_unit_zero (S := S1x1024) hz2]
  rfl

end Cert.Proof.SP
-- ==== Proof.SP.Read.lean ====
/- What the projection of the sampled tokens computes, read at an index over the extended reals. -/
module

public import proofs.«01_k».proof.Proof.Gen.Kernel6Ideal.Skeleton
public import proofs.«01_k».proof.Proof.PJ.Read

@[expose] public section

set_option maxRecDepth 16384

noncomputable section

namespace Cert.Proof.SP

open Cert.Kernel6Ideal Cert.Kernel6Ideal.Gen
open Idealize.ShloMosaic
open PJ (scale gate eighth)

/-- The hidden state of a row. -/
theorem hidden_apply (x : Vec Ideal S128x1024 .f32) (g : Vec Ideal S1x1024 .f32) (r : Fin 128) (k : Fin 1024) :
    k0_pay2 x g (ix2 r k) = x (ix2 r k) * scale (fun j => x (ix2 r j)) * g (ix2 0 k) := by
  unfold k0_pay2
  pointwise
  rfl

theorem cols3_apply (x : Vec Ideal S128x1024 .f32) (g : Vec Ideal S1x1024 .f32) (w : Vec Ideal S384x1024 .bf16) (u : Fin 1) (d : Fin 384) (r : Fin 128) :
    k0_pay3 x g w (ix3 u d r) = ∑ k : Fin 1024, w (ix2 d k) * k0_pay2 x g (ix2 r k) := by
  unfold k0_pay3
  generalize k0_pay2 x g = h
  pointwise

theorem cols4_apply (x : Vec Ideal S128x1024 .f32) (g : Vec Ideal S1x1024 .f32) (w : Vec Ideal S384x1024 .bf16) (u : Fin 1) (d : Fin 384) (r : Fin 128) :
    k0_pay4 x g w (ix3 u d r) = ∑ k : Fin 1024, w (ix2 d k) * k0_pay2 x g (ix2 r k) := by
  unfold k0_pay4
  generalize k0_pay2 x g = h
  pointwise

theorem cols5_apply (x : Vec Ideal S128x1024 .f32) (g : Vec Ideal S1x1024 .f32) (w : Vec Ideal S384x1024 .bf16) (u : Fin 1) (d : Fin 384) (r : Fin 128) :
    k0_pay6 (k0_pay5 x g w) (ix3 u d r) = ∑ k : Fin 1024, w (ix2 d k) * k0_pay2 x g (ix2 r k) := by
  unfold k0_pay6 k0_pay5
  generalize k0_pay2 x g = h
  pointwise

theorem cols7_apply (h : Vec Ideal S128x1024 .bf16) (w : Vec Ideal S384x1024 .bf16) (u : Fin 1) (d : Fin 384) (r : Fin 128) :
    k0_pay7 h w (ix3 u d r) = ∑ k : Fin 1024, w (ix2 d k) * h (ix2 r k) := by
  unfold k0_pay7
  pointwise

theorem rows8_apply (h : Vec Ideal S128x1024 .bf16) (w : Vec Ideal S1024x384 .bf16) (r : Fin 128) (d : Fin 384) :
    k0_pay8 h w (ix2 r d) = ∑ k : Fin 1024, h (ix2 r k) * w (ix2 k d) := by
  unfold k0_pay8
  pointwise

theorem rows9_apply (h : Vec Ideal S128x1024 .bf16) (w : Vec Ideal S1024x384 .bf16) (r : Fin 128) (d : Fin 384) :
    k0_pay9 h w (ix2 r d) = ∑ k : Fin 1024, h (ix2 r k) * w (ix2 k d) := by
  unfold k0_pay9
  pointwise

theorem rows11_apply (h : Vec Ideal S128x1024 .bf16) (w : Vec Ideal S1024x384 .bf16) (r : Fin 128) (d : Fin 384) :
    k0_pay11 h w (ix2 r d) = ∑ k : Fin 1024, h (ix2 r k) * w (ix2 k d) := by
  unfold k0_pay11
  pointwise

theorem rows10_apply (h : Vec Ideal S128x1024 .bf16) (w : Vec Ideal S1024x384 .bf16) (r : Fin 128) (d : Fin 384) :
    k0_pay10 h w (ix2 r d) = (∑ k : Fin 1024, h (ix2 r k) * w (ix2 k d)) * eighth := by
  unfold k0_pay10
  pointwise
  rfl

theorem rows12_apply (h : Vec Ideal S128x1024 .bf16) (w : Vec Ideal S1024x256 .bf16) (r : Fin 128) (d : Fin 256) :
    k0_pay12 h w (ix2 r d) = (∑ k : Fin 1024, h (ix2 r k) * w (ix2 k d)) * eighth := by
  unfold k0_pay12
  pointwise
  rfl

theorem rows13_apply (h : Vec Ideal S128x1024 .bf16) (w : Vec Ideal S1024x384 .bf16) (r : Fin 128) (d : Fin 384) :
    k0_pay13 h w (ix2 r d) = gate (∑ k : Fin 1024, h (ix2 r k) * w (ix2 k d)) := by
  unfold k0_pay13
  pointwise
  rfl

theorem rows14_apply (h : Vec Ideal S128x1024 .bf16) (w : Vec Ideal S1024x384 .bf16) (r : Fin 128) (d : Fin 384) :
    k0_pay14 h w (ix2 r d) = gate (∑ k : Fin 1024, h (ix2 r k) * w (ix2 k d)) := by
  unfold k0_pay14
  pointwise
  rfl

theorem rows1_apply (h : Vec Ideal S128x1024 .bf16) (w : Vec Ideal S1024x256 .bf16) (r : Fin 128) (d : Fin 256) :
    k0_pay1 h (k0_pay15 w) (ix2 r d) = gate (∑ k : Fin 1024, h (ix2 r k) * w (ix2 k d)) := by
  unfold k0_pay1 k0_pay15
  pointwise
  rfl

end Cert.Proof.SP
-- ==== Proof.SP.Blocks.lean ====
/- What the windows of the projection of the sampled tokens hold, read off the arguments. -/
module

public import proofs.«01_k».proof.Proof.SP.Stores
public import proofs.«01_k».proof.Proof.SP.Read

@[expose] public section

set_option maxRecDepth 16384

noncomputable section

namespace Cert.Proof.SP

open Cert.Kernel6Ideal Cert.Kernel6Ideal.Gen
open Idealize.ShloMosaic Idealize.ShloMosaic.TcCoe Idealize.SL.Sem
open PJ (scale gate eighth)

variable (m : (ℓ : Loc nD τ sig) → Buf (Elt Ideal) ℓ) (c : Dev nD)

/-- A token's hidden state: its row normalised and weighted. -/
def hid (x : S128x1024.Idx → EReal) (g : S1024.Idx → EReal) (t : ℕ) (k : Fin 1024) : EReal :=
  x (ix2 (Fin.ofNat 128 t) k) * scale (fun j => x (ix2 (Fin.ofNat 128 t) j)) * g (ix1 k)

/-- A token's projection on a column of the weights. -/
def proj (x : S128x1024.Idx → EReal) (g : S1024.Idx → EReal) (w : S1024x3584.Idx → EReal) (t e : ℕ) : EReal :=
  ∑ k : Fin 1024, hid x g t k * w (ix2 k (Fin.ofNat 3584 e))

/-- The block each window names at the one point. -/
theorem blocks : ∀ t : Fin cfg0.N,
    win0_0.index t = ![t.val, 0] ∧ win0_1.index t = ![0, 0] ∧ win0_2.index t = ![0, 0] ∧ win0_3.index t = ![0, 0]
    ∧ win0_4.index t = ![t.val, 0, 0] ∧ win0_5.index t = ![t.val, 0, 0] ∧ win0_6.index t = ![t.val, 0, 0] ∧ win0_7.index t = ![t.val, 0, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] := by
  decide +kernel

theorem pt_lt (t : Fin cfg0.N) : t.val < 1 := t.isLt

theorem entry_v9 (k : Fin 1024) : V m c main_v9 (ix2 0 k) = m ((c : Thread nD τ).loc main_arg1) (ix1 k) := by
  entry_read
  pointwise

theorem entry_v0 (k : Fin 1024) (e : Fin 3584) : V m c main_v0 (ix2 k e) = m ((c : Thread nD τ).loc main_arg2) (ix2 k e) := by
  entry_read
  pointwise

/-- The weights of the token-minor outputs, one column of the projection per row: five groups of columns, one after another. -/
def weightT (w : FVec Ideal S1024x3584 .f32) : FVec Ideal S1920x1024 .bf16 :=
  truncf .bf16 (transpose S1920x1024 [1, 0] (concatenate S1024x1920 1 [
    ⟨S1024x384, extractStridedSlice S1024x384 ![0, 384] w slices_S1024x3584_S1024x384_0_384⟩,
    ⟨S1024x384, extractStridedSlice S1024x384 ![0, 768] w slices_S1024x3584_S1024x384_0_768⟩,
    ⟨S1024x384, extractStridedSlice S1024x384 ![0, 1920] w slices_S1024x3584_S1024x384_0_1920⟩,
    ⟨S1024x384, extractStridedSlice S1024x384 ![0, 2304] w slices_S1024x3584_S1024x384_0_2304⟩,
    ⟨S1024x384, extractStridedSlice S1024x384 ![0, 1536] w slices_S1024x3584_S1024x384_0_1536⟩]
    concatenates_S1024x384_S1024x384_S1024x384_S1024x384_S1024x384_S1024x1920_d1) transposes_S1024x1920_S1920x1024_1_0) bitsLt_bf16_f32

theorem entry_v8 : V m c main_v8 = weightT (m ((c : Thread nD τ).loc main_arg2)) := by
  rfl

theorem weightT_0 (w : FVec Ideal S1024x3584 .f32) (d : Fin 384) (k : Fin 1024) :
    weightT w (ix2 ⟨0 + d.val, by omega⟩ k) = w (ix2 k ⟨384 + d.val, by omega⟩) := by
  unfold weightT
  pointwise
  try (split_ifs <;> first | omega | exact congrArg (fun e => w (ix2 k e)) (Fin.ext (by simp only; omega)))

theorem weightT_384 (w : FVec Ideal S1024x3584 .f32) (d : Fin 384) (k : Fin 1024) :
    weightT w (ix2 ⟨384 + d.val, by omega⟩ k) = w (ix2 k ⟨768 + d.val, by omega⟩) := by
  unfold weightT
  pointwise
  try (split_ifs <;> first | omega | exact congrArg (fun e => w (ix2 k e)) (Fin.ext (by simp only; omega)))

theorem weightT_768 (w : FVec Ideal S1024x3584 .f32) (d : Fin 384) (k : Fin 1024) :
    weightT w (ix2 ⟨768 + d.val, by omega⟩ k) = w (ix2 k ⟨1920 + d.val, by omega⟩) := by
  unfold weightT
  pointwise
  try (split_ifs <;> first | omega | exact congrArg (fun e => w (ix2 k e)) (Fin.ext (by simp only; omega)))

theorem weightT_1152 (w : FVec Ideal S1024x3584 .f32) (d : Fin 384) (k : Fin 1024) :
    weightT w (ix2 ⟨1152 + d.val, by omega⟩ k) = w (ix2 k ⟨2304 + d.val, by omega⟩) := by
  unfold weightT
  pointwise
  try (split_ifs <;> first | omega | exact congrArg (fun e => w (ix2 k e)) (Fin.ext (by simp only; omega)))

/-- The hidden state of a row of the point's tile. -/
theorem hidden_at (t : Fin cfg0.N) (r : Fin 128) (k : Fin 1024) :
    k0_pay2 (iblk m c 0 t) (iblk m c 1 t) (ix2 r k) = hid (m ((c : Thread nD τ).loc main_arg0)) (m ((c : Thread nD τ).loc main_arg1)) (128 * t.val + r.val) k := by
  have e := (blocks t).1
  have e1 := (blocks t).2.1
  have ht := pt_lt t
  have hx : ∀ j : Fin 1024, iblk m c 0 t (ix2 r j) = m ((c : Thread nD τ).loc main_arg0) (ix2 (Fin.ofNat 128 (128 * t.val + r.val)) j) := by
    intro j
    unfold iblk
    show V m c main_arg0 ((cfg0.win 0).blk t |>.view.emb (ix2 r j)) = _
    rw [show ((cfg0.win 0).blk t |>.view.emb (ix2 r j)) = ix2 ⟨128 * t.val + r.val, by omega⟩ j by blk_ext [e]]
    rw [show (⟨128 * t.val + r.val, by omega⟩ : Fin 128) = Fin.ofNat 128 (128 * t.val + r.val) from Fin.ext (Nat.mod_eq_of_lt (by omega)).symm]
    entry_read
    rfl
  have hg : iblk m c 1 t (ix2 0 k) = m ((c : Thread nD τ).loc main_arg1) (ix1 k) := by
    unfold iblk
    show V m c main_v9 ((cfg0.win 1).blk t |>.view.emb (ix2 0 k)) = _
    rw [show ((cfg0.win 1).blk t |>.view.emb (ix2 0 k)) = ix2 0 k by blk_ext [e1]]
    exact entry_v9 m c k
  rw [hidden_apply, hg]
  simp only [hx]
  rfl

theorem weights_at (t : Fin cfg0.N) (k : Fin 1024) (e : Fin 3584) :
    iblk m c 2 t (ix2 k e) = m ((c : Thread nD τ).loc main_arg2) (ix2 k e) := by
  have h := (blocks t).2.2.1
  unfold iblk
  show V m c main_v0 ((cfg0.win 2).blk t |>.view.emb (ix2 k e)) = _
  rw [show ((cfg0.win 2).blk t |>.view.emb (ix2 k e)) = ix2 k e by blk_ext [h]]
  exact entry_v0 m c k e

theorem weightsT_at (t : Fin cfg0.N) (k : Fin 1024) (e : Fin 1920) :
    iblk m c 3 t (ix2 e k) = weightT (m ((c : Thread nD τ).loc main_arg2)) (ix2 e k) := by
  have h := (blocks t).2.2.2.1
  unfold iblk
  show V m c main_v8 ((cfg0.win 3).blk t |>.view.emb (ix2 e k)) = _
  rw [show ((cfg0.win 3).blk t |>.view.emb (ix2 e k)) = ix2 e k by blk_ext [h]]
  rw [entry_v8]

/-- The projection of the call's own arguments. -/
abbrev prj (t e : ℕ) : EReal :=
  proj (m ((c : Thread nD τ).loc main_arg0)) (m ((c : Thread nD τ).loc main_arg1)) (m ((c : Thread nD τ).loc main_arg2)) t e

abbrev part_0 (t : Fin cfg0.N) : Vec Ideal S384x1024 .bf16 :=
  View.ld (iblk m c 3 t) (Rect.unit (s := S1920x1024) ![0, 0] S384x1024.size inb_S1920x1024_S384x1024_0_0)

theorem cols_0 (t : Fin cfg0.N) (d : Fin 384) (r : Fin 128) :
    ∑ k : Fin 1024, part_0 m c t (ix2 d k) * k0_pay2 (iblk m c 0 t) (iblk m c 1 t) (ix2 r k) = prj m c (128 * t.val + r.val) (384 + d.val) := by
  unfold prj proj
  refine Finset.sum_congr rfl fun k _ => ?_
  rw [hidden_at, mul_comm]
  congr 1
  have h : part_0 m c t (ix2 d k) = iblk m c 3 t (ix2 ⟨0 + d.val, by omega⟩ k) := by
    unfold part_0
    generalize iblk m c 3 t = y
    revert y
    intro (y : S1920x1024.Idx → EReal)
    pointwise
  rw [h, weightsT_at, weightT_0]
  congr 2
  exact Fin.ext (Nat.mod_eq_of_lt (by omega)).symm

abbrev part_384 (t : Fin cfg0.N) : Vec Ideal S384x1024 .bf16 :=
  View.ld (iblk m c 3 t) (Rect.unit (s := S1920x1024) ![384, 0] S384x1024.size inb_S1920x1024_S384x1024_384_0)

theorem cols_384 (t : Fin cfg0.N) (d : Fin 384) (r : Fin 128) :
    ∑ k : Fin 1024, part_384 m c t (ix2 d k) * k0_pay2 (iblk m c 0 t) (iblk m c 1 t) (ix2 r k) = prj m c (128 * t.val + r.val) (768 + d.val) := by
  unfold prj proj
  refine Finset.sum_congr rfl fun k _ => ?_
  rw [hidden_at, mul_comm]
  congr 1
  have h : part_384 m c t (ix2 d k) = iblk m c 3 t (ix2 ⟨384 + d.val, by omega⟩ k) := by
    unfold part_384
    generalize iblk m c 3 t = y
    revert y
    intro (y : S1920x1024.Idx → EReal)
    pointwise
  rw [h, weightsT_at, weightT_384]
  congr 2
  exact Fin.ext (Nat.mod_eq_of_lt (by omega)).symm

abbrev part_768 (t : Fin cfg0.N) : Vec Ideal S384x1024 .bf16 :=
  View.ld (iblk m c 3 t) (Rect.unit (s := S1920x1024) ![768, 0] S384x1024.size inb_S1920x1024_S384x1024_768_0)

theorem cols_768 (t : Fin cfg0.N) (d : Fin 384) (r : Fin 128) :
    ∑ k : Fin 1024, part_768 m c t (ix2 d k) * k0_pay2 (iblk m c 0 t) (iblk m c 1 t) (ix2 r k) = prj m c (128 * t.val + r.val) (1920 + d.val) := by
  unfold prj proj
  refine Finset.sum_congr rfl fun k _ => ?_
  rw [hidden_at, mul_comm]
  congr 1
  have h : part_768 m c t (ix2 d k) = iblk m c 3 t (ix2 ⟨768 + d.val, by omega⟩ k) := by
    unfold part_768
    generalize iblk m c 3 t = y
    revert y
    intro (y : S1920x1024.Idx → EReal)
    pointwise
  rw [h, weightsT_at, weightT_768]
  congr 2
  exact Fin.ext (Nat.mod_eq_of_lt (by omega)).symm

abbrev part_1152 (t : Fin cfg0.N) : Vec Ideal S384x1024 .bf16 :=
  View.ld (iblk m c 3 t) (Rect.unit (s := S1920x1024) ![1152, 0] S384x1024.size inb_S1920x1024_S384x1024_1152_0)

theorem cols_1152 (t : Fin cfg0.N) (d : Fin 384) (r : Fin 128) :
    ∑ k : Fin 1024, part_1152 m c t (ix2 d k) * k0_pay2 (iblk m c 0 t) (iblk m c 1 t) (ix2 r k) = prj m c (128 * t.val + r.val) (2304 + d.val) := by
  unfold prj proj
  refine Finset.sum_congr rfl fun k _ => ?_
  rw [hidden_at, mul_comm]
  congr 1
  have h : part_1152 m c t (ix2 d k) = iblk m c 3 t (ix2 ⟨1152 + d.val, by omega⟩ k) := by
    unfold part_1152
    generalize iblk m c 3 t = y
    revert y
    intro (y : S1920x1024.Idx → EReal)
    pointwise
  rw [h, weightsT_at, weightT_1152]
  congr 2
  exact Fin.ext (Nat.mod_eq_of_lt (by omega)).symm

theorem rows_0 (t : Fin cfg0.N) (d : Fin 384) (r : Fin 128) :
    ∑ k : Fin 1024, k0_pay2 (iblk m c 0 t) (iblk m c 1 t) (ix2 r k)
      * View.ld (iblk m c 2 t) (Rect.unit (s := S1024x3584) ![0, 0] S1024x384.size inb_S1024x3584_S1024x384_0_0) (ix2 k d)
      = prj m c (128 * t.val + r.val) (0 + d.val) := by
  unfold prj proj
  refine Finset.sum_congr rfl fun k _ => ?_
  rw [hidden_at]
  congr 1
  have h : View.ld (iblk m c 2 t) (Rect.unit (s := S1024x3584) ![0, 0] S1024x384.size inb_S1024x3584_S1024x384_0_0) (ix2 k d)
      = iblk m c 2 t (ix2 k ⟨0 + d.val, by omega⟩) := by
    generalize iblk m c 2 t = y
    revert y
    intro (y : S1024x3584.Idx → EReal)
    pointwise
  rw [h, weights_at]
  congr 2
  exact Fin.ext (Nat.mod_eq_of_lt (by omega)).symm

theorem rows_1152 (t : Fin cfg0.N) (d : Fin 384) (r : Fin 128) :
    ∑ k : Fin 1024, k0_pay2 (iblk m c 0 t) (iblk m c 1 t) (ix2 r k)
      * View.ld (iblk m c 2 t) (Rect.unit (s := S1024x3584) ![0, 1152] S1024x384.size inb_S1024x3584_S1024x384_0_1152) (ix2 k d)
      = prj m c (128 * t.val + r.val) (1152 + d.val) := by
  unfold prj proj
  refine Finset.sum_congr rfl fun k _ => ?_
  rw [hidden_at]
  congr 1
  have h : View.ld (iblk m c 2 t) (Rect.unit (s := S1024x3584) ![0, 1152] S1024x384.size inb_S1024x3584_S1024x384_0_1152) (ix2 k d)
      = iblk m c 2 t (ix2 k ⟨1152 + d.val, by omega⟩) := by
    generalize iblk m c 2 t = y
    revert y
    intro (y : S1024x3584.Idx → EReal)
    pointwise
  rw [h, weights_at]
  congr 2
  exact Fin.ext (Nat.mod_eq_of_lt (by omega)).symm

theorem rows_1536 (t : Fin cfg0.N) (d : Fin 384) (r : Fin 128) :
    ∑ k : Fin 1024, k0_pay2 (iblk m c 0 t) (iblk m c 1 t) (ix2 r k)
      * View.ld (iblk m c 2 t) (Rect.unit (s := S1024x3584) ![0, 1536] S1024x384.size inb_S1024x3584_S1024x384_0_1536) (ix2 k d)
      = prj m c (128 * t.val + r.val) (1536 + d.val) := by
  unfold prj proj
  refine Finset.sum_congr rfl fun k _ => ?_
  rw [hidden_at]
  congr 1
  have h : View.ld (iblk m c 2 t) (Rect.unit (s := S1024x3584) ![0, 1536] S1024x384.size inb_S1024x3584_S1024x384_0_1536) (ix2 k d)
      = iblk m c 2 t (ix2 k ⟨1536 + d.val, by omega⟩) := by
    generalize iblk m c 2 t = y
    revert y
    intro (y : S1024x3584.Idx → EReal)
    pointwise
  rw [h, weights_at]
  congr 2
  exact Fin.ext (Nat.mod_eq_of_lt (by omega)).symm

theorem rows_1920 (t : Fin cfg0.N) (d : Fin 384) (r : Fin 128) :
    ∑ k : Fin 1024, k0_pay2 (iblk m c 0 t) (iblk m c 1 t) (ix2 r k)
      * View.ld (iblk m c 2 t) (Rect.unit (s := S1024x3584) ![0, 1920] S1024x384.size inb_S1024x3584_S1024x384_0_1920) (ix2 k d)
      = prj m c (128 * t.val + r.val) (1920 + d.val) := by
  unfold prj proj
  refine Finset.sum_congr rfl fun k _ => ?_
  rw [hidden_at]
  congr 1
  have h : View.ld (iblk m c 2 t) (Rect.unit (s := S1024x3584) ![0, 1920] S1024x384.size inb_S1024x3584_S1024x384_0_1920) (ix2 k d)
      = iblk m c 2 t (ix2 k ⟨1920 + d.val, by omega⟩) := by
    generalize iblk m c 2 t = y
    revert y
    intro (y : S1024x3584.Idx → EReal)
    pointwise
  rw [h, weights_at]
  congr 2
  exact Fin.ext (Nat.mod_eq_of_lt (by omega)).symm

theorem rows_2304 (t : Fin cfg0.N) (d : Fin 384) (r : Fin 128) :
    ∑ k : Fin 1024, k0_pay2 (iblk m c 0 t) (iblk m c 1 t) (ix2 r k)
      * View.ld (iblk m c 2 t) (Rect.unit (s := S1024x3584) ![0, 2304] S1024x384.size inb_S1024x3584_S1024x384_0_2304) (ix2 k d)
      = prj m c (128 * t.val + r.val) (2304 + d.val) := by
  unfold prj proj
  refine Finset.sum_congr rfl fun k _ => ?_
  rw [hidden_at]
  congr 1
  have h : View.ld (iblk m c 2 t) (Rect.unit (s := S1024x3584) ![0, 2304] S1024x384.size inb_S1024x3584_S1024x384_0_2304) (ix2 k d)
      = iblk m c 2 t (ix2 k ⟨2304 + d.val, by omega⟩) := by
    generalize iblk m c 2 t = y
    revert y
    intro (y : S1024x3584.Idx → EReal)
    pointwise
  rw [h, weights_at]
  congr 2
  exact Fin.ext (Nat.mod_eq_of_lt (by omega)).symm

theorem rows_2688 (t : Fin cfg0.N) (d : Fin 384) (r : Fin 128) :
    ∑ k : Fin 1024, k0_pay2 (iblk m c 0 t) (iblk m c 1 t) (ix2 r k)
      * View.ld (iblk m c 2 t) (Rect.unit (s := S1024x3584) ![0, 2688] S1024x384.size inb_S1024x3584_S1024x384_0_2688) (ix2 k d)
      = prj m c (128 * t.val + r.val) (2688 + d.val) := by
  unfold prj proj
  refine Finset.sum_congr rfl fun k _ => ?_
  rw [hidden_at]
  congr 1
  have h : View.ld (iblk m c 2 t) (Rect.unit (s := S1024x3584) ![0, 2688] S1024x384.size inb_S1024x3584_S1024x384_0_2688) (ix2 k d)
      = iblk m c 2 t (ix2 k ⟨2688 + d.val, by omega⟩) := by
    generalize iblk m c 2 t = y
    revert y
    intro (y : S1024x3584.Idx → EReal)
    pointwise
  rw [h, weights_at]
  congr 2
  exact Fin.ext (Nat.mod_eq_of_lt (by omega)).symm

theorem rows_3072 (t : Fin cfg0.N) (d : Fin 256) (r : Fin 128) :
    ∑ k : Fin 1024, k0_pay2 (iblk m c 0 t) (iblk m c 1 t) (ix2 r k)
      * View.ld (iblk m c 2 t) (Rect.unit (s := S1024x3584) ![0, 3072] S1024x256.size inb_S1024x3584_S1024x256_0_3072) (ix2 k d)
      = prj m c (128 * t.val + r.val) (3072 + d.val) := by
  unfold prj proj
  refine Finset.sum_congr rfl fun k _ => ?_
  rw [hidden_at]
  congr 1
  have h : View.ld (iblk m c 2 t) (Rect.unit (s := S1024x3584) ![0, 3072] S1024x256.size inb_S1024x3584_S1024x256_0_3072) (ix2 k d)
      = iblk m c 2 t (ix2 k ⟨3072 + d.val, by omega⟩) := by
    generalize iblk m c 2 t = y
    revert y
    intro (y : S1024x3584.Idx → EReal)
    pointwise
  rw [h, weights_at]
  congr 2
  exact Fin.ext (Nat.mod_eq_of_lt (by omega)).symm

theorem rows_3328 (t : Fin cfg0.N) (d : Fin 256) (r : Fin 128) :
    ∑ k : Fin 1024, k0_pay2 (iblk m c 0 t) (iblk m c 1 t) (ix2 r k)
      * View.ld (iblk m c 2 t) (Rect.unit (s := S1024x3584) ![0, 3328] S1024x256.size inb_S1024x3584_S1024x256_0_3328) (ix2 k d)
      = prj m c (128 * t.val + r.val) (3328 + d.val) := by
  unfold prj proj
  refine Finset.sum_congr rfl fun k _ => ?_
  rw [hidden_at]
  congr 1
  have h : View.ld (iblk m c 2 t) (Rect.unit (s := S1024x3584) ![0, 3328] S1024x256.size inb_S1024x3584_S1024x256_0_3328) (ix2 k d)
      = iblk m c 2 t (ix2 k ⟨3328 + d.val, by omega⟩) := by
    generalize iblk m c 2 t = y
    revert y
    intro (y : S1024x3584.Idx → EReal)
    pointwise
  rw [h, weights_at]
  congr 2
  exact Fin.ext (Nat.mod_eq_of_lt (by omega)).symm

end Cert.Proof.SP
-- ==== Proof.SP.Out.lean ====
/- The results of the projection of the sampled tokens, in closed form. -/
module

public import proofs.«01_k».proof.Proof.SP.Blocks
public import proofs.«01_k».proof.Proof.Gen.Kernel6Ideal.Value
public import Idealize.ShloMosaic.Lib.Claim

@[expose] public section

set_option maxRecDepth 16384

noncomputable section

namespace Cert.Proof.SP

open Cert.Kernel6Ideal Cert.Kernel6Ideal.Gen
open Idealize.ShloMosaic Idealize.ShloMosaic.TcCoe Idealize.SL.Sem
open PJ (scale gate eighth)

variable (m : (ℓ : Loc nD τ sig) → Buf (Elt Ideal) ℓ) (c : Dev nD)

/-- Result 0: the keys of the stick-breaking attention, features first. -/
def res_4 (c : Dev nD) : Buf (Elt Ideal) ((c.tc : Thread nD τ).loc main_v10_0) := fun (i : S1x384x128.Idx) =>
  prj m c (i 2).val (384 + (i 1).val)

theorem array_4 : (dats m 0 c).arrAt 4 cfg0.N = res_4 m c := by
  refine (dats m 0 c).arrAt_eq_of_covers 4 _ (by decide +kernel) fun t hf y => ?_
  have e : win0_4.index t = ![t.val, 0, 0] := (blocks t).2.2.2.2.1
  have ht := pt_lt t
  blk_simp [e]
  rw [left_4]
  revert y
  intro (y : S1x384x128.Idx)
  have hy : y = ix3 (y 0) (y 1) (y 2) := by
    funext a
    fin_cases a <;> rfl
  refine (congrArg _ hy).trans ((cols3_apply _ _ _ _ _ _).trans ((cols_0 m c t (y 1) (y 2)).trans ?_))
  have e1 : ((win0_4.blk t).view.emb y 1).val = (y 1).val := by blk_simp [e]
  have e2 : ((win0_4.blk t).view.emb y 2).val = (y 2).val := by blk_simp [e]
  unfold res_4
  rw [e1, e2]
  congr 1
  omega

/-- Result 1: its values, features first. -/
def res_5 (c : Dev nD) : Buf (Elt Ideal) ((c.tc : Thread nD τ).loc main_v10_1) := fun (i : S1x384x128.Idx) =>
  prj m c (i 2).val (768 + (i 1).val)

theorem array_5 : (dats m 0 c).arrAt 5 cfg0.N = res_5 m c := by
  refine (dats m 0 c).arrAt_eq_of_covers 5 _ (by decide +kernel) fun t hf y => ?_
  have e : win0_5.index t = ![t.val, 0, 0] := (blocks t).2.2.2.2.2.1
  have ht := pt_lt t
  blk_simp [e]
  rw [left_5]
  revert y
  intro (y : S1x384x128.Idx)
  have hy : y = ix3 (y 0) (y 1) (y 2) := by
    funext a
    fin_cases a <;> rfl
  refine (congrArg _ hy).trans ((cols4_apply _ _ _ _ _ _).trans ((cols_384 m c t (y 1) (y 2)).trans ?_))
  have e1 : ((win0_5.blk t).view.emb y 1).val = (y 1).val := by blk_simp [e]
  have e2 : ((win0_5.blk t).view.emb y 2).val = (y 2).val := by blk_simp [e]
  unfold res_5
  rw [e1, e2]
  congr 1
  omega

/-- Result 2: the keys of the block attention, features first. -/
def res_6 (c : Dev nD) : Buf (Elt Ideal) ((c.tc : Thread nD τ).loc main_v10_2) := fun (i : S1x384x128.Idx) =>
  prj m c (i 2).val (1920 + (i 1).val)

theorem array_6 : (dats m 0 c).arrAt 6 cfg0.N = res_6 m c := by
  refine (dats m 0 c).arrAt_eq_of_covers 6 _ (by decide +kernel) fun t hf y => ?_
  have e : win0_6.index t = ![t.val, 0, 0] := (blocks t).2.2.2.2.2.2.1
  have ht := pt_lt t
  blk_simp [e]
  rw [left_6]
  revert y
  intro (y : S1x384x128.Idx)
  have hy : y = ix3 (y 0) (y 1) (y 2) := by
    funext a
    fin_cases a <;> rfl
  refine (congrArg _ hy).trans ((cols5_apply _ _ _ _ _ _).trans ((cols_768 m c t (y 1) (y 2)).trans ?_))
  have e1 : ((win0_6.blk t).view.emb y 1).val = (y 1).val := by blk_simp [e]
  have e2 : ((win0_6.blk t).view.emb y 2).val = (y 2).val := by blk_simp [e]
  unfold res_6
  rw [e1, e2]
  congr 1
  omega

/-- Result 3: its values, features first. -/
def res_7 (c : Dev nD) : Buf (Elt Ideal) ((c.tc : Thread nD τ).loc main_v10_3) := fun (i : S1x384x128.Idx) =>
  prj m c (i 2).val (2304 + (i 1).val)

theorem array_7 : (dats m 0 c).arrAt 7 cfg0.N = res_7 m c := by
  refine (dats m 0 c).arrAt_eq_of_covers 7 _ (by decide +kernel) fun t hf y => ?_
  have e : win0_7.index t = ![t.val, 0, 0] := (blocks t).2.2.2.2.2.2.2.1
  have ht := pt_lt t
  blk_simp [e]
  rw [left_7]
  revert y
  intro (y : S1x384x128.Idx)
  have hy : y = ix3 (y 0) (y 1) (y 2) := by
    funext a
    fin_cases a <;> rfl
  refine (congrArg _ hy).trans ((cols7_apply _ _ _ _ _).trans ((cols_1152 m c t (y 1) (y 2)).trans ?_))
  have e1 : ((win0_7.blk t).view.emb y 1).val = (y 1).val := by blk_simp [e]
  have e2 : ((win0_7.blk t).view.emb y 2).val = (y 2).val := by blk_simp [e]
  unfold res_7
  rw [e1, e2]
  congr 1
  omega

/-- Result 4: those keys again, tokens first. -/
def res_8 (c : Dev nD) : Buf (Elt Ideal) ((c.tc : Thread nD τ).loc main_v10_4) := fun i =>
  prj m c (i 0).val (1920 + (i 1).val)

theorem array_8 : (dats m 0 c).arrAt 8 cfg0.N = res_8 m c := by
  refine (dats m 0 c).arrAt_eq_of_covers 8 _ (by decide +kernel) fun t hf y => ?_
  have e : win0_8.index t = ![t.val, 0] := (blocks t).2.2.2.2.2.2.2.2.1
  blk_simp [e]
  rw [left_8]
  revert y
  intro (y : S128x384.Idx)
  have hy : y = ix2 (y 0) (y 1) := by
    funext a
    fin_cases a <;> rfl
  refine (congrArg _ hy).trans ((rows8_apply _ _ _ _).trans ((rows_1920 m c t (y 1) (y 0)).trans ?_))
  have e0 : ((win0_8.blk t).view.emb y 0).val = 128 * t.val + (y 0).val := by blk_simp [e]; ring
  have e1 : ((win0_8.blk t).view.emb y 1).val = (y 1).val := by blk_simp [e]
  unfold res_8
  rw [e0, e1]

/-- Result 5: those values again, tokens first. -/
def res_9 (c : Dev nD) : Buf (Elt Ideal) ((c.tc : Thread nD τ).loc main_v10_5) := fun i =>
  prj m c (i 0).val (2304 + (i 1).val)

theorem array_9 : (dats m 0 c).arrAt 9 cfg0.N = res_9 m c := by
  refine (dats m 0 c).arrAt_eq_of_covers 9 _ (by decide +kernel) fun t hf y => ?_
  have e : win0_9.index t = ![t.val, 0] := (blocks t).2.2.2.2.2.2.2.2.2.1
  blk_simp [e]
  rw [left_9]
  revert y
  intro (y : S128x384.Idx)
  have hy : y = ix2 (y 0) (y 1) := by
    funext a
    fin_cases a <;> rfl
  refine (congrArg _ hy).trans ((rows9_apply _ _ _ _).trans ((rows_2304 m c t (y 1) (y 0)).trans ?_))
  have e0 : ((win0_9.blk t).view.emb y 0).val = 128 * t.val + (y 0).val := by blk_simp [e]; ring
  have e1 : ((win0_9.blk t).view.emb y 1).val = (y 1).val := by blk_simp [e]
  unfold res_9
  rw [e0, e1]

/-- Result 6: the scaled queries of the stick-breaking attention. -/
def res_10 (c : Dev nD) : Buf (Elt Ideal) ((c.tc : Thread nD τ).loc main_v10_6) := fun i =>
  prj m c (i 0).val (0 + (i 1).val) * eighth

theorem array_10 : (dats m 0 c).arrAt 10 cfg0.N = res_10 m c := by
  refine (dats m 0 c).arrAt_eq_of_covers 10 _ (by decide +kernel) fun t hf y => ?_
  have e : win0_10.index t = ![t.val, 0] := (blocks t).2.2.2.2.2.2.2.2.2.2.1
  blk_simp [e]
  rw [left_10]
  revert y
  intro (y : S128x384.Idx)
  have hy : y = ix2 (y 0) (y 1) := by
    funext a
    fin_cases a <;> rfl
  refine (congrArg _ hy).trans ((rows10_apply _ _ _ _).trans ((congrArg (· * eighth) (rows_0 m c t (y 1) (y 0))).trans ?_))
  have e0 : ((win0_10.blk t).view.emb y 0).val = 128 * t.val + (y 0).val := by blk_simp [e]; ring
  have e1 : ((win0_10.blk t).view.emb y 1).val = (y 1).val := by blk_simp [e]
  unfold res_10
  rw [e0, e1]

/-- Result 7: the queries of the block attention. -/
def res_11 (c : Dev nD) : Buf (Elt Ideal) ((c.tc : Thread nD τ).loc main_v10_7) := fun i =>
  prj m c (i 0).val (1536 + (i 1).val)

theorem array_11 : (dats m 0 c).arrAt 11 cfg0.N = res_11 m c := by
  refine (dats m 0 c).arrAt_eq_of_covers 11 _ (by decide +kernel) fun t hf y => ?_
  have e : win0_11.index t = ![t.val, 0] := (blocks t).2.2.2.2.2.2.2.2.2.2.2.1
  blk_simp [e]
  rw [left_11]
  revert y
  intro (y : S128x384.Idx)
  have hy : y = ix2 (y 0) (y 1) := by
    funext a
    fin_cases a <;> rfl
  refine (congrArg _ hy).trans ((rows11_apply _ _ _ _).trans ((rows_1536 m c t (y 1) (y 0)).trans ?_))
  have e0 : ((win0_11.blk t).view.emb y 0).val = 128 * t.val + (y 0).val := by blk_simp [e]; ring
  have e1 : ((win0_11.blk t).view.emb y 1).val = (y 1).val := by blk_simp [e]
  unfold res_11
  rw [e0, e1]

/-- Result 8: the scaled queries of the attention to the memory. -/
def res_12 (c : Dev nD) : Buf (Elt Ideal) ((c.tc : Thread nD τ).loc main_v10_8) := fun i =>
  prj m c (i 0).val (3072 + (i 1).val) * eighth

theorem array_12 : (dats m 0 c).arrAt 12 cfg0.N = res_12 m c := by
  refine (dats m 0 c).arrAt_eq_of_covers 12 _ (by decide +kernel) fun t hf y => ?_
  have e : win0_12.index t = ![t.val, 0] := (blocks t).2.2.2.2.2.2.2.2.2.2.2.2.1
  blk_simp [e]
  rw [left_12]
  revert y
  intro (y : S128x256.Idx)
  have hy : y = ix2 (y 0) (y 1) := by
    funext a
    fin_cases a <;> rfl
  refine (congrArg _ hy).trans ((rows12_apply _ _ _ _).trans ((congrArg (· * eighth) (rows_3072 m c t (y 1) (y 0))).trans ?_))
  have e0 : ((win0_12.blk t).view.emb y 0).val = 128 * t.val + (y 0).val := by blk_simp [e]; ring
  have e1 : ((win0_12.blk t).view.emb y 1).val = (y 1).val := by blk_simp [e]
  unfold res_12
  rw [e0, e1]

/-- The column a gate comes from. -/
def gateCol (e : ℕ) : ℕ := if e < 384 then 1152 + e else if e < 768 then 2688 + (e - 384) else 3328 + (e - 768)

/-- Result 9: the gates. -/
def res_13 (c : Dev nD) : Buf (Elt Ideal) ((c.tc : Thread nD τ).loc main_v10_9) := fun i =>
  gate (prj m c (i 0).val (gateCol (i 1).val))

theorem gates_at (t : Fin cfg0.N) (r : Fin 128) (d : Fin 1024) :
    (dats m 0 c).after 13 t (ix2 r d) = gate (prj m c (128 * t.val + r.val) (gateCol d.val)) := by
  rw [left_13]
  refine View.canon_apply_of_pieces (Val := Elt Ideal) (S := S128x1024) (e := .f32) (fun y : S128x1024.Idx => gate (prj m c (128 * t.val + (y 0).val) (gateCol (y 1).val))) _ ?_ (ix2 r d) ?_
  · intro p hp x
    simp only [List.mem_cons, List.not_mem_nil, or_false] at hp
    rcases hp with rfl | rfl | rfl
    · revert x
      intro (x : S128x256.Idx)
      have hx : x = ix2 (x 0) (x 1) := by
        funext a
        fin_cases a <;> rfl
      have h1 : (x 1).val < 256 := (x 1).isLt
      refine (congrArg _ hx).trans ((rows1_apply _ _ _ _).trans ((congrArg gate (rows_3328 m c t (x 1) (x 0))).trans ?_))
      show _ = gate (prj m c (128 * t.val + (0 + 1 * (x 0).val)) (gateCol (768 + 1 * (x 1).val)))
      unfold gateCol
      rw [if_neg (by omega), if_neg (by omega)]
      congr 2 <;> omega
    · revert x
      intro (x : S128x384.Idx)
      have hx : x = ix2 (x 0) (x 1) := by
        funext a
        fin_cases a <;> rfl
      have h1 : (x 1).val < 384 := (x 1).isLt
      refine (congrArg _ hx).trans ((rows14_apply _ _ _ _).trans ((congrArg gate (rows_2688 m c t (x 1) (x 0))).trans ?_))
      show _ = gate (prj m c (128 * t.val + (0 + 1 * (x 0).val)) (gateCol (384 + 1 * (x 1).val)))
      unfold gateCol
      rw [if_neg (by omega), if_pos (by omega)]
      congr 2 <;> omega
    · revert x
      intro (x : S128x384.Idx)
      have hx : x = ix2 (x 0) (x 1) := by
        funext a
        fin_cases a <;> rfl
      have h1 : (x 1).val < 384 := (x 1).isLt
      refine (congrArg _ hx).trans ((rows13_apply _ _ _ _).trans ((congrArg gate (rows_1152 m c t (x 1) (x 0))).trans ?_))
      show _ = gate (prj m c (128 * t.val + (0 + 1 * (x 0).val)) (gateCol (0 + 1 * (x 1).val)))
      unfold gateCol
      rw [if_pos (by omega)]
      congr 2 <;> omega
  · by_cases h : d.val < 384
    · refine ⟨_, List.mem_cons_of_mem _ (List.mem_cons_of_mem _ (List.mem_cons_self ..)), ?_⟩
      rw [Rect.mem_set_unit]
      intro a
      fin_cases a
      · exact ⟨Nat.zero_le _, by show r.val < 0 + 128; omega⟩
      · exact ⟨Nat.zero_le _, by show d.val < 0 + 384; omega⟩
    · by_cases h' : d.val < 768
      · refine ⟨_, List.mem_cons_of_mem _ (List.mem_cons_self ..), ?_⟩
        rw [Rect.mem_set_unit]
        intro a
        fin_cases a
        · exact ⟨Nat.zero_le _, by show r.val < 0 + 128; omega⟩
        · exact ⟨by show 384 ≤ d.val; omega, by show d.val < 384 + 384; omega⟩
      · refine ⟨_, List.mem_cons_self .., ?_⟩
        rw [Rect.mem_set_unit]
        intro a
        fin_cases a
        · exact ⟨Nat.zero_le _, by show r.val < 0 + 128; omega⟩
        · exact ⟨by show 768 ≤ d.val; omega, by show d.val < 768 + 256; omega⟩

theorem array_13 : (dats m 0 c).arrAt 13 cfg0.N = res_13 m c := by
  refine (dats m 0 c).arrAt_eq_of_covers 13 _ (by decide +kernel) fun t hf y => ?_
  have e : win0_13.index t = ![t.val, 0] := (blocks t).2.2.2.2.2.2.2.2.2.2.2.2.2
  blk_simp [e]
  revert y
  intro (y : S128x1024.Idx)
  have hy : y = ix2 (y 0) (y 1) := by
    funext a
    fin_cases a <;> rfl
  refine (congrArg _ hy).trans ((gates_at m c t (y 0) (y 1)).trans ?_)
  have e0 : ((win0_13.blk t).view.emb y 0).val = 128 * t.val + (y 0).val := by blk_simp [e]; ring
  have e1 : ((win0_13.blk t).view.emb y 1).val = (y 1).val := by blk_simp [e]
  unfold res_13
  rw [e0, e1]

end Cert.Proof.SP
-- ==== Proof.SP.Ref.lean ====
/- The plain projection of the sampled tokens, read at an index. -/
module

public import proofs.«01_k».proof.Proof.SP.Blocks
public import proofs.«01_k».proof.Proof.PJ.Ref
public import proofs.«01_k».proof.Proof.Gen.Reference6Ideal.Read
public import Idealize.ShloMosaic.Lib.Pointwise

@[expose] public section

set_option maxRecDepth 16384

noncomputable section

namespace Cert.Proof.SP.Ref

open Cert.Reference6Ideal Cert.Reference6Ideal.Read
open Idealize.ShloMosaic
open PJ (scale gate eighth)
open PJ.Ref (div_eight)

variable (x : FVec Ideal S128x1024 .f32) (g : FVec Ideal S1024 .f32) (w : FVec Ideal S1024x3584 .f32)

/-- A token's hidden state. -/
theorem hid_at (t : Fin 128) (k : Fin 1024) : val_main_v12 (F := Ideal) x g (ix2 t k) = hid x g t.val k := by
  have ht : Fin.ofNat 128 t.val = t := Fin.ext (Nat.mod_eq_of_lt t.isLt)
  unfold hid scale
  rw [ht]
  unfold val_main_v12 val_main_v11 val_main_v10 val_main_v9 val_main_v8 val_main_v7 val_main_v6 val_main_v5 val_main_v4 val_main_v3 val_main_v2 val_main_v1 val_main_v0 val_main_cst val_main_cst_0 val_main_cst_1
  pointwise

/-- A token's projection. -/
theorem proj_at (t : Fin 128) (e : Fin 3584) : val_main_v13 (F := Ideal) x g w (ix2 t e) = proj x g w t.val e.val := by
  have he : Fin.ofNat 3584 e.val = e := Fin.ext (Nat.mod_eq_of_lt e.isLt)
  unfold proj val_main_v13
  simp only [← hid_at, he]
  generalize val_main_v12 (F := Ideal) x g = h
  pointwise

theorem at_27 (u : Fin 1) (d : Fin 384) (s : Fin 128) : val_main_v27 (F := Ideal) x g w (ix3 u d s) = proj x g w s.val (384 + d.val) := by
  refine Eq.trans ?_ (proj_at x g w s ⟨384 + d.val, by omega⟩)
  unfold val_main_v27 val_main_v26 val_main_v15
  generalize val_main_v13 (F := Ideal) x g w = y
  pointwise

theorem at_29 (u : Fin 1) (d : Fin 384) (s : Fin 128) : val_main_v29 (F := Ideal) x g w (ix3 u d s) = proj x g w s.val (768 + d.val) := by
  refine Eq.trans ?_ (proj_at x g w s ⟨768 + d.val, by omega⟩)
  unfold val_main_v29 val_main_v28 val_main_v16
  generalize val_main_v13 (F := Ideal) x g w = y
  pointwise

theorem at_31 (u : Fin 1) (d : Fin 384) (s : Fin 128) : val_main_v31 (F := Ideal) x g w (ix3 u d s) = proj x g w s.val (1920 + d.val) := by
  refine Eq.trans ?_ (proj_at x g w s ⟨1920 + d.val, by omega⟩)
  unfold val_main_v31 val_main_v30 val_main_v19
  generalize val_main_v13 (F := Ideal) x g w = y
  pointwise

theorem at_33 (u : Fin 1) (d : Fin 384) (s : Fin 128) : val_main_v33 (F := Ideal) x g w (ix3 u d s) = proj x g w s.val (2304 + d.val) := by
  refine Eq.trans ?_ (proj_at x g w s ⟨2304 + d.val, by omega⟩)
  unfold val_main_v33 val_main_v32 val_main_v20
  generalize val_main_v13 (F := Ideal) x g w = y
  pointwise

theorem at_19 (t : Fin 128) (d : Fin 384) : val_main_v19 (F := Ideal) x g w (ix2 t d) = proj x g w t.val (1920 + d.val) := by
  refine Eq.trans ?_ (proj_at x g w t ⟨1920 + d.val, by omega⟩)
  unfold val_main_v19
  generalize val_main_v13 (F := Ideal) x g w = y
  pointwise

theorem at_20 (t : Fin 128) (d : Fin 384) : val_main_v20 (F := Ideal) x g w (ix2 t d) = proj x g w t.val (2304 + d.val) := by
  refine Eq.trans ?_ (proj_at x g w t ⟨2304 + d.val, by omega⟩)
  unfold val_main_v20
  generalize val_main_v13 (F := Ideal) x g w = y
  pointwise

theorem at_18 (t : Fin 128) (d : Fin 384) : val_main_v18 (F := Ideal) x g w (ix2 t d) = proj x g w t.val (1536 + d.val) := by
  refine Eq.trans ?_ (proj_at x g w t ⟨1536 + d.val, by omega⟩)
  unfold val_main_v18
  generalize val_main_v13 (F := Ideal) x g w = y
  pointwise

theorem at_36 (t : Fin 128) (d : Fin 384) : val_main_v36 (F := Ideal) x g w (ix2 t d) = proj x g w t.val (0 + d.val) * eighth := by
  have h := proj_at x g w t ⟨0 + d.val, by omega⟩
  rw [← div_eight]
  refine Eq.trans ?_ (congrArg (fun p => Ideal.div p (Ideal.ofBits .f32 0x41000000#32)) h)
  unfold val_main_v36 val_main_v35 val_main_v34 val_main_v14 val_main_cst_2
  generalize val_main_v13 (F := Ideal) x g w = y
  pointwise

theorem at_39 (t : Fin 128) (d : Fin 256) : val_main_v39 (F := Ideal) x g w (ix2 t d) = proj x g w t.val (3072 + d.val) * eighth := by
  have h := proj_at x g w t ⟨3072 + d.val, by omega⟩
  rw [← div_eight]
  refine Eq.trans ?_ (congrArg (fun p => Ideal.div p (Ideal.ofBits .f32 0x41000000#32)) h)
  unfold val_main_v39 val_main_v38 val_main_v37 val_main_v22 val_main_cst_3
  generalize val_main_v13 (F := Ideal) x g w = y
  pointwise

theorem at_24 (t : Fin 128) (e : Fin 1024) : val_main_v24 (F := Ideal) x g w (ix2 t e)
    = if e.val < 384 then proj x g w t.val (1152 + e.val) else if e.val < 768 then proj x g w t.val (2688 + (e.val - 384)) else proj x g w t.val (3328 + (e.val - 768)) := by
  have h := proj_at x g w
  unfold val_main_v24 val_main_v17 val_main_v21 val_main_v23
  revert h
  generalize val_main_v13 (F := Ideal) x g w = y
  intro h
  pointwise
  by_cases a : e.val < 384
  · rw [dif_pos a, if_pos a, h]
  · rw [dif_neg a, if_neg a]
    by_cases b : e.val < 768
    · rw [dif_pos (by omega), if_pos b, h]
    · rw [dif_neg (by omega), if_neg b, h, show e.val - 768 = e.val - 384 - 384 by omega]

theorem at_25 (t : Fin 128) (e : Fin 1024) : val_main_v25 (F := Ideal) x g w (ix2 t e) = gate (val_main_v24 (F := Ideal) x g w (ix2 t e)) := by
  unfold val_main_v25 val_main_call0_v5 val_main_call0_v4 val_main_call0_v3 val_main_call0_v2 val_main_call0_v1 val_main_call0_v0 val_main_call0_cst val_main_call0_cst_0 gate
  generalize val_main_v24 (F := Ideal) x g w = y
  pointwise
  rw [zero_sub]

end Cert.Proof.SP.Ref
-- ==== Proof.SP.Same.lean ====
/- The kernel's projection of the sampled tokens computes what the plain projection does. -/
module

public import proofs.«01_k».proof.Defs
public import proofs.«01_k».proof.Proof.SP.Out
public import proofs.«01_k».proof.Proof.SP.Ref
public import proofs.«01_k».proof.Proof.Gen.Reference6Ideal.Run

@[expose] public section

set_option maxRecDepth 16384

noncomputable section

namespace Cert.Proof.SP

open Cert.Kernel6Ideal Cert.Kernel6Ideal.Gen
open Idealize.ShloMosaic Idealize.ShloMosaic.TcCoe Idealize.SL.Sem
open Cert.Reference6Ideal.Read
open PJ (scale gate eighth)

variable (m : (ℓ : Loc nD τ sig) → Buf (Elt Ideal) ℓ) (c : Dev nD)

theorem eq_4 : val_main_v27 (F := Ideal) (m ((c : Thread nD τ).loc main_arg0)) (m ((c : Thread nD τ).loc main_arg1)) (m ((c : Thread nD τ).loc main_arg2)) = res_4 m c := by
  funext i
  revert i
  intro (i : S1x384x128.Idx)
  have hi : i = ix3 (i 0) (i 1) (i 2) := by
    funext a
    fin_cases a <;> rfl
  exact (congrArg _ hi).trans (Ref.at_27 _ _ _ (i 0) (i 1) (i 2))

theorem eq_5 : val_main_v29 (F := Ideal) (m ((c : Thread nD τ).loc main_arg0)) (m ((c : Thread nD τ).loc main_arg1)) (m ((c : Thread nD τ).loc main_arg2)) = res_5 m c := by
  funext i
  revert i
  intro (i : S1x384x128.Idx)
  have hi : i = ix3 (i 0) (i 1) (i 2) := by
    funext a
    fin_cases a <;> rfl
  exact (congrArg _ hi).trans (Ref.at_29 _ _ _ (i 0) (i 1) (i 2))

theorem eq_6 : val_main_v31 (F := Ideal) (m ((c : Thread nD τ).loc main_arg0)) (m ((c : Thread nD τ).loc main_arg1)) (m ((c : Thread nD τ).loc main_arg2)) = res_6 m c := by
  funext i
  revert i
  intro (i : S1x384x128.Idx)
  have hi : i = ix3 (i 0) (i 1) (i 2) := by
    funext a
    fin_cases a <;> rfl
  exact (congrArg _ hi).trans (Ref.at_31 _ _ _ (i 0) (i 1) (i 2))

theorem eq_7 : val_main_v33 (F := Ideal) (m ((c : Thread nD τ).loc main_arg0)) (m ((c : Thread nD τ).loc main_arg1)) (m ((c : Thread nD τ).loc main_arg2)) = res_7 m c := by
  funext i
  revert i
  intro (i : S1x384x128.Idx)
  have hi : i = ix3 (i 0) (i 1) (i 2) := by
    funext a
    fin_cases a <;> rfl
  exact (congrArg _ hi).trans (Ref.at_33 _ _ _ (i 0) (i 1) (i 2))

theorem eq_8 : val_main_v19 (F := Ideal) (m ((c : Thread nD τ).loc main_arg0)) (m ((c : Thread nD τ).loc main_arg1)) (m ((c : Thread nD τ).loc main_arg2)) = res_8 m c := by
  funext i
  revert i
  intro (i : S128x384.Idx)
  have hi : i = ix2 (i 0) (i 1) := by
    funext a
    fin_cases a <;> rfl
  exact (congrArg _ hi).trans (Ref.at_19 _ _ _ (i 0) (i 1))

theorem eq_9 : val_main_v20 (F := Ideal) (m ((c : Thread nD τ).loc main_arg0)) (m ((c : Thread nD τ).loc main_arg1)) (m ((c : Thread nD τ).loc main_arg2)) = res_9 m c := by
  funext i
  revert i
  intro (i : S128x384.Idx)
  have hi : i = ix2 (i 0) (i 1) := by
    funext a
    fin_cases a <;> rfl
  exact (congrArg _ hi).trans (Ref.at_20 _ _ _ (i 0) (i 1))

theorem eq_10 : val_main_v36 (F := Ideal) (m ((c : Thread nD τ).loc main_arg0)) (m ((c : Thread nD τ).loc main_arg1)) (m ((c : Thread nD τ).loc main_arg2)) = res_10 m c := by
  funext i
  revert i
  intro (i : S128x384.Idx)
  have hi : i = ix2 (i 0) (i 1) := by
    funext a
    fin_cases a <;> rfl
  exact (congrArg _ hi).trans (Ref.at_36 _ _ _ (i 0) (i 1))

theorem eq_11 : val_main_v18 (F := Ideal) (m ((c : Thread nD τ).loc main_arg0)) (m ((c : Thread nD τ).loc main_arg1)) (m ((c : Thread nD τ).loc main_arg2)) = res_11 m c := by
  funext i
  revert i
  intro (i : S128x384.Idx)
  have hi : i = ix2 (i 0) (i 1) := by
    funext a
    fin_cases a <;> rfl
  exact (congrArg _ hi).trans (Ref.at_18 _ _ _ (i 0) (i 1))

theorem eq_12 : val_main_v39 (F := Ideal) (m ((c : Thread nD τ).loc main_arg0)) (m ((c : Thread nD τ).loc main_arg1)) (m ((c : Thread nD τ).loc main_arg2)) = res_12 m c := by
  funext i
  revert i
  intro (i : S128x256.Idx)
  have hi : i = ix2 (i 0) (i 1) := by
    funext a
    fin_cases a <;> rfl
  exact (congrArg _ hi).trans (Ref.at_39 _ _ _ (i 0) (i 1))

theorem eq_13 : val_main_v25 (F := Ideal) (m ((c : Thread nD τ).loc main_arg0)) (m ((c : Thread nD τ).loc main_arg1)) (m ((c : Thread nD τ).loc main_arg2)) = res_13 m c := by
  funext i
  revert i
  intro (i : S128x1024.Idx)
  have hi : i = ix2 (i 0) (i 1) := by
    funext a
    fin_cases a <;> rfl
  refine (congrArg _ hi).trans ((Ref.at_25 _ _ _ (i 0) (i 1)).trans ((congrArg gate (Ref.at_24 _ _ _ (i 0) (i 1))).trans ?_))
  unfold res_13 gateCol
  congr 1
  split_ifs <;> rfl

theorem link_4 (x : FVec Ideal S128x1024 .f32) (g : FVec Ideal S1024 .f32) (w : FVec Ideal S1024x3584 .f32)
    (a0 : x = m ((c : Thread nD τ).loc main_arg0)) (a1 : g = m ((c : Thread nD τ).loc main_arg1)) (a2 : w = m ((c : Thread nD τ).loc main_arg2)) :
    val_main_v27 (F := Ideal) x g w = res_4 m c := by
  rw [a0, a1, a2]
  exact eq_4 m c

theorem link_5 (x : FVec Ideal S128x1024 .f32) (g : FVec Ideal S1024 .f32) (w : FVec Ideal S1024x3584 .f32)
    (a0 : x = m ((c : Thread nD τ).loc main_arg0)) (a1 : g = m ((c : Thread nD τ).loc main_arg1)) (a2 : w = m ((c : Thread nD τ).loc main_arg2)) :
    val_main_v29 (F := Ideal) x g w = res_5 m c := by
  rw [a0, a1, a2]
  exact eq_5 m c

theorem link_6 (x : FVec Ideal S128x1024 .f32) (g : FVec Ideal S1024 .f32) (w : FVec Ideal S1024x3584 .f32)
    (a0 : x = m ((c : Thread nD τ).loc main_arg0)) (a1 : g = m ((c : Thread nD τ).loc main_arg1)) (a2 : w = m ((c : Thread nD τ).loc main_arg2)) :
    val_main_v31 (F := Ideal) x g w = res_6 m c := by
  rw [a0, a1, a2]
  exact eq_6 m c

theorem link_7 (x : FVec Ideal S128x1024 .f32) (g : FVec Ideal S1024 .f32) (w : FVec Ideal S1024x3584 .f32)
    (a0 : x = m ((c : Thread nD τ).loc main_arg0)) (a1 : g = m ((c : Thread nD τ).loc main_arg1)) (a2 : w = m ((c : Thread nD τ).loc main_arg2)) :
    val_main_v33 (F := Ideal) x g w = res_7 m c := by
  rw [a0, a1, a2]
  exact eq_7 m c

theorem link_8 (x : FVec Ideal S128x1024 .f32) (g : FVec Ideal S1024 .f32) (w : FVec Ideal S1024x3584 .f32)
    (a0 : x = m ((c : Thread nD τ).loc main_arg0)) (a1 : g = m ((c : Thread nD τ).loc main_arg1)) (a2 : w = m ((c : Thread nD τ).loc main_arg2)) :
    val_main_v19 (F := Ideal) x g w = res_8 m c := by
  rw [a0, a1, a2]
  exact eq_8 m c

theorem link_9 (x : FVec Ideal S128x1024 .f32) (g : FVec Ideal S1024 .f32) (w : FVec Ideal S1024x3584 .f32)
    (a0 : x = m ((c : Thread nD τ).loc main_arg0)) (a1 : g = m ((c : Thread nD τ).loc main_arg1)) (a2 : w = m ((c : Thread nD τ).loc main_arg2)) :
    val_main_v20 (F := Ideal) x g w = res_9 m c := by
  rw [a0, a1, a2]
  exact eq_9 m c

theorem link_10 (x : FVec Ideal S128x1024 .f32) (g : FVec Ideal S1024 .f32) (w : FVec Ideal S1024x3584 .f32)
    (a0 : x = m ((c : Thread nD τ).loc main_arg0)) (a1 : g = m ((c : Thread nD τ).loc main_arg1)) (a2 : w = m ((c : Thread nD τ).loc main_arg2)) :
    val_main_v36 (F := Ideal) x g w = res_10 m c := by
  rw [a0, a1, a2]
  exact eq_10 m c

theorem link_11 (x : FVec Ideal S128x1024 .f32) (g : FVec Ideal S1024 .f32) (w : FVec Ideal S1024x3584 .f32)
    (a0 : x = m ((c : Thread nD τ).loc main_arg0)) (a1 : g = m ((c : Thread nD τ).loc main_arg1)) (a2 : w = m ((c : Thread nD τ).loc main_arg2)) :
    val_main_v18 (F := Ideal) x g w = res_11 m c := by
  rw [a0, a1, a2]
  exact eq_11 m c

theorem link_12 (x : FVec Ideal S128x1024 .f32) (g : FVec Ideal S1024 .f32) (w : FVec Ideal S1024x3584 .f32)
    (a0 : x = m ((c : Thread nD τ).loc main_arg0)) (a1 : g = m ((c : Thread nD τ).loc main_arg1)) (a2 : w = m ((c : Thread nD τ).loc main_arg2)) :
    val_main_v39 (F := Ideal) x g w = res_12 m c := by
  rw [a0, a1, a2]
  exact eq_12 m c

theorem link_13 (x : FVec Ideal S128x1024 .f32) (g : FVec Ideal S1024 .f32) (w : FVec Ideal S1024x3584 .f32)
    (a0 : x = m ((c : Thread nD τ).loc main_arg0)) (a1 : g = m ((c : Thread nD τ).loc main_arg1)) (a2 : w = m ((c : Thread nD τ).loc main_arg2)) :
    val_main_v25 (F := Ideal) x g w = res_13 m c := by
  rw [a0, a1, a2]
  exact eq_13 m c

set_option maxHeartbeats 4000000 in
/-- Every result of the kernel is the plain projection's. -/
theorem same : algebraic_Kernel6Ideal_Reference6Ideal := fun m g m' g' _ hag =>
  ⟨res_4 m, res_5 m, res_6 m, res_7 m, res_8 m, res_9 m, res_10 m, res_11 m, res_12 m, res_13 m,
    (θ_run _ _ _).mono (fun r h c => by
      obtain ⟨h4, h5, h6, h7, h8, h9, h10, h11, h12, h13, hargs⟩ := h c
      exact ⟨h4.trans (array_4 m c), h5.trans (array_5 m c), h6.trans (array_6 m c), h7.trans (array_7 m c), h8.trans (array_8 m c), h9.trans (array_9 m c), h10.trans (array_10 m c), h11.trans (array_11 m c), h12.trans (array_12 m c), h13.trans (array_13 m c), hargs⟩) (Cert.Kernel6Ideal.Value.run_blocks m g),
    (θ_run _ _ _).mono (fun r h c => by
      obtain ⟨h4, h5, h6, h7, h8, h9, h10, h11, h12, h13, hargs⟩ := h c
      obtain ⟨a0, a1, a2⟩ := hag c
      exact ⟨(h4.trans (val_main_v27_eq _ _ _)).trans (link_4 m c _ _ _ a0 a1 a2), (h5.trans (val_main_v29_eq _ _ _)).trans (link_5 m c _ _ _ a0 a1 a2), (h6.trans (val_main_v31_eq _ _ _)).trans (link_6 m c _ _ _ a0 a1 a2), (h7.trans (val_main_v33_eq _ _ _)).trans (link_7 m c _ _ _ a0 a1 a2), (h8.trans (val_main_v19_eq _ _ _)).trans (link_8 m c _ _ _ a0 a1 a2), (h9.trans (val_main_v20_eq _ _ _)).trans (link_9 m c _ _ _ a0 a1 a2), (h10.trans (val_main_v36_eq _ _ _)).trans (link_10 m c _ _ _ a0 a1 a2), (h11.trans (val_main_v18_eq _ _ _)).trans (link_11 m c _ _ _ a0 a1 a2), (h12.trans (val_main_v39_eq _ _ _)).trans (link_12 m c _ _ _ a0 a1 a2), (h13.trans (val_main_v25_eq _ _)).trans (link_13 m c _ _ _ a0 a1 a2), hargs⟩) (Cert.Reference6Ideal.Value.run (F := Ideal) m' g')⟩

end Cert.Proof.SP
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.SB.Run
public import proofs.«01_k».proof.Proof.SBP.Run
public import proofs.«01_k».proof.Proof.SV.Out
public import proofs.«01_k».proof.Proof.SV.Ref
public import proofs.«01_k».proof.Proof.SV.Pre
public import proofs.«01_k».proof.Proof.PJ.Same
public import proofs.«01_k».proof.Proof.MG.Same
public import proofs.«01_k».proof.Proof.MG.SampleSame
public import proofs.«01_k».proof.Proof.MK.Same
public import proofs.«01_k».proof.Proof.SP.Same
public import Idealize.ShloMosaic.Adequacy
public import Idealize.ShloMosaic.Init

@[expose] public section

noncomputable section

namespace Cert.Proof

open Idealize.ShloMosaic Idealize.SL.Sem Cert.Kernel

/-- The kernel's result is the reference's. -/
theorem same : algebraic_KernelIdeal_ReferenceIdeal_pre_finite_scores := fun m g m' g' hpre hag =>
  have hfin := fun c => SV.finite_of_pre _ _ _ _ (hpre c)
  ⟨SV.result m, SV.run_result m g hfin,
    (θ_run _ _ _).mono (fun r h c => ⟨(h c).1.trans (((Cert.ReferenceIdeal.Read.val_main_v32_eq m' c).trans (by
      obtain ⟨a0, a1, a2, a3⟩ := hag c
      funext i
      rw [a0, a1, a2, a3]
      exact SV.reference_at _ _ (hfin c).1 (hfin c).2 i))), (h c).2⟩) (Cert.ReferenceIdeal.Value.run (F := Ideal) m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite_scores.Gen.facts,
  fun m g _ => SBP.frame (F := Bits) m g, fun m g _ => SB.frame (F := Ideal) m g, fun m g _ => SB.frame (F := Ideal) m g,
  fun m g _ => (θ_run _ _ _).mono (fun r h => ⟨fun c => (h c).2, sem_eq_zero_of_no_sems (by decide) r.2⟩) (Cert.ReferenceIdeal.Value.run (F := Ideal) m g),
  fun m g _ => (θ_run _ _ _).mono (fun r h => ⟨fun c => (h c).2, sem_eq_zero_of_no_sems (by decide) r.2⟩) (Cert.ReferenceIdeal.Value.run (F := Ideal) m g),
  fun m g _ => Cert.Kernel2.Gen.frame m g, fun m g _ => Cert.Kernel2Ideal.Gen.frame m g,
  fun m g _ => (θ_run _ _ _).mono (fun r h => ⟨fun c => (h c).2.2.2.2.2.2.2.2.2.2.2.2.2, sem_eq_zero_of_no_sems (by decide) r.2⟩)
    (Cert.Reference2Ideal.Value.run (F := Ideal) m g),
  fun m g _ => Cert.Kernel3.Gen.frame m g, fun m g _ => Cert.Kernel3Ideal.Gen.frame m g,
  fun m g _ => (θ_run _ _ _).mono (fun r h => ⟨fun c => (h c).2, sem_eq_zero_of_no_sems (by decide) r.2⟩) (Cert.Reference3Ideal.Value.run (F := Ideal) m g),
  fun m g _ => Cert.Kernel4.Gen.frame m g, fun m g _ => Cert.Kernel4Ideal.Gen.frame m g,
  fun m g _ => (θ_run _ _ _).mono (fun r h => ⟨fun c => (h c).2, sem_eq_zero_of_no_sems (by decide) r.2⟩) (Cert.Reference4Ideal.Value.run (F := Ideal) m g),
  fun m g _ => Cert.Kernel5.Gen.frame m g, fun m g _ => Cert.Kernel5Ideal.Gen.frame m g,
  fun m g _ => (θ_run _ _ _).mono (fun r h => ⟨fun c => (h c).2.2.2.2, sem_eq_zero_of_no_sems (by decide) r.2⟩) (Cert.Reference5Ideal.Value.run (F := Ideal) m g),
  fun m g _ => Cert.Kernel6.Gen.frame m g, fun m g _ => Cert.Kernel6Ideal.Gen.frame m g,
  fun m g _ => (θ_run _ _ _).mono (fun r h => ⟨fun c => (h c).2.2.2.2.2.2.2.2.2.2, sem_eq_zero_of_no_sems (by decide) r.2⟩)
    (Cert.Reference6Ideal.Value.run (F := Ideal) m g),
  IdealRules.named_const.statement Cert.KernelIdeal.κ "exit" .f32 0xC2DC0000#32 ⊥ rfl,
  same, trivial, PJ.same, trivial, MG.same, trivial, MG.Sample.same, trivial, MK.same, trivial, SP.same⟩

end Cert.Proof

end
